-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_padded [hPre_finite_padded : Cert.Pre_finite_padded.Facts] (m : (ℓ : Loc Cert.KernelIdeal.nD Cert.KernelIdeal.τ Cert.KernelIdeal.sig) → Buf (Elt Ideal) ℓ) : Prop :=
  ∀ c : Dev Cert.KernelIdeal.nD,
    (Cert.Pre_finite_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_padded [hPre_finite_padded : Cert.Pre_finite_padded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_padded [hKernelIdeal : Cert.KernelIdeal.Facts] [hPre_finite_padded : Cert.Pre_finite_padded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_padded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_padded [hReferenceIdeal : Cert.ReferenceIdeal.Facts] [hPre_finite_padded : Cert.Pre_finite_padded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_padded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def preserves_Kernel_KernelIdeal : Prop :=
  IdealRules.named_const.Statement Cert.KernelIdeal.κ "qk_scale" .f32 0x3DD53B95#32 (((Real.log 2)⁻¹ * (Real.sqrt 192)⁻¹ : ℝ) : EReal)
  ∧ IdealRules.named_const.Statement Cert.KernelIdeal.κ "mask" .f32 0xF149F2CA#32 ⊥

def algebraic_KernelIdeal_ReferenceIdeal_pre_finite_padded [hKernelIdeal : Cert.KernelIdeal.Facts] [hReferenceIdeal : Cert.ReferenceIdeal.Facts] [hPre_finite_padded : Cert.Pre_finite_padded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_padded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v27) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v55) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v38) = v0 c
          ∧ r.2.mem ((c.tc : Thread Cert.UpRefIdeal.nD Cert.UpRefIdeal.τ).loc Cert.UpRefIdeal.main_v39) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v1_0)) (v1 : (c : Dev Cert.InIdeal.nD) → Buf (Elt Ideal) ((c.tc : Thread Cert.InIdeal.nD Cert.InIdeal.τ).loc Cert.InIdeal.main_v1_1)) (v2 : (c : Dev Cert.InIdeal.nD) → Buf (Elt Ideal) ((c.tc : Thread Cert.InIdeal.nD Cert.InIdeal.τ).loc Cert.InIdeal.main_v1_2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1_0) = v0 c
          ∧ r.2.mem ((c.tc : Thread Cert.InIdeal.nD Cert.InIdeal.τ).loc Cert.InIdeal.main_v1_1) = v1 c
          ∧ r.2.mem ((c.tc : Thread Cert.InIdeal.nD Cert.InIdeal.τ).loc Cert.InIdeal.main_v1_2) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v35) = v0 c
          ∧ r.2.mem ((c.tc : Thread Cert.InRefIdeal.nD Cert.InRefIdeal.τ).loc Cert.InRefIdeal.main_v45) = v1 c
          ∧ r.2.mem ((c.tc : Thread Cert.InRefIdeal.nD Cert.InRefIdeal.τ).loc Cert.InRefIdeal.main_v46) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hUp : Cert.Up.Facts) (hUpIdeal : Cert.UpIdeal.Facts) (hUpRefIdeal : Cert.UpRefIdeal.Facts) (hNorm : Cert.Norm.Facts) (hNormIdeal : Cert.NormIdeal.Facts) (hNormRefIdeal : Cert.NormRefIdeal.Facts) (hIn : Cert.In.Facts) (hInIdeal : Cert.InIdeal.Facts) (hInRefIdeal : Cert.InRefIdeal.Facts) (hPre_finite_padded : Cert.Pre_finite_padded.Facts),
    quiescent_Kernel (hKernel := hKernel)
    ∧ quiescent_KernelIdeal (hKernelIdeal := hKernelIdeal)
    ∧ quiescent_KernelIdeal_pre_finite_padded (hKernelIdeal := hKernelIdeal) (hPre_finite_padded := hPre_finite_padded)
    ∧ quiescent_ReferenceIdeal (hReferenceIdeal := hReferenceIdeal)
    ∧ quiescent_ReferenceIdeal_pre_finite_padded (hReferenceIdeal := hReferenceIdeal) (hPre_finite_padded := hPre_finite_padded)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Up (hUp := hUp)
    ∧ quiescent_UpIdeal (hUpIdeal := hUpIdeal)
    ∧ quiescent_UpRefIdeal (hUpRefIdeal := hUpRefIdeal)
    ∧ quiescent_Norm (hNorm := hNorm)
    ∧ quiescent_NormIdeal (hNormIdeal := hNormIdeal)
    ∧ quiescent_NormRefIdeal (hNormRefIdeal := hNormRefIdeal)
    ∧ quiescent_In (hIn := hIn)
    ∧ quiescent_InIdeal (hInIdeal := hInIdeal)
    ∧ quiescent_InRefIdeal (hInRefIdeal := hInRefIdeal)
    ∧ preserves_Kernel_KernelIdeal
    ∧ algebraic_KernelIdeal_ReferenceIdeal_pre_finite_padded (hKernelIdeal := hKernelIdeal) (hReferenceIdeal := hReferenceIdeal) (hPre_finite_padded := hPre_finite_padded)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Up_UpIdeal
    ∧ algebraic_UpIdeal_UpRefIdeal (hUpIdeal := hUpIdeal) (hUpRefIdeal := hUpRefIdeal)
    ∧ preserves_Norm_NormIdeal
    ∧ algebraic_NormIdeal_NormRefIdeal (hNormIdeal := hNormIdeal) (hNormRefIdeal := hNormRefIdeal)
    ∧ preserves_In_InIdeal
    ∧ algebraic_InIdeal_InRefIdeal (hInIdeal := hInIdeal) (hInRefIdeal := hInRefIdeal)
-- ==== Pre_finite_padded.lean ====
abbrev S33024x2048 : Shape := ⟨2, ![33024, 2048]⟩
abbrev S33024x3072 : Shape := ⟨2, ![33024, 3072]⟩
abbrev S_ : Shape := ⟨0, ![]⟩
abbrev S33024x7168 : Shape := ⟨2, ![33024, 7168]⟩

class Facts : Prop where
  bitsLt_bf16_f32 : FTy.bits .bf16 < FTy.bits .f32
  bcast_S_S33024x2048 : S_.BroadcastsInDim S33024x2048 (![] : Fin 0 → Fin S33024x2048.rank)
  bcast_S_S33024x3072 : S_.BroadcastsInDim S33024x3072 (![] : Fin 0 → Fin S33024x3072.rank)
  concatenates_S33024x2048_S33024x2048_S33024x3072_S33024x7168_d1 : Shape.Concatenates [S33024x2048, S33024x2048, S33024x3072] S33024x7168 1

variable [Facts]

def fn_where {F : FTy → Type} [FloatOps F] (arg0 : IVec S33024x2048 1) (arg1 : IVec S33024x2048 1) (arg2 : IVec S33024x2048 1) : IVec S33024x2048 1 :=
  let v0 : IVec S33024x2048 1 := select arg0 arg1 arg2
  v0

def fn_part1 {F : FTy → Type} [FloatOps F] (main_v13 : IVec S33024x2048 1) (main_v16 : IVec S33024x2048 1) (main_v17 : FVec F S33024x3072 .f32) (main_cst_3 : FVec F S_ .f32) : IVec S33024x7168 1 :=
  let main_v18 : FVec F S33024x3072 .f32 := broadcastInDim S33024x3072 ![] bcast_S_S33024x3072 main_cst_3
  let main_v19 : IVec S33024x3072 1 := cmpf .olt main_v17 main_v18
  let main_v20 : IVec S33024x7168 1 := concatenate S33024x7168 1 [⟨S33024x2048, main_v13⟩, ⟨S33024x2048, main_v16⟩, ⟨S33024x3072, main_v19⟩] concatenates_S33024x2048_S33024x2048_S33024x3072_S33024x7168_d1
  main_v20

def fn {F : FTy → Type} [FloatOps F] (main_arg0 : FVec F S33024x2048 .bf16) (main_arg1 : FVec F S33024x2048 .bf16) (main_arg2 : FVec F S33024x3072 .bf16) : IVec S33024x7168 1 :=
  let main_v0 : FVec F S33024x2048 .f32 := (extf .f32 · bitsLt_bf16_f32) main_arg0
  let main_v1 : FVec F S33024x2048 .f32 := (extf .f32 · bitsLt_bf16_f32) main_arg1
  let main_v2 : FVec F S33024x3072 .f32 := (extf .f32 · bitsLt_bf16_f32) main_arg2
  let main_v3 : IVec S33024x2048 32 := iotaInDim S33024x2048 32 1
  let main_c : IVec S_ 32 := constantI S_ 32 255#32
  let main_v4 : IVec S33024x2048 32 := broadcastInDim S33024x2048 ![] bcast_S_S33024x2048 main_c
  let main_v5 : IVec S33024x2048 32 := andi main_v3 main_v4
  let main_c_0 : IVec S_ 32 := constantI S_ 32 192#32
  let main_v6 : IVec S33024x2048 32 := broadcastInDim S33024x2048 ![] bcast_S_S33024x2048 main_c_0
  let main_v7 : IVec S33024x2048 1 := cmpi .slt main_v5 main_v6
  let main_v8 : FVec F S33024x2048 .f32 := Host.absf main_v0
  let main_cst : FVec F S_ .f32 := constant S_ .f32 0x7F800000#32
  let main_v9 : FVec F S33024x2048 .f32 := broadcastInDim S33024x2048 ![] bcast_S_S33024x2048 main_cst
  let main_v10 : IVec S33024x2048 1 := cmpf .olt main_v8 main_v9
  let main_cst_1 : FVec F S_ .f32 := constant S_ .f32 0x00000000#32
  let main_v11 : FVec F S33024x2048 .f32 := broadcastInDim S33024x2048 ![] bcast_S_S33024x2048 main_cst_1
  let main_v12 : IVec S33024x2048 1 := cmpf .oeq main_v0 main_v11
  let main_v13 : IVec S33024x2048 1 := fn_where (F := F) main_v7 main_v10 main_v12
  let main_v14 : FVec F S33024x2048 .f32 := Host.absf main_v1
  let main_cst_2 : FVec F S_ .f32 := constant S_ .f32 0x7F800000#32
  let main_v15 : FVec F S33024x2048 .f32 := broadcastInDim S33024x2048 ![] bcast_S_S33024x2048 main_cst_2
  let main_v16 : IVec S33024x2048 1 := cmpf .olt main_v14 main_v15
  let main_v17 : FVec F S33024x3072 .f32 := Host.absf main_v2
  let main_cst_3 : FVec F S_ .f32 := constant S_ .f32 0x7F800000#32
  fn_part1 (F := F) main_v13 main_v16 main_v17 main_cst_3
-- ==== Kernel.lean ====
abbrev S33024x2048 : Shape := ⟨2, ![33024, 2048]⟩
abbrev S33024x3072 : Shape := ⟨2, ![33024, 3072]⟩
abbrev S_ : Shape := ⟨0, ![]⟩
abbrev S16 : Shape := ⟨1, ![16]⟩
abbrev S32 : Shape := ⟨1, ![32]⟩
abbrev S32x64 : Shape := ⟨2, ![32, 64]⟩
abbrev S2048 : Shape := ⟨1, ![2048]⟩
abbrev S2064 : Shape := ⟨1, ![2064]⟩
abbrev S64 : Shape := ⟨1, ![64]⟩
abbrev S1x64 : Shape := ⟨2, ![1, 64]⟩
abbrev S2064x1 : Shape := ⟨2, ![2064, 1]⟩
abbrev S1x16 : Shape := ⟨2, ![1, 16]⟩
abbrev S2064x16 : Shape := ⟨2, ![2064, 16]⟩
abbrev S2064x64 : Shape := ⟨2, ![2064, 64]⟩
abbrev S2064x128 : Shape := ⟨2, ![2064, 128]⟩
abbrev S16x2064x2048 : Shape := ⟨3, ![16, 2064, 2048]⟩
abbrev S16x2064x3072 : Shape := ⟨3, ![16, 2064, 3072]⟩
abbrev S16x2064x1024 : Shape := ⟨3, ![16, 2064, 1024]⟩
abbrev S1x2064x256 : Shape := ⟨3, ![1, 2064, 256]⟩
abbrev S1x2064x128 : Shape := ⟨3, ![1, 2064, 128]⟩
abbrev S2176x256 : Shape := ⟨2, ![2176, 256]⟩
abbrev S1664x2176 : Shape := ⟨2, ![1664, 2176]⟩
abbrev S1x2048x128 : Shape := ⟨3, ![1, 2048, 128]⟩
abbrev S2048x128 : Shape := ⟨2, ![2048, 128]⟩
abbrev S1x16x128 : Shape := ⟨3, ![1, 16, 128]⟩
abbrev S16x128 : Shape := ⟨2, ![16, 128]⟩
abbrev S112x128 : Shape := ⟨2, ![112, 128]⟩
abbrev S2176x128 : Shape := ⟨2, ![2176, 128]⟩
abbrev S2064x256 : Shape := ⟨2, ![2064, 256]⟩
abbrev S1x128 : Shape := ⟨2, ![1, 128]⟩
abbrev S416x256 : Shape := ⟨2, ![416, 256]⟩
abbrev S2048x256 : Shape := ⟨2, ![2048, 256]⟩
abbrev S416x2048 : Shape := ⟨2, ![416, 2048]⟩
abbrev S128x256 : Shape := ⟨2, ![128, 256]⟩
abbrev S416x128 : Shape := ⟨2, ![416, 128]⟩
abbrev S416x2176 : Shape := ⟨2, ![416, 2176]⟩
abbrev S416 : Shape := ⟨1, ![416]⟩
abbrev S416x1 : Shape := ⟨2, ![416, 1]⟩
abbrev S1x416x128 : Shape := ⟨3, ![1, 416, 128]⟩
abbrev S400x256 : Shape := ⟨2, ![400, 256]⟩
abbrev S400x2048 : Shape := ⟨2, ![400, 2048]⟩
abbrev S400x128 : Shape := ⟨2, ![400, 128]⟩
abbrev S400x2176 : Shape := ⟨2, ![400, 2176]⟩
abbrev S400 : Shape := ⟨1, ![400]⟩
abbrev S400x1 : Shape := ⟨2, ![400, 1]⟩
abbrev S1x400x128 : Shape := ⟨3, ![1, 400, 128]⟩

abbrev nBuf : Space → Nat
  | .hbm => 53
  | .vmem => 15
  | .smem => 0
  | _ => 0

abbrev bufTy : (tb : Table) → Fin (tcTables nBuf tb) → BufTy
  | .hbm, ⟨0, _⟩ => ⟨S33024x2048, .bf16⟩
  | .hbm, ⟨1, _⟩ => ⟨S33024x2048, .bf16⟩
  | .hbm, ⟨2, _⟩ => ⟨S33024x3072, .bf16⟩
  | .hbm, ⟨3, _⟩ => ⟨S_, .f32⟩
  | .hbm, ⟨4, _⟩ => ⟨S16, .f32⟩
  | .hbm, ⟨5, _⟩ => ⟨S32, .f32⟩
  | .hbm, ⟨6, _⟩ => ⟨S32x64, .f32⟩
  | .hbm, ⟨7, _⟩ => ⟨S2048, .f32⟩
  | .hbm, ⟨8, _⟩ => ⟨S2064, .f32⟩
  | .hbm, ⟨9, _⟩ => ⟨S_, .f32⟩
  | .hbm, ⟨10, _⟩ => ⟨S16, .f32⟩
  | .hbm, ⟨11, _⟩ => ⟨S64, .f32⟩
  | .hbm, ⟨12, _⟩ => ⟨S1x64, .f32⟩
  | .hbm, ⟨13, _⟩ => ⟨S32x64, .f32⟩
  | .hbm, ⟨14, _⟩ => ⟨S2048, .f32⟩
  | .hbm, ⟨15, _⟩ => ⟨S2064, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S2064x1, .f32⟩
  | .hbm, ⟨25, _⟩ => ⟨S1x16, .f32⟩
  | .hbm, ⟨26, _⟩ => ⟨S2064x16, .f32⟩
  | .hbm, ⟨27, _⟩ => ⟨S2064x16, .f32⟩
  | .hbm, ⟨28, _⟩ => ⟨S2064x16, .f32⟩
  | .hbm, ⟨29, _⟩ => ⟨S2064x1, .f32⟩
  | .hbm, ⟨30, _⟩ => ⟨S1x16, .f32⟩
  | .hbm, ⟨31, _⟩ => ⟨S2064x16, .f32⟩
  | .hbm, ⟨32, _⟩ => ⟨S2064x16, .f32⟩
  | .hbm, ⟨33, _⟩ => ⟨S2064x16, .f32⟩
  | .hbm, ⟨34, _⟩ => ⟨S2064x16, .f32⟩
  | .hbm, ⟨35, _⟩ => ⟨S2064x16, .f32⟩
  | .hbm, ⟨36, _⟩ => ⟨S2064x16, .f32⟩
  | .hbm, ⟨37, _⟩ => ⟨S2064x16, .f32⟩
  | .hbm, ⟨38, _⟩ => ⟨S_, .f32⟩
  | .hbm, ⟨39, _⟩ => ⟨S2064x16, .f32⟩
  | .hbm, ⟨40, _⟩ => ⟨S_, .f32⟩
  | .hbm, ⟨41, _⟩ => ⟨S2064x64, .f32⟩
  | .hbm, ⟨42, _⟩ => ⟨S_, .f32⟩
  | .hbm, ⟨43, _⟩ => ⟨S2064x64, .f32⟩
  | .hbm, ⟨44, _⟩ => ⟨S2064x128, .f32⟩
  | .hbm, ⟨45, _⟩ => ⟨S2064x16, .f32⟩
  | .hbm, ⟨46, _⟩ => ⟨S2064x16, .f32⟩
  | .hbm, ⟨47, _⟩ => ⟨S2064x128, .f32⟩
  | .hbm, ⟨48, _⟩ => ⟨S2064x128, .f32⟩
  | .hbm, ⟨49, _⟩ => ⟨S16x2064x2048, .bf16⟩
  | .hbm, ⟨50, _⟩ => ⟨S16x2064x2048, .bf16⟩
  | .hbm, ⟨51, _⟩ => ⟨S16x2064x3072, .bf16⟩
  | .hbm, ⟨52, _⟩ => ⟨S16x2064x1024, .bf16⟩
  | .local _ .vmem, ⟨0, _⟩ => ⟨S1x2064x256, .bf16⟩
  | .local _ .vmem, ⟨1, _⟩ => ⟨S1x2064x256, .bf16⟩
  | .local _ .vmem, ⟨2, _⟩ => ⟨S1x2064x256, .bf16⟩
  | .local _ .vmem, ⟨3, _⟩ => ⟨S1x2064x256, .bf16⟩
  | .local _ .vmem, ⟨4, _⟩ => ⟨S1x2064x128, .bf16⟩
  | .local _ .vmem, ⟨5, _⟩ => ⟨S1x2064x128, .bf16⟩
  | .local _ .vmem, ⟨6, _⟩ => ⟨S2064x128, .f32⟩
  | .local _ .vmem, ⟨7, _⟩ => ⟨S2064x128, .f32⟩
  | .local _ .vmem, ⟨8, _⟩ => ⟨S2064x128, .f32⟩
  | .local _ .vmem, ⟨9, _⟩ => ⟨S1x2064x128, .bf16⟩
  | .local _ .vmem, ⟨10, _⟩ => ⟨S1x2064x128, .bf16⟩
  | .local _ .vmem, ⟨11, _⟩ => ⟨S2176x256, .bf16⟩
  | .local _ .vmem, ⟨12, _⟩ => ⟨S2176x256, .bf16⟩
  | .local _ .vmem, ⟨13, _⟩ => ⟨S1664x2176, .f32⟩
  | .local _ .vmem, ⟨14, _⟩ => ⟨S1664x2176, .bf16⟩
  | _, _ => ⟨S33024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c20_i32 : BitVec 32 := 20#32
  let c0_i32_0 : BitVec 32 := 0#32
  ![arg0.toNat, c0_i32.toNat, c20_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2064x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2064x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2064x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2064x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2064x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2064x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2064x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | "qk_scale" => some (((Real.log 2)⁻¹ * (Real.sqrt 192)⁻¹ : ℝ) : EReal)
  | _ => none
-- ==== ReferenceIdeal.lean ====
abbrev S33024x2048 : Shape := ⟨2, ![33024, 2048]⟩
abbrev S33024x3072 : Shape := ⟨2, ![33024, 3072]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S16 : Shape := ⟨1, ![16]⟩
abbrev S2064 : Shape := ⟨1, ![2064]⟩
abbrev S16x2064x8x256 : Shape := ⟨4, ![16, 2064, 8, 256]⟩
abbrev S16x2064x8x192 : Shape := ⟨4, ![16, 2064, 8, 192]⟩
abbrev S16x2064x1x3072 : Shape := ⟨4, ![16, 2064, 1, 3072]⟩
abbrev S16x2064x1x64 : Shape := ⟨4, ![16, 2064, 1, 64]⟩
abbrev S16x2064x8x128 : Shape := ⟨4, ![16, 2064, 8, 128]⟩
abbrev S16x2064x8x64 : Shape := ⟨4, ![16, 2064, 8, 64]⟩
abbrev S16x2064x8x32 : Shape := ⟨4, ![16, 2064, 8, 32]⟩
abbrev S2064x1 : Shape := ⟨2, ![2064, 1]⟩
abbrev S1x16 : Shape := ⟨2, ![1, 16]⟩
abbrev S2064x16 : Shape := ⟨2, ![2064, 16]⟩
abbrev S1x2064x1x16 : Shape := ⟨4, ![1, 2064, 1, 16]⟩
abbrev S16x2064x8x16 : Shape := ⟨4, ![16, 2064, 8, 16]⟩
abbrev S16x2064x1x32 : Shape := ⟨4, ![16, 2064, 1, 32]⟩
abbrev S16x2064x1x16 : Shape := ⟨4, ![16, 2064, 1, 16]⟩
abbrev S16x8x2064x2064 : Shape := ⟨4, ![16, 8, 2064, 2064]⟩
abbrev S16x8x2064 : Shape := ⟨3, ![16, 8, 2064]⟩
abbrev S16x8x2064x1 : Shape := ⟨4, ![16, 8, 2064, 1]⟩
abbrev S16x8x128x2064 : Shape := ⟨4, ![16, 8, 128, 2064]⟩
abbrev S16x2064x1024 : Shape := ⟨3, ![16, 2064, 1024]⟩

abbrev nBuf : Space → Nat
  | .hbm => 178
  | .vmem => 0
  | .smem => 0
  | _ => 0

abbrev hbmTy0_0 (i : Nat) : BufTy := match i % 128 with
  | 0 => ⟨S33024x2048, .bf16⟩
  | 1 => ⟨S33024x2048, .bf16⟩
  | 2 => ⟨S33024x3072, .bf16⟩
  | 3 => ⟨S32, .f32⟩
  | 4 => ⟨S32x64, .f32⟩
  | 5 => ⟨S2048, .f32⟩
  | 6 => ⟨S64, .f32⟩
  | 7 => ⟨S1x64, .f32⟩
  | 8 => ⟨S32x64, .f32⟩
  | 9 => ⟨S2048, .f32⟩
  | 10 => ⟨S_, .f32⟩
  | 11 => ⟨S16, .f32⟩
  | 12 => ⟨S2064, .f32⟩
  | 13 => ⟨S2064, .f32⟩
  | 14 => ⟨S33024x2048, .f32⟩
  | 15 => ⟨S16x2064x8x256, .f32⟩
  | 16 => ⟨S16x2064x8x192, .f32⟩
  | 17 => ⟨S33024x2048, .f32⟩
  | 18 => ⟨S16x2064x8x256, .f32⟩
  | 19 => ⟨S33024x3072, .f32⟩
  | 20 => ⟨S16x2064x1x3072, .f32⟩
  | 21 => ⟨S16x2064x1x64, .f32⟩
  | 22 => ⟨S16x2064x8x128, .f32⟩
  | 23 => ⟨S16x2064x8x64, .f32⟩
  | 24 => ⟨S16x2064x8x32, .f32⟩
  | 25 => ⟨S16, .f32⟩
  | 26 => ⟨S16, .f32⟩
  | 27 => ⟨S_, .f32⟩
  | 28 => ⟨S16, .f32⟩
  | 29 => ⟨S16, .f32⟩
  | 30 => ⟨S_, .f32⟩
  | 31 => ⟨S16, .f32⟩
  | 32 => ⟨S16, .f32⟩
  | 33 => ⟨S2064x1, .f32⟩
  | 34 => ⟨S1x16, .f32⟩
  | 35 => ⟨S2064x16, .f32⟩
  | 36 => ⟨S2064x16, .f32⟩
  | 37 => ⟨S2064x16, .f32⟩
  | 38 => ⟨S2064x16, .f32⟩
  | 39 => ⟨S1x2064x1x16, .f32⟩
  | 40 => ⟨S2064x16, .f32⟩
  | 41 => ⟨S1x2064x1x16, .f32⟩
  | 42 => ⟨S16x2064x8x16, .f32⟩
  | 43 => ⟨S16x2064x8x16, .f32⟩
  | 44 => ⟨S16x2064x8x16, .f32⟩
  | 45 => ⟨S16x2064x8x16, .f32⟩
  | 46 => ⟨S16x2064x8x16, .f32⟩
  | 47 => ⟨S16x2064x8x16, .f32⟩
  | 48 => ⟨S16x2064x8x16, .f32⟩
  | 49 => ⟨S16x2064x8x16, .f32⟩
  | 50 => ⟨S16x2064x8x16, .f32⟩
  | 51 => ⟨S16x2064x8x16, .f32⟩
  | 52 => ⟨S16x2064x8x16, .f32⟩
  | 53 => ⟨S16x2064x8x16, .f32⟩
  | 54 => ⟨S16x2064x8x32, .f32⟩
  | 55 => ⟨S16x2064x8x32, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S2064x1, .f32⟩
  | 65 => ⟨S1x16, .f32⟩
  | 66 => ⟨S2064x16, .f32⟩
  | 67 => ⟨S2064x16, .f32⟩
  | 68 => ⟨S2064x16, .f32⟩
  | 69 => ⟨S2064x16, .f32⟩
  | 70 => ⟨S1x2064x1x16, .f32⟩
  | 71 => ⟨S2064x16, .f32⟩
  | 72 => ⟨S1x2064x1x16, .f32⟩
  | 73 => ⟨S16x2064x8x16, .f32⟩
  | 74 => ⟨S16x2064x8x16, .f32⟩
  | 75 => ⟨S16x2064x8x16, .f32⟩
  | 76 => ⟨S16x2064x8x16, .f32⟩
  | 77 => ⟨S16x2064x8x16, .f32⟩
  | 78 => ⟨S16x2064x8x16, .f32⟩
  | 79 => ⟨S16x2064x8x16, .f32⟩
  | 80 => ⟨S16x2064x8x16, .f32⟩
  | 81 => ⟨S16x2064x8x16, .f32⟩
  | 82 => ⟨S16x2064x8x16, .f32⟩
  | 83 => ⟨S16x2064x8x16, .f32⟩
  | 84 => ⟨S16x2064x8x16, .f32⟩
  | 85 => ⟨S16x2064x8x32, .f32⟩
  | 86 => ⟨S16x2064x8x64, .f32⟩
  | 87 => ⟨S16x2064x8x128, .f32⟩
  | 88 => ⟨S16x2064x8x128, .f32⟩
  | 89 => ⟨S16x2064x1x32, .f32⟩
  | 90 => ⟨S16, .f32⟩
  | 91 => ⟨S16, .f32⟩
  | 92 => ⟨S_, .f32⟩
  | 93 => ⟨S16, .f32⟩
  | 94 => ⟨S16, .f32⟩
  | 95 => ⟨S_, .f32⟩
  | 96 => ⟨S16, .f32⟩
  | 97 => ⟨S16, .f32⟩
  | 98 => ⟨S2064x1, .f32⟩
  | 99 => ⟨S1x16, .f32⟩
  | 100 => ⟨S2064x16, .f32⟩
  | 101 => ⟨S2064x16, .f32⟩
  | 102 => ⟨S2064x16, .f32⟩
  | 103 => ⟨S2064x16, .f32⟩
  | 104 => ⟨S1x2064x1x16, .f32⟩
  | 105 => ⟨S2064x16, .f32⟩
  | 106 => ⟨S1x2064x1x16, .f32⟩
  | 107 => ⟨S16x2064x1x16, .f32⟩
  | 108 => ⟨S16x2064x1x16, .f32⟩
  | 109 => ⟨S16x2064x1x16, .f32⟩
  | 110 => ⟨S16x2064x1x16, .f32⟩
  | 111 => ⟨S16x2064x1x16, .f32⟩
  | 112 => ⟨S16x2064x1x16, .f32⟩
  | 113 => ⟨S16x2064x1x16, .f32⟩
  | 114 => ⟨S16x2064x1x16, .f32⟩
  | 115 => ⟨S16x2064x1x16, .f32⟩
  | 116 => ⟨S16x2064x1x16, .f32⟩
  | 117 => ⟨S16x2064x1x16, .f32⟩
  | 118 => ⟨S16x2064x1x16, .f32⟩
  | 119 => ⟨S16x2064x1x32, .f32⟩
  | 120 => ⟨S16x2064x1x32, .f32⟩
  | 121 => ⟨S16, .f32⟩
  | 122 => ⟨S16, .f32⟩
  | 123 => ⟨S_, .f32⟩
  | 124 => ⟨S16, .f32⟩
  | 125 => ⟨S16, .f32⟩
  | 126 => ⟨S_, .f32⟩
  | 127 => ⟨S16, .f32⟩
  | _ => ⟨S33024x2048, .bf16⟩

abbrev hbmTy0_1 (i : Nat) : BufTy := match i % 128 with
  | 0 => ⟨S16, .f32⟩
  | 1 => ⟨S2064x1, .f32⟩
  | 2 => ⟨S1x16, .f32⟩
  | 3 => ⟨S2064x16, .f32⟩
  | 4 => ⟨S2064x16, .f32⟩
  | 5 => ⟨S2064x16, .f32⟩
  | 6 => ⟨S2064x16, .f32⟩
  | 7 => ⟨S1x2064x1x16, .f32⟩
  | 8 => ⟨S2064x16, .f32⟩
  | 9 => ⟨S1x2064x1x16, .f32⟩
  | 10 => ⟨S16x2064x1x16, .f32⟩
  | 11 => ⟨S16x2064x1x16, .f32⟩
  | 12 => ⟨S16x2064x1x16, .f32⟩
  | 13 => ⟨S16x2064x1x16, .f32⟩
  | 14 => ⟨S16x2064x1x16, .f32⟩
  | 15 => ⟨S16x2064x1x16, .f32⟩
  | 16 => ⟨S16x2064x1x16, .f32⟩
  | 17 => ⟨S16x2064x1x16, .f32⟩
  | 18 => ⟨S16x2064x1x16, .f32⟩
  | 19 => ⟨S16x2064x1x16, .f32⟩
  | 20 => ⟨S16x2064x1x16, .f32⟩
  | 21 => ⟨S16x2064x1x16, .f32⟩
  | 22 => ⟨S16x2064x1x32, .f32⟩
  | 23 => ⟨S16x2064x1x64, .f32⟩
  | 24 => ⟨S16x2064x8x64, .f32⟩
  | 25 => ⟨S16x2064x8x192, .f32⟩
  | 26 => ⟨S16x2064x8x192, .f32⟩
  | 27 => ⟨S16x8x2064x2064, .f32⟩
  | 28 => ⟨S_, .f32⟩
  | 29 => ⟨S_, .f32⟩
  | 30 => ⟨S16x8x2064x2064, .f32⟩
  | 31 => ⟨S16x8x2064x2064, .f32⟩
  | 32 => ⟨S_, .f32⟩
  | 33 => ⟨S16x8x2064, .f32⟩
  | 34 => ⟨S_, .f32⟩
  | 35 => ⟨S16x8x2064, .f32⟩
  | 36 => ⟨S16x8x2064, .f32⟩
  | 37 => ⟨S16x8x2064x1, .f32⟩
  | 38 => ⟨S16x8x2064x2064, .f32⟩
  | 39 => ⟨S16x8x2064x2064, .f32⟩
  | 40 => ⟨S16x8x2064x2064, .f32⟩
  | 41 => ⟨S_, .f32⟩
  | 42 => ⟨S16x8x2064, .f32⟩
  | 43 => ⟨S16x8x2064x1, .f32⟩
  | 44 => ⟨S16x8x2064x2064, .f32⟩
  | 45 => ⟨S16x8x2064x2064, .f32⟩
  | 46 => ⟨S16x8x128x2064, .f32⟩
  | 47 => ⟨S16x2064x8x128, .f32⟩
  | 48 => ⟨S16x2064x1024, .f32⟩
  | 49 => ⟨S16x2064x1024, .bf16⟩
  | _ => ⟨S33024x2048, .bf16⟩

abbrev hbmTy (i : Nat) : BufTy := match i / 128 with
  | 0 => hbmTy0_0 i
  | 1 => hbmTy0_1 i
  | _ => ⟨S33024x2048, .bf16⟩

abbrev bufTy : (tb : Table) → Fin (tcTables nBuf tb) → BufTy
  | .hbm, ⟨i, _⟩ => hbmTy i
  | _, _ => ⟨S33024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_2 : Ref sig .tc := ⟨.hbm, 58, rfl⟩
abbrev main_v52 : Ref sig .tc := ⟨.hbm, 59, rfl⟩
abbrev main_v53 : Ref sig .tc := ⟨.hbm, 60, rfl⟩
abbrev main_cst_3 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_cst_4 : Ref sig .tc := ⟨.hbm, 92, rfl⟩
abbrev main_v84 : Ref sig .tc := ⟨.hbm, 93, rfl⟩
abbrev main_v85 : Ref sig .tc := ⟨.hbm, 94, rfl⟩
abbrev main_cst_5 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_cst_6 : Ref sig .tc := ⟨.hbm, 123, rfl⟩
abbrev main_v113 : Ref sig .tc := ⟨.hbm, 124, rfl⟩
abbrev main_v114 : Ref sig .tc := ⟨.hbm, 125, rfl⟩
abbrev main_cst_7 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_cst_8 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_cst_9 : Ref sig .tc := ⟨.hbm, 160, rfl⟩
abbrev main_v147 : Ref sig .tc := ⟨.hbm, 161, rfl⟩
abbrev main_cst_10 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_cst_11 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩

abbrev nD : Nat := 1
abbrev τ : Topo := Topo.v7x

variable {F : FTy → Type} [FloatOps F]
-- ==== Ffn.lean ====
abbrev S33024x2048 : Shape := ⟨2, ![33024, 2048]⟩
abbrev S2048 : Shape := ⟨1, ![2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S768x2048 : Shape := ⟨2, ![768, 2048]⟩
abbrev S1x2048x512 : Shape := ⟨3, ![1, 2048, 512]⟩
abbrev S1x512x2048 : Shape := ⟨3, ![1, 512, 2048]⟩
abbrev S768 : Shape := ⟨1, ![768]⟩
abbrev S768x1 : Shape := ⟨2, ![768, 1]⟩
abbrev S2048x512 : Shape := ⟨2, ![2048, 512]⟩
abbrev S768x512 : Shape := ⟨2, ![768, 512]⟩
abbrev S512x2048 : Shape := ⟨2, ![512, 2048]⟩

abbrev nBuf : Space → Nat
  | .hbm => 7
  | .vmem => 12
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S4x2048x5632, .bf16⟩
  | .hbm, ⟨3, _⟩ => ⟨S4x2048x5632, .bf16⟩
  | .hbm, ⟨4, _⟩ => ⟨S4x5632x2048, .bf16⟩
  | .hbm, ⟨5, _⟩ => ⟨S1x2048, .f32⟩
  | .hbm, ⟨6, _⟩ => ⟨S33024x2048, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S768x2048, .f32⟩
  | .local _ .vmem, ⟨10, _⟩ => ⟨S768x2048, .f32⟩
  | .local _ .vmem, ⟨11, _⟩ => ⟨S768x2048, .bf16⟩
  | _, _ => ⟨S33024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![43, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S33024x2048 : Shape := ⟨2, ![33024, 2048]⟩
abbrev S2048 : Shape := ⟨1, ![2048]⟩
abbrev S4x2048x5632 : Shape := ⟨3, ![4, 2048, 5632]⟩
abbrev S4x5632x2048 : Shape := ⟨3, ![4, 5632, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S_ : Shape := ⟨0, ![]⟩
abbrev S33024 : Shape := ⟨1, ![33024]⟩
abbrev S33024x1 : Shape := ⟨2, ![33024, 1]⟩
abbrev S1x2048 : Shape := ⟨2, ![1, 2048]⟩
abbrev S33024x5632 : Shape := ⟨2, ![33024, 5632]⟩

abbrev nBuf : Space → Nat
  | .hbm => 44
  | .vmem => 0
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S4x2048x5632, .bf16⟩
  | .hbm, ⟨3, _⟩ => ⟨S4x2048x5632, .bf16⟩
  | .hbm, ⟨4, _⟩ => ⟨S4x5632x2048, .bf16⟩
  | .hbm, ⟨5, _⟩ => ⟨S1x2048x5632, .bf16⟩
  | .hbm, ⟨6, _⟩ => ⟨S2048x5632, .bf16⟩
  | .hbm, ⟨7, _⟩ => ⟨S2048x5632, .f32⟩
  | .hbm, ⟨8, _⟩ => ⟨S1x2048x5632, .bf16⟩
  | .hbm, ⟨9, _⟩ => ⟨S2048x5632, .bf16⟩
  | .hbm, ⟨10, _⟩ => ⟨S2048x5632, .f32⟩
  | .hbm, ⟨11, _⟩ => ⟨S1x5632x2048, .bf16⟩
  | .hbm, ⟨12, _⟩ => ⟨S5632x2048, .bf16⟩
  | .hbm, ⟨13, _⟩ => ⟨S5632x2048, .f32⟩
  | .hbm, ⟨14, _⟩ => ⟨S33024x2048, .f32⟩
  | .hbm, ⟨15, _⟩ => ⟨S_, .f32⟩
  | .hbm, ⟨16, _⟩ => ⟨S33024, .f32⟩
  | .hbm, ⟨17, _⟩ => ⟨S33024x1, .f32⟩
  | .hbm, ⟨18, _⟩ => ⟨S_, .f32⟩
  | .hbm, ⟨19, _⟩ => ⟨S33024x1, .f32⟩
  | .hbm, ⟨20, _⟩ => ⟨S33024x1, .f32⟩
  | .hbm, ⟨21, _⟩ => ⟨S_, .f32⟩
  | .hbm, ⟨22, _⟩ => ⟨S33024x1, .f32⟩
  | .hbm, ⟨23, _⟩ => ⟨S33024x1, .f32⟩
  | .hbm, ⟨24, _⟩ => ⟨S33024x1, .f32⟩
  | .hbm, ⟨25, _⟩ => ⟨S33024x2048, .f32⟩
  | .hbm, ⟨26, _⟩ => ⟨S33024x2048, .f32⟩
  | .hbm, ⟨27, _⟩ => ⟨S1x2048, .f32⟩
  | .hbm, ⟨28, _⟩ => ⟨S33024x2048, .f32⟩
  | .hbm, ⟨29, _⟩ => ⟨S33024x2048, .f32⟩
  | .hbm, ⟨30, _⟩ => ⟨S33024x5632, .f32⟩
  | .hbm, ⟨31, _⟩ => ⟨S33024x5632, .f32⟩
  | .hbm, ⟨32, _⟩ => ⟨S33024x5632, .f32⟩
  | .hbm, ⟨33, _⟩ => ⟨S_, .f32⟩
  | .hbm, ⟨34, _⟩ => ⟨S33024x5632, .f32⟩
  | .hbm, ⟨35, _⟩ => ⟨S33024x5632, .f32⟩
  | .hbm, ⟨36, _⟩ => ⟨S_, .f32⟩
  | .hbm, ⟨37, _⟩ => ⟨S33024x5632, .f32⟩
  | .hbm, ⟨38, _⟩ => ⟨S33024x5632, .f32⟩
  | .hbm, ⟨39, _⟩ => ⟨S33024x5632, .f32⟩
  | .hbm, ⟨40, _⟩ => ⟨S33024x5632, .f32⟩
  | .hbm, ⟨41, _⟩ => ⟨S33024x5632, .f32⟩
  | .hbm, ⟨42, _⟩ => ⟨S33024x2048, .f32⟩
  | .hbm, ⟨43, _⟩ => ⟨S33024x2048, .f32⟩
  | _, _ => ⟨S33024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Merge.lean ====
abbrev S33024x1024 : Shape := ⟨2, ![33024, 1024]⟩
abbrev S33024x6144 : Shape := ⟨2, ![33024, 6144]⟩
abbrev S33024x2048 : Shape := ⟨2, ![33024, 2048]⟩
abbrev S1024 : Shape := ⟨1, ![1024]⟩
abbrev S4x1024x2048 : Shape := ⟨3, ![4, 1024, 2048]⟩
abbrev S4x2048x2048 : Shape := ⟨3, ![4, 2048, 2048]⟩
abbrev S1x1024 : Shape := ⟨2, ![1, 1024]⟩
abbrev S256x1024 : Shape := ⟨2, ![256, 1024]⟩
abbrev S256x2048 : Shape := ⟨2, ![256, 2048]⟩
abbrev S1x1024x2048 : Shape := ⟨3, ![1, 1024, 2048]⟩
abbrev S1x2048x2048 : Shape := ⟨3, ![1, 2048, 2048]⟩
abbrev S256 : Shape := ⟨1, ![256]⟩
abbrev S256x1 : Shape := ⟨2, ![256, 1]⟩
abbrev S1024x2048 : Shape := ⟨2, ![1024, 2048]⟩
abbrev S2048x2048 : Shape := ⟨2, ![2048, 2048]⟩

abbrev nBuf : Space → Nat
  | .hbm => 14
  | .vmem => 22
  | .smem => 0
  | _ => 0

abbrev bufTy : (tb : Table) → Fin (tcTables nBuf tb) → BufTy
  | .hbm, ⟨0, _⟩ => ⟨S33024x1024, .bf16⟩
  | .hbm, ⟨1, _⟩ => ⟨S33024x1024, .bf16⟩
  | .hbm, ⟨2, _⟩ => ⟨S33024x1024, .bf16⟩
  | .hbm, ⟨3, _⟩ => ⟨S33024x6144, .bf16⟩
  | .hbm, ⟨4, _⟩ => ⟨S33024x2048, .f32⟩
  | .hbm, ⟨5, _⟩ => ⟨S1024, .f32⟩
  | .hbm, ⟨6, _⟩ => ⟨S1024, .f32⟩
  | .hbm, ⟨7, _⟩ => ⟨S4x1024x2048, .bf16⟩
  | .hbm, ⟨8, _⟩ => ⟨S4x1024x2048, .bf16⟩
  | .hbm, ⟨9, _⟩ => ⟨S4x1024x2048, .bf16⟩
  | .hbm, ⟨10, _⟩ => ⟨S4x2048x2048, .bf16⟩
  | .hbm, ⟨11, _⟩ => ⟨S1x1024, .f32⟩
  | .hbm, ⟨12, _⟩ => ⟨S1x1024, .f32⟩
  | .hbm, ⟨13, _⟩ => ⟨S33024x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S1x1024, .f32⟩
  | .local _ .vmem, ⟨15, _⟩ => ⟨S1x1024, .f32⟩
  | .local _ .vmem, ⟨16, _⟩ => ⟨S1x1024x2048, .bf16⟩
  | .local _ .vmem, ⟨17, _⟩ => ⟨S1x1024x2048, .bf16⟩
  | .local _ .vmem, ⟨18, _⟩ => ⟨S1x1024x2048, .bf16⟩
  | .local _ .vmem, ⟨19, _⟩ => ⟨S1x2048x2048, .bf16⟩
  | .local _ .vmem, ⟨20, _⟩ => ⟨S256x2048, .f32⟩
  | .local _ .vmem, ⟨21, _⟩ => ⟨S256x2048, .f32⟩
  | _, _ => ⟨S33024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S33024x1024 : Shape := ⟨2, ![33024, 1024]⟩
abbrev S33024x6144 : Shape := ⟨2, ![33024, 6144]⟩
abbrev S33024x2048 : Shape := ⟨2, ![33024, 2048]⟩
abbrev S1024 : Shape := ⟨1, ![1024]⟩
abbrev S4x1024x2048 : Shape := ⟨3, ![4, 1024, 2048]⟩
abbrev S4x2048x2048 : Shape := ⟨3, ![4, 2048, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S_ : Shape := ⟨0, ![]⟩
abbrev S33024 : Shape := ⟨1, ![33024]⟩
abbrev S33024x1 : Shape := ⟨2, ![33024, 1]⟩
abbrev S1x1024 : Shape := ⟨2, ![1, 1024]⟩
abbrev S33024x3x2048 : Shape := ⟨3, ![33024, 3, 2048]⟩
abbrev S33024x1x2048 : Shape := ⟨3, ![33024, 1, 2048]⟩

abbrev nBuf : Space → Nat
  | .hbm => 80
  | .vmem => 0
  | .smem => 0
  | _ => 0

abbrev bufTy : (tb : Table) → Fin (tcTables nBuf tb) → BufTy
  | .hbm, ⟨0, _⟩ => ⟨S33024x1024, .bf16⟩
  | .hbm, ⟨1, _⟩ => ⟨S33024x1024, .bf16⟩
  | .hbm, ⟨2, _⟩ => ⟨S33024x1024, .bf16⟩
  | .hbm, ⟨3, _⟩ => ⟨S33024x6144, .bf16⟩
  | .hbm, ⟨4, _⟩ => ⟨S33024x2048, .f32⟩
  | .hbm, ⟨5, _⟩ => ⟨S1024, .f32⟩
  | .hbm, ⟨6, _⟩ => ⟨S1024, .f32⟩
  | .hbm, ⟨7, _⟩ => ⟨S4x1024x2048, .bf16⟩
  | .hbm, ⟨8, _⟩ => ⟨S4x1024x2048, .bf16⟩
  | .hbm, ⟨9, _⟩ => ⟨S4x1024x2048, .bf16⟩
  | .hbm, ⟨10, _⟩ => ⟨S4x2048x2048, .bf16⟩
  | .hbm, ⟨11, _⟩ => ⟨S1x1024x2048, .bf16⟩
  | .hbm, ⟨12, _⟩ => ⟨S1024x2048, .bf16⟩
  | .hbm, ⟨13, _⟩ => ⟨S1024x2048, .f32⟩
  | .hbm, ⟨14, _⟩ => ⟨S1x1024x2048, .bf16⟩
  | .hbm, ⟨15, _⟩ => ⟨S1024x2048, .bf16⟩
  | .hbm, ⟨16, _⟩ => ⟨S1024x2048, .f32⟩
  | .hbm, ⟨17, _⟩ => ⟨S1x1024x2048, .bf16⟩
  | .hbm, ⟨18, _⟩ => ⟨S1024x2048, .bf16⟩
  | .hbm, ⟨19, _⟩ => ⟨S1024x2048, .f32⟩
  | .hbm, ⟨20, _⟩ => ⟨S1x2048x2048, .bf16⟩
  | .hbm, ⟨21, _⟩ => ⟨S2048x2048, .bf16⟩
  | .hbm, ⟨22, _⟩ => ⟨S2048x2048, .f32⟩
  | .hbm, ⟨23, _⟩ => ⟨S33024x1024, .f32⟩
  | .hbm, ⟨24, _⟩ => ⟨S_, .f32⟩
  | .hbm, ⟨25, _⟩ => ⟨S33024, .f32⟩
  | .hbm, ⟨26, _⟩ => ⟨S33024x1, .f32⟩
  | .hbm, ⟨27, _⟩ => ⟨S_, .f32⟩
  | .hbm, ⟨28, _⟩ => ⟨S33024x1, .f32⟩
  | .hbm, ⟨29, _⟩ => ⟨S33024x1, .f32⟩
  | .hbm, ⟨30, _⟩ => ⟨S33024x1024, .f32⟩
  | .hbm, ⟨31, _⟩ => ⟨S33024x1024, .f32⟩
  | .hbm, ⟨32, _⟩ => ⟨S33024x1024, .f32⟩
  | .hbm, ⟨33, _⟩ => ⟨S_, .f32⟩
  | .hbm, ⟨34, _⟩ => ⟨S33024, .f32⟩
  | .hbm, ⟨35, _⟩ => ⟨S33024x1, .f32⟩
  | .hbm, ⟨36, _⟩ => ⟨S_, .f32⟩
  | .hbm, ⟨37, _⟩ => ⟨S33024x1, .f32⟩
  | .hbm, ⟨38, _⟩ => ⟨S33024x1, .f32⟩
  | .hbm, ⟨39, _⟩ => ⟨S_, .f32⟩
  | .hbm, ⟨40, _⟩ => ⟨S33024x1, .f32⟩
  | .hbm, ⟨41, _⟩ => ⟨S33024x1, .f32⟩
  | .hbm, ⟨42, _⟩ => ⟨S33024x1, .f32⟩
  | .hbm, ⟨43, _⟩ => ⟨S33024x1024, .f32⟩
  | .hbm, ⟨44, _⟩ => ⟨S33024x1024, .f32⟩
  | .hbm, ⟨45, _⟩ => ⟨S1x1024, .f32⟩
  | .hbm, ⟨46, _⟩ => ⟨S33024x1024, .f32⟩
  | .hbm, ⟨47, _⟩ => ⟨S33024x1024, .f32⟩
  | .hbm, ⟨48, _⟩ => ⟨S1x1024, .f32⟩
  | .hbm, ⟨49, _⟩ => ⟨S33024x1024, .f32⟩
  | .hbm, ⟨50, _⟩ => ⟨S33024x1024, .f32⟩
  | .hbm, ⟨51, _⟩ => ⟨S33024x1024, .f32⟩
  | .hbm, ⟨52, _⟩ => ⟨S33024x1024, .f32⟩
  | .hbm, ⟨53, _⟩ => ⟨S_, .f32⟩
  | .hbm, ⟨54, _⟩ => ⟨S33024x1024, .f32⟩
  | .hbm, ⟨55, _⟩ => ⟨S33024x1024, .f32⟩
  | .hbm, ⟨56, _⟩ => ⟨S_, .f32⟩
  | .hbm, ⟨57, _⟩ => ⟨S33024x1024, .f32⟩
  | .hbm, ⟨58, _⟩ => ⟨S33024x1024, .f32⟩
  | .hbm, ⟨59, _⟩ => ⟨S33024x1024, .f32⟩
  | .hbm, ⟨60, _⟩ => ⟨S33024x2048, .f32⟩
  | .hbm, ⟨61, _⟩ => ⟨S33024x1024, .f32⟩
  | .hbm, ⟨62, _⟩ => ⟨S33024x2048, .f32⟩
  | .hbm, ⟨63, _⟩ => ⟨S33024x1024, .f32⟩
  | .hbm, ⟨64, _⟩ => ⟨S33024x2048, .f32⟩
  | .hbm, ⟨65, _⟩ => ⟨S33024x6144, .f32⟩
  | .hbm, ⟨66, _⟩ => ⟨S33024x3x2048, .f32⟩
  | .hbm, ⟨67, _⟩ => ⟨S33024x1x2048, .f32⟩
  | .hbm, ⟨68, _⟩ => ⟨S33024x2048, .f32⟩
  | .hbm, ⟨69, _⟩ => ⟨S33024x2048, .f32⟩
  | .hbm, ⟨70, _⟩ => ⟨S33024x1x2048, .f32⟩
  | .hbm, ⟨71, _⟩ => ⟨S33024x2048, .f32⟩
  | .hbm, ⟨72, _⟩ => ⟨S33024x2048, .f32⟩
  | .hbm, ⟨73, _⟩ => ⟨S33024x2048, .f32⟩
  | .hbm, ⟨74, _⟩ => ⟨S33024x1x2048, .f32⟩
  | .hbm, ⟨75, _⟩ => ⟨S33024x2048, .f32⟩
  | .hbm, ⟨76, _⟩ => ⟨S33024x2048, .f32⟩
  | .hbm, ⟨77, _⟩ => ⟨S33024x2048, .f32⟩
  | .hbm, ⟨78, _⟩ => ⟨S33024x2048, .f32⟩
  | .hbm, ⟨79, _⟩ => ⟨S33024x2048, .f32⟩
  | _, _ => ⟨S33024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Up.lean ====
abbrev S33024x3072 : Shape := ⟨2, ![33024, 3072]⟩
abbrev S512 : Shape := ⟨1, ![512]⟩
abbrev S4x512x2048 : Shape := ⟨3, ![4, 512, 2048]⟩
abbrev S1x512 : Shape := ⟨2, ![1, 512]⟩
abbrev S33024x2048 : Shape := ⟨2, ![33024, 2048]⟩
abbrev S768x512 : Shape := ⟨2, ![768, 512]⟩
abbrev S1x512x2048 : Shape := ⟨3, ![1, 512, 2048]⟩
abbrev S768x2048 : Shape := ⟨2, ![768, 2048]⟩
abbrev S768 : Shape := ⟨1, ![768]⟩
abbrev S768x1 : Shape := ⟨2, ![768, 1]⟩
abbrev S512x2048 : Shape := ⟨2, ![512, 2048]⟩

abbrev nBuf : Space → Nat
  | .hbm => 9
  | .vmem => 12
  | .smem => 0
  | _ => 0

abbrev bufTy : (tb : Table) → Fin (tcTables nBuf tb) → BufTy
  | .hbm, ⟨0, _⟩ => ⟨S33024x3072, .bf16⟩
  | .hbm, ⟨1, _⟩ => ⟨S512, .f32⟩
  | .hbm, ⟨2, _⟩ => ⟨S512, .f32⟩
  | .hbm, ⟨3, _⟩ => ⟨S4x512x2048, .bf16⟩
  | .hbm, ⟨4, _⟩ => ⟨S4x512x2048, .bf16⟩
  | .hbm, ⟨5, _⟩ => ⟨S1x512, .f32⟩
  | .hbm, ⟨6, _⟩ => ⟨S1x512, .f32⟩
  | .hbm, ⟨7, _⟩ => ⟨S33024x2048, .bf16⟩
  | .hbm, ⟨8, _⟩ => ⟨S33024x2048, .bf16⟩
  | .local _ .vmem, ⟨0, _⟩ => ⟨S768x512, .bf16⟩
  | .local _ .vmem, ⟨1, _⟩ => ⟨S768x512, .bf16⟩
  | .local _ .vmem, ⟨2, _⟩ => ⟨S768x512, .bf16⟩
  | .local _ .vmem, ⟨3, _⟩ => ⟨S768x512, .bf16⟩
  | .local _ .vmem, ⟨4, _⟩ => ⟨S1x512, .f32⟩
  | .local _ .vmem, ⟨5, _⟩ => ⟨S1x512, .f32⟩
  | .local _ .vmem, ⟨6, _⟩ => ⟨S1x512x2048, .bf16⟩
  | .local _ .vmem, ⟨7, _⟩ => ⟨S1x512x2048, .bf16⟩
  | .local _ .vmem, ⟨8, _⟩ => ⟨S768x2048, .bf16⟩
  | .local _ .vmem, ⟨9, _⟩ => ⟨S768x2048, .bf16⟩
  | .local _ .vmem, ⟨10, _⟩ => ⟨S768x2048, .bf16⟩
  | .local _ .vmem, ⟨11, _⟩ => ⟨S768x2048, .bf16⟩
  | _, _ => ⟨S33024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpRefIdeal.lean ====
abbrev S33024x3072 : Shape := ⟨2, ![33024, 3072]⟩
abbrev S512 : Shape := ⟨1, ![512]⟩
abbrev S4x512x2048 : Shape := ⟨3, ![4, 512, 2048]⟩
abbrev S33024x512 : Shape := ⟨2, ![33024, 512]⟩
abbrev S_ : Shape := ⟨0, ![]⟩
abbrev S33024 : Shape := ⟨1, ![33024]⟩
abbrev S33024x1 : Shape := ⟨2, ![33024, 1]⟩
abbrev S1x512 : Shape := ⟨2, ![1, 512]⟩
abbrev S1x512x2048 : Shape := ⟨3, ![1, 512, 2048]⟩
abbrev S512x2048 : Shape := ⟨2, ![512, 2048]⟩
abbrev S33024x2048 : Shape := ⟨2, ![33024, 2048]⟩

abbrev nBuf : Space → Nat
  | .hbm => 51
  | .vmem => 0
  | .smem => 0
  | _ => 0

abbrev bufTy : (tb : Table) → Fin (tcTables nBuf tb) → BufTy
  | .hbm, ⟨0, _⟩ => ⟨S33024x3072, .bf16⟩
  | .hbm, ⟨1, _⟩ => ⟨S512, .f32⟩
  | .hbm, ⟨2, _⟩ => ⟨S512, .f32⟩
  | .hbm, ⟨3, _⟩ => ⟨S4x512x2048, .bf16⟩
  | .hbm, ⟨4, _⟩ => ⟨S4x512x2048, .bf16⟩
  | .hbm, ⟨5, _⟩ => ⟨S33024x512, .bf16⟩
  | .hbm, ⟨6, _⟩ => ⟨S33024x512, .f32⟩
  | .hbm, ⟨7, _⟩ => ⟨S33024x512, .bf16⟩
  | .hbm, ⟨8, _⟩ => ⟨S33024x512, .f32⟩
  | .hbm, ⟨9, _⟩ => ⟨S33024x512, .f32⟩
  | .hbm, ⟨10, _⟩ => ⟨S_, .f32⟩
  | .hbm, ⟨11, _⟩ => ⟨S33024, .f32⟩
  | .hbm, ⟨12, _⟩ => ⟨S33024x1, .f32⟩
  | .hbm, ⟨13, _⟩ => ⟨S_, .f32⟩
  | .hbm, ⟨14, _⟩ => ⟨S33024x1, .f32⟩
  | .hbm, ⟨15, _⟩ => ⟨S33024x1, .f32⟩
  | .hbm, ⟨16, _⟩ => ⟨S_, .f32⟩
  | .hbm, ⟨17, _⟩ => ⟨S33024x1, .f32⟩
  | .hbm, ⟨18, _⟩ => ⟨S33024x1, .f32⟩
  | .hbm, ⟨19, _⟩ => ⟨S33024x1, .f32⟩
  | .hbm, ⟨20, _⟩ => ⟨S33024x512, .f32⟩
  | .hbm, ⟨21, _⟩ => ⟨S33024x512, .f32⟩
  | .hbm, ⟨22, _⟩ => ⟨S1x512, .f32⟩
  | .hbm, ⟨23, _⟩ => ⟨S33024x512, .f32⟩
  | .hbm, ⟨24, _⟩ => ⟨S33024x512, .f32⟩
  | .hbm, ⟨25, _⟩ => ⟨S1x512x2048, .bf16⟩
  | .hbm, ⟨26, _⟩ => ⟨S512x2048, .bf16⟩
  | .hbm, ⟨27, _⟩ => ⟨S512x2048, .f32⟩
  | .hbm, ⟨28, _⟩ => ⟨S33024x2048, .f32⟩
  | .hbm, ⟨29, _⟩ => ⟨S33024x512, .f32⟩
  | .hbm, ⟨30, _⟩ => ⟨S_, .f32⟩
  | .hbm, ⟨31, _⟩ => ⟨S33024, .f32⟩
  | .hbm, ⟨32, _⟩ => ⟨S33024x1, .f32⟩
  | .hbm, ⟨33, _⟩ => ⟨S_, .f32⟩
  | .hbm, ⟨34, _⟩ => ⟨S33024x1, .f32⟩
  | .hbm, ⟨35, _⟩ => ⟨S33024x1, .f32⟩
  | .hbm, ⟨36, _⟩ => ⟨S_, .f32⟩
  | .hbm, ⟨37, _⟩ => ⟨S33024x1, .f32⟩
  | .hbm, ⟨38, _⟩ => ⟨S33024x1, .f32⟩
  | .hbm, ⟨39, _⟩ => ⟨S33024x1, .f32⟩
  | .hbm, ⟨40, _⟩ => ⟨S33024x512, .f32⟩
  | .hbm, ⟨41, _⟩ => ⟨S33024x512, .f32⟩
  | .hbm, ⟨42, _⟩ => ⟨S1x512, .f32⟩
  | .hbm, ⟨43, _⟩ => ⟨S33024x512, .f32⟩
  | .hbm, ⟨44, _⟩ => ⟨S33024x512, .f32⟩
  | .hbm, ⟨45, _⟩ => ⟨S1x512x2048, .bf16⟩
  | .hbm, ⟨46, _⟩ => ⟨S512x2048, .bf16⟩
  | .hbm, ⟨47, _⟩ => ⟨S512x2048, .f32⟩
  | .hbm, ⟨48, _⟩ => ⟨S33024x2048, .f32⟩
  | .hbm, ⟨49, _⟩ => ⟨S33024x2048, .bf16⟩
  | .hbm, ⟨50, _⟩ => ⟨S33024x2048, .bf16⟩
  | _, _ => ⟨S33024x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Norm.lean ====
abbrev S33024x2048 : Shape := ⟨2, ![33024, 2048]⟩
abbrev S2048 : Shape := ⟨1, ![2048]⟩
abbrev S1x2048 : Shape := ⟨2, ![1, 2048]⟩
abbrev S16x2048x2048 : Shape := ⟨3, ![16, 2048, 2048]⟩
abbrev S512x2048 : Shape := ⟨2, ![512, 2048]⟩
abbrev S1x512x2048 : Shape := ⟨3, ![1, 512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S1x2048, .f32⟩
  | .hbm, ⟨3, _⟩ => ⟨S16x2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x512x2048, .f32⟩
  | .local _ .vmem, ⟨4, _⟩ => ⟨S1x512x2048, .f32⟩
  | _, _ => ⟨S33024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c258_i32 : BitVec 32 := 258#32
  let v0 : BitVec 32 := Scalar.muli arg0 c258_i32
  let c2_i32 : BitVec 32 := 2#32
  let v1 : BitVec 32 := Scalar.addi v0 c2_i32
  let c64_i32 : BitVec 32 := 64#32
  let v2 : BitVec 32 := Scalar.muli arg1 c64_i32
  let v3 : BitVec 32 := Scalar.addi v1 v2
  let c8_i32 : BitVec 32 := 8#32
  let v4 : BitVec 32 := Scalar.muli v3 c8_i32
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormRefIdeal.lean ====
abbrev S33024x2048 : Shape := ⟨2, ![33024, 2048]⟩
abbrev S2048 : Shape := ⟨1, ![2048]⟩
abbrev S16x2064x2048 : Shape := ⟨3, ![16, 2064, 2048]⟩
abbrev S_ : Shape := ⟨0, ![]⟩
abbrev S16x2064 : Shape := ⟨2, ![16, 2064]⟩
abbrev S16x2064x1 : Shape := ⟨3, ![16, 2064, 1]⟩
abbrev S1x1x2048 : Shape := ⟨3, ![1, 1, 2048]⟩
abbrev S16x2048x2048 : Shape := ⟨3, ![16, 2048, 2048]⟩

abbrev nBuf : Space → Nat
  | .hbm => 20
  | .vmem => 0
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S16x2064x2048, .f32⟩
  | .hbm, ⟨3, _⟩ => ⟨S16x2064x2048, .f32⟩
  | .hbm, ⟨4, _⟩ => ⟨S_, .f32⟩
  | .hbm, ⟨5, _⟩ => ⟨S16x2064, .f32⟩
  | .hbm, ⟨6, _⟩ => ⟨S16x2064x1, .f32⟩
  | .hbm, ⟨7, _⟩ => ⟨S_, .f32⟩
  | .hbm, ⟨8, _⟩ => ⟨S16x2064x1, .f32⟩
  | .hbm, ⟨9, _⟩ => ⟨S16x2064x1, .f32⟩
  | .hbm, ⟨10, _⟩ => ⟨S_, .f32⟩
  | .hbm, ⟨11, _⟩ => ⟨S16x2064x1, .f32⟩
  | .hbm, ⟨12, _⟩ => ⟨S16x2064x1, .f32⟩
  | .hbm, ⟨13, _⟩ => ⟨S16x2064x1, .f32⟩
  | .hbm, ⟨14, _⟩ => ⟨S16x2064x2048, .f32⟩
  | .hbm, ⟨15, _⟩ => ⟨S16x2064x2048, .f32⟩
  | .hbm, ⟨16, _⟩ => ⟨S1x1x2048, .f32⟩
  | .hbm, ⟨17, _⟩ => ⟨S16x2064x2048, .f32⟩
  | .hbm, ⟨18, _⟩ => ⟨S16x2064x2048, .f32⟩
  | .hbm, ⟨19, _⟩ => ⟨S16x2048x2048, .f32⟩
  | _, _ => ⟨S33024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== In.lean ====
abbrev S33024x2048 : Shape := ⟨2, ![33024, 2048]⟩
abbrev S2048 : Shape := ⟨1, ![2048]⟩
abbrev S4x2048x11264 : Shape := ⟨3, ![4, 2048, 11264]⟩
abbrev S4x1x11264 : Shape := ⟨3, ![4, 1, 11264]⟩
abbrev S1x2048 : Shape := ⟨2, ![1, 2048]⟩
abbrev S33024x1024 : Shape := ⟨2, ![33024, 1024]⟩
abbrev S33024x6144 : Shape := ⟨2, ![33024, 6144]⟩
abbrev S33024x3072 : Shape := ⟨2, ![33024, 3072]⟩
abbrev S768x2048 : Shape := ⟨2, ![768, 2048]⟩
abbrev S1x2048x1024 : Shape := ⟨3, ![1, 2048, 1024]⟩
abbrev S1x1x1024 : Shape := ⟨3, ![1, 1, 1024]⟩
abbrev S768x512 : Shape := ⟨2, ![768, 512]⟩
abbrev S768x1024 : Shape := ⟨2, ![768, 1024]⟩
abbrev S768 : Shape := ⟨1, ![768]⟩
abbrev S768x1 : Shape := ⟨2, ![768, 1]⟩
abbrev S2048x1024 : Shape := ⟨2, ![2048, 1024]⟩
abbrev S1x1024 : Shape := ⟨2, ![1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S4x2048x11264, .bf16⟩
  | .hbm, ⟨3, _⟩ => ⟨S4x1x11264, .f32⟩
  | .hbm, ⟨4, _⟩ => ⟨S1x2048, .f32⟩
  | .hbm, ⟨5, _⟩ => ⟨S33024x1024, .bf16⟩
  | .hbm, ⟨6, _⟩ => ⟨S33024x6144, .bf16⟩
  | .hbm, ⟨7, _⟩ => ⟨S33024x3072, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1x1024, .f32⟩
  | .local _ .vmem, ⟨6, _⟩ => ⟨S1x1x1024, .f32⟩
  | .local _ .vmem, ⟨7, _⟩ => ⟨S768x512, .bf16⟩
  | .local _ .vmem, ⟨8, _⟩ => ⟨S768x512, .bf16⟩
  | .local _ .vmem, ⟨9, _⟩ => ⟨S768x1024, .bf16⟩
  | .local _ .vmem, ⟨10, _⟩ => ⟨S768x1024, .bf16⟩
  | .local _ .vmem, ⟨11, _⟩ => ⟨S768x1024, .bf16⟩
  | .local _ .vmem, ⟨12, _⟩ => ⟨S768x1024, .bf16⟩
  | .local _ .vmem, ⟨13, _⟩ => ⟨S768x2048, .bf16⟩
  | _, _ => ⟨S33024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![43, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c2_i32 : BitVec 32 := 2#32
  let v4 : BitVec 1 := Scalar.cmpi .slt arg1 c2_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c2_i32_3 : BitVec 32 := 2#32
  let v8 : BitVec 1 := Scalar.cmpi .sge arg1 c2_i32_3
  let c8_i32 : BitVec 32 := 8#32
  let v9 : BitVec 1 := Scalar.cmpi .slt arg1 c8_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c8_i32_5 : BitVec 32 := 8#32
  let v13 : BitVec 1 := Scalar.cmpi .sge arg1 c8_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InRefIdeal.lean ====
abbrev S33024x2048 : Shape := ⟨2, ![33024, 2048]⟩
abbrev S2048 : Shape := ⟨1, ![2048]⟩
abbrev S4x2048x11264 : Shape := ⟨3, ![4, 2048, 11264]⟩
abbrev S4x1x11264 : Shape := ⟨3, ![4, 1, 11264]⟩
abbrev S_ : Shape := ⟨0, ![]⟩
abbrev S33024 : Shape := ⟨1, ![33024]⟩
abbrev S33024x1 : Shape := ⟨2, ![33024, 1]⟩
abbrev S1x2048 : Shape := ⟨2, ![1, 2048]⟩
abbrev S1x2048x11264 : Shape := ⟨3, ![1, 2048, 11264]⟩
abbrev S2048x11264 : Shape := ⟨2, ![2048, 11264]⟩
abbrev S33024x11264 : Shape := ⟨2, ![33024, 11264]⟩
abbrev S33024x6144 : Shape := ⟨2, ![33024, 6144]⟩
abbrev S33024x3072 : Shape := ⟨2, ![33024, 3072]⟩
abbrev S33024x512 : Shape := ⟨2, ![33024, 512]⟩
abbrev S33024x1024 : Shape := ⟨2, ![33024, 1024]⟩
abbrev S1x1x6144 : Shape := ⟨3, ![1, 1, 6144]⟩
abbrev S6144 : Shape := ⟨1, ![6144]⟩
abbrev S1x6144 : Shape := ⟨2, ![1, 6144]⟩

abbrev nBuf : Space → Nat
  | .hbm => 58
  | .vmem => 0
  | .smem => 0
  | _ => 0

abbrev bufTy : (tb : Table) → Fin (tcTables nBuf tb) → BufTy
  | .hbm, ⟨0, _⟩ => ⟨S33024x2048, .f32⟩
  | .hbm, ⟨1, _⟩ => ⟨S2048, .f32⟩
  | .hbm, ⟨2, _⟩ => ⟨S4x2048x11264, .bf16⟩
  | .hbm, ⟨3, _⟩ => ⟨S4x1x11264, .f32⟩
  | .hbm, ⟨4, _⟩ => ⟨S33024x2048, .f32⟩
  | .hbm, ⟨5, _⟩ => ⟨S_, .f32⟩
  | .hbm, ⟨6, _⟩ => ⟨S33024, .f32⟩
  | .hbm, ⟨7, _⟩ => ⟨S33024x1, .f32⟩
  | .hbm, ⟨8, _⟩ => ⟨S_, .f32⟩
  | .hbm, ⟨9, _⟩ => ⟨S33024x1, .f32⟩
  | .hbm, ⟨10, _⟩ => ⟨S33024x1, .f32⟩
  | .hbm, ⟨11, _⟩ => ⟨S_, .f32⟩
  | .hbm, ⟨12, _⟩ => ⟨S33024x1, .f32⟩
  | .hbm, ⟨13, _⟩ => ⟨S33024x1, .f32⟩
  | .hbm, ⟨14, _⟩ => ⟨S33024x1, .f32⟩
  | .hbm, ⟨15, _⟩ => ⟨S33024x2048, .f32⟩
  | .hbm, ⟨16, _⟩ => ⟨S33024x2048, .f32⟩
  | .hbm, ⟨17, _⟩ => ⟨S1x2048, .f32⟩
  | .hbm, ⟨18, _⟩ => ⟨S33024x2048, .f32⟩
  | .hbm, ⟨19, _⟩ => ⟨S33024x2048, .f32⟩
  | .hbm, ⟨20, _⟩ => ⟨S1x2048x11264, .bf16⟩
  | .hbm, ⟨21, _⟩ => ⟨S2048x11264, .bf16⟩
  | .hbm, ⟨22, _⟩ => ⟨S2048x11264, .f32⟩
  | .hbm, ⟨23, _⟩ => ⟨S33024x11264, .f32⟩
  | .hbm, ⟨24, _⟩ => ⟨S33024x2048, .f32⟩
  | .hbm, ⟨25, _⟩ => ⟨S33024x6144, .f32⟩
  | .hbm, ⟨26, _⟩ => ⟨S33024x3072, .f32⟩
  | .hbm, ⟨27, _⟩ => ⟨S33024x512, .f32⟩
  | .hbm, ⟨28, _⟩ => ⟨S33024x512, .f32⟩
  | .hbm, ⟨29, _⟩ => ⟨S33024x1024, .f32⟩
  | .hbm, ⟨30, _⟩ => ⟨S33024x512, .f32⟩
  | .hbm, ⟨31, _⟩ => ⟨S33024x512, .f32⟩
  | .hbm, ⟨32, _⟩ => ⟨S33024x1024, .f32⟩
  | .hbm, ⟨33, _⟩ => ⟨S1x1x6144, .f32⟩
  | .hbm, ⟨34, _⟩ => ⟨S6144, .f32⟩
  | .hbm, ⟨35, _⟩ => ⟨S33024x1024, .f32⟩
  | .hbm, ⟨36, _⟩ => ⟨S33024x1024, .f32⟩
  | .hbm, ⟨37, _⟩ => ⟨S_, .f32⟩
  | .hbm, ⟨38, _⟩ => ⟨S33024x1024, .f32⟩
  | .hbm, ⟨39, _⟩ => ⟨S33024x1024, .f32⟩
  | .hbm, ⟨40, _⟩ => ⟨S_, .f32⟩
  | .hbm, ⟨41, _⟩ => ⟨S33024x1024, .f32⟩
  | .hbm, ⟨42, _⟩ => ⟨S33024x1024, .f32⟩
  | .hbm, ⟨43, _⟩ => ⟨S33024x1024, .f32⟩
  | .hbm, ⟨44, _⟩ => ⟨S33024x1024, .bf16⟩
  | .hbm, ⟨45, _⟩ => ⟨S1x6144, .f32⟩
  | .hbm, ⟨46, _⟩ => ⟨S33024x6144, .f32⟩
  | .hbm, ⟨47, _⟩ => ⟨S33024x6144, .f32⟩
  | .hbm, ⟨48, _⟩ => ⟨S33024x6144, .f32⟩
  | .hbm, ⟨49, _⟩ => ⟨S33024x6144, .f32⟩
  | .hbm, ⟨50, _⟩ => ⟨S_, .f32⟩
  | .hbm, ⟨51, _⟩ => ⟨S33024x6144, .f32⟩
  | .hbm, ⟨52, _⟩ => ⟨S33024x6144, .f32⟩
  | .hbm, ⟨53, _⟩ => ⟨S_, .f32⟩
  | .hbm, ⟨54, _⟩ => ⟨S33024x6144, .f32⟩
  | .hbm, ⟨55, _⟩ => ⟨S33024x6144, .f32⟩
  | .hbm, ⟨56, _⟩ => ⟨S33024x6144, .bf16⟩
  | .hbm, ⟨57, _⟩ => ⟨S33024x3072, .bf16⟩
  | _, _ => ⟨S33024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Proof.MlaStages.lean ====
/- The attention kernel's payloads, each read at one entry, over the extended reals. A tile of query rows goes through
   three of them: its scores against the stored keys, the exponentials of the scores, and the weighted values divided by
   the weights' sum. Here each is an equation between an entry of the payload and plain sums and maxima. -/
module

public import proofs.«01_k».proof.Proof.Gen.KernelIdeal.Skeleton
public import Idealize.ShloMosaic.Lib.Pointwise
public import Idealize.ShloMosaic.Lib.KernelVsHost

@[expose] public section

set_option maxRecDepth 16384

noncomputable section

namespace Mla

open Idealize.ShloMosaic Cert.KernelIdeal Cert.KernelIdeal.Gen

/-- The scale each query is multiplied by: `1 / (ln 2 · √192)`. -/
def qScale : EReal := (((Real.log 2)⁻¹ * (Real.sqrt 192)⁻¹ : ℝ) : EReal)

theorem named_scale : Named.named (F := Ideal) Cert.KernelIdeal.κ "qk_scale" (φ := .f32) 0x3DD53B95#32 = qScale :=
  IdealRules.named_const.ideal_named_scalar _ _ _ _ rfl

theorem named_mask : Named.named (F := Ideal) Cert.KernelIdeal.κ "mask" (φ := .f32) 0xF149F2CA#32 = (⊥ : EReal) :=
  IdealRules.named_const.ideal_named_scalar _ _ _ _ rfl

/-- A row of 128 lanes turned by `112` holds at lane `l` what lane `l + 16` held, around the end. -/
theorem rotate_up {n : Nat} (x : (⟨2, ![n, 128]⟩ : Shape).Idx → EReal) (h : (⟨2, ![n, 128]⟩ : Shape).Rotates 1 none)
    (r : Fin n) (l : Fin 128) :
    dynamicRotate 1 112#32 none x h (ix2 r l) = x (ix2 r ⟨(l.val + 16) % 128, Nat.mod_lt _ (by decide)⟩) :=
  dynamicRotate_apply (1 : Fin 2) _ x h _ _ (by
    intro b
    match b with
    | ⟨0, _⟩ => rfl
    | ⟨1, _⟩ => show (l.val + 16) % 128 = (l.val + 128 - 112 % 128) % 128; rfl)

/-- Turned by `16` it holds what lane `l - 16` held. -/
theorem rotate_down {n : Nat} (x : (⟨2, ![n, 128]⟩ : Shape).Idx → EReal) (h : (⟨2, ![n, 128]⟩ : Shape).Rotates 1 none)
    (r : Fin n) (l : Fin 128) :
    dynamicRotate 1 16#32 none x h (ix2 r l) = x (ix2 r ⟨(l.val + 112) % 128, Nat.mod_lt _ (by decide)⟩) :=
  dynamicRotate_apply (1 : Fin 2) _ x h _ _ (by
    intro b
    match b with
    | ⟨0, _⟩ => rfl
    | ⟨1, _⟩ => show (l.val + 112) % 128 = (l.val + 128 - 16 % 128) % 128; rfl)

/-- The rotary step on one row of 128 lanes: each lane with the lanes 16 above and 16 below it. -/
def ropeRow (x c lo hi : Fin 128 → EReal) (l : Fin 128) : EReal :=
  x l * c l + x ⟨(l.val + 128 - 112) % 128, Nat.mod_lt _ (by decide)⟩ * lo l
    + x ⟨(l.val + 128 - 16) % 128, Nat.mod_lt _ (by decide)⟩ * hi l

/-- Lane `e` of the left half, and lane `e` of the right half. -/
def leftLane (e : Fin 128) : Fin 256 := ⟨e.val, by omega⟩
def rightLane (e : Fin 128) : Fin 256 := ⟨128 + e.val, by omega⟩

/-- A query row: its first 128 lanes and the rotated other 128, each times the scale. -/
def queryRow (x : Fin 256 → EReal) (c lo hi : Fin 128 → EReal) (l : Fin 256) : EReal :=
  if h : l.val < 128 then x l * qScale
  else ropeRow (fun k => x (rightLane k)) c lo hi ⟨l.val - 128, by omega⟩ * qScale

/-- What the kernel adds to the score of key `j`: nothing for the 2064 keys there are, `-∞` for the rest. -/
def bias (j : ℕ) : EReal := if j < 2064 then 0 else ⊥

/-- The score of one query row against stored key `j`. -/
def scoreOf (q : Fin 256 → EReal) (K : S2176x256.Idx → EReal) (j : Fin 2176) : EReal :=
  (∑ k, q k * K (ix2 j k)) + bias j.val

/-- Key `j` of the first 2048, and key `j` of the last 128. -/
def mainKey (j : Fin 2048) : Fin 2176 := ⟨j.val, by omega⟩
def tailKey (j : Fin 128) : Fin 2176 := ⟨2048 + j.val, by omega⟩

/-- The weight of key `j`: the power of two of the score less the row's largest score. -/
def weight (s : Fin 2176 → EReal) (j : Fin 2176) : EReal := Ideal.exp2 (s j - Finset.univ.fold max ⊥ s)

/-- The values weighted and summed, over the sum of the weights (which the values' second half, all ones, gives). -/
def softOut (s : Fin 2176 → EReal) (V : S2176x256.Idx → EReal) (e : Fin 128) : EReal :=
  Ideal.div (∑ j, weight s j * V (ix2 j (leftLane e))) (∑ j, weight s j * V (ix2 j (rightLane e)))

theorem negInf : Ideal.ofBits .f32 0xFF800000#32 = (⊥ : EReal) := by
  simp [Ideal.ofBits, Ideal.ieee]

theorem mask_apply (j : Fin 128) :
    (Scalar.select (IntOp.cmpi CmpIPredicate.slt (BitVec.ofNat 32 j.val) 16#32) (0 : EReal) ⊥) = bias (2048 + j.val) := by
  have h : ∀ j : Fin 128, IntOp.cmpi CmpIPredicate.slt (BitVec.ofNat 32 j.val) 16#32 = if j.val < 16 then 1#1 else 0#1 := by
    decide +kernel
  rw [h, bias]
  by_cases hj : j.val < 16
  · rw [if_pos hj, if_pos (by omega)]; rfl
  · rw [if_neg hj, if_neg (by omega)]; rfl

theorem pay15_apply (a b : Vec Ideal S1x2064x128 .bf16) (c lo hi : Vec Ideal S2064x128 .f32) (x : Fin 256 → EReal)
    (r : Fin 2064) (ha : ∀ k : Fin 128, a (ix3 0 r k) = x (leftLane k)) (hb : ∀ k : Fin 128, b (ix3 0 r k) = x (rightLane k))
    (l : Fin 256) :
    k0_pay15 (F := Ideal) a b c lo hi (ix2 r l)
      = queryRow x (fun k => c (ix2 r k)) (fun k => lo (ix2 r k)) (fun k => hi (ix2 r k)) l := by
  pointwise [k0_pay15]
  rw [named_scale, queryRow]
  by_cases h : l.val < 128
  · rw [dif_pos h, dif_pos h, ha]; rfl
  · rw [dif_neg h, dif_neg h, hb, hb, hb]; rfl

/-- The rotated key lanes, of the 2048 tokens' rows and of the 16 rows before them. -/
theorem pay2_apply (a : Vec Ideal S1x2048x128 .bf16) (c lo hi : Vec Ideal S2048x128 .f32) (r : Fin 2048) (l : Fin 128) :
    k0_pay2 (F := Ideal) a c lo hi (ix2 r l)
      = ropeRow (fun k => a (ix3 0 r k)) (fun k => c (ix2 r k)) (fun k => lo (ix2 r k)) (fun k => hi (ix2 r k)) l := by
  pointwise [k0_pay2]
  rfl

theorem pay6_apply (a : Vec Ideal S1x16x128 .bf16) (c lo hi : Vec Ideal S16x128 .f32) (r : Fin 16) (l : Fin 128) :
    k0_pay6 (F := Ideal) (k0_pay4 a c lo) (k0_pay5 a hi) (ix2 r l)
      = ropeRow (fun k => a (ix3 0 r k)) (fun k => c (ix2 r k)) (fun k => lo (ix2 r k)) (fun k => hi (ix2 r k)) l := by
  pointwise [k0_pay6, k0_pay4, k0_pay5, k0_pay3]
  rfl

/-! ## The five tiles' scores -/

section Scores
variable (Q : FVec Ideal S2064x256 .bf16) (A : Vec Ideal S2048x256 .bf16) (B : Vec Ideal S128x256 .bf16)
  (K : S2176x256.Idx → EReal) (hA : ∀ (j : Fin 2048) (k : Fin 256), A (ix2 j k) = K (ix2 (mainKey j) k))
  (hB : ∀ (j : Fin 128) (k : Fin 256), B (ix2 j k) = K (ix2 (tailKey j) k))
include hA

theorem main_scores (q : Fin 256 → EReal) (j : Fin 2048) :
    ∑ k, q k * A (ix2 j k) = scoreOf q K (mainKey j) := by
  rw [scoreOf, bias, if_pos (show (mainKey j).val < 2064 from Nat.lt_trans j.isLt (by decide)), add_zero]
  exact Finset.sum_congr rfl fun k _ => by rw [hA]

omit hA in
include hB in
theorem tail_scores (q : Fin 256 → EReal) (j : Fin 128) :
    (∑ k, q k * B (ix2 j k)) + Scalar.select (IntOp.cmpi CmpIPredicate.slt (BitVec.ofNat 32 j.val) 16#32) (0 : EReal)
        (Named.named (F := Ideal) Cert.KernelIdeal.κ "mask" (φ := .f32) 0xF149F2CA#32)
      = scoreOf q K (tailKey j) := by
  rw [named_mask, mask_apply, scoreOf]
  exact congrArg (· + _) (Finset.sum_congr rfl fun k _ => by rw [hB])

theorem scores0_main (r : Fin 416) (j : Fin 2048) :
    k0_pay19 (F := Ideal) Q A (ix2 r j) = scoreOf (fun k => Q (ix2 ⟨0 + r.val, by omega⟩ k)) K (mainKey j) := by
  rw [← main_scores A K hA]
  pointwise [k0_pay19, k0_pay18]

omit hA in
include hB in
theorem scores0_tail (r : Fin 416) (j : Fin 128) :
    k0_pay20 (F := Ideal) Q k0_pay16 k0_pay17 B (ix2 r j) = scoreOf (fun k => Q (ix2 ⟨0 + r.val, by omega⟩ k)) K (tailKey j) := by
  rw [← tail_scores B K hB]
  pointwise [k0_pay20, k0_pay18, k0_pay16, k0_pay17]

theorem scores1_main (r : Fin 416) (j : Fin 2048) :
    k0_pay22 (F := Ideal) Q A (ix2 r j) = scoreOf (fun k => Q (ix2 ⟨416 + r.val, by omega⟩ k)) K (mainKey j) := by
  rw [← main_scores A K hA]
  pointwise [k0_pay22, k0_pay21]

omit hA in
include hB in
theorem scores1_tail (r : Fin 416) (j : Fin 128) :
    k0_pay23 (F := Ideal) Q k0_pay16 k0_pay17 B (ix2 r j) = scoreOf (fun k => Q (ix2 ⟨416 + r.val, by omega⟩ k)) K (tailKey j) := by
  rw [← tail_scores B K hB]
  pointwise [k0_pay23, k0_pay21, k0_pay16, k0_pay17]

theorem scores2_main (r : Fin 416) (j : Fin 2048) :
    k0_pay26 (F := Ideal) (k0_pay25 Q A) (ix2 r j) = scoreOf (fun k => Q (ix2 ⟨832 + r.val, by omega⟩ k)) K (mainKey j) := by
  rw [← main_scores A K hA]
  pointwise [k0_pay26, k0_pay25, k0_pay24]

omit hA in
include hB in
theorem scores2_tail (r : Fin 416) (j : Fin 128) :
    k0_pay27 (F := Ideal) k0_pay16 k0_pay17 (k0_pay24 Q) B (ix2 r j) = scoreOf (fun k => Q (ix2 ⟨832 + r.val, by omega⟩ k)) K (tailKey j) := by
  rw [← tail_scores B K hB]
  pointwise [k0_pay27, k0_pay24, k0_pay16, k0_pay17]

theorem scores3_main (r : Fin 416) (j : Fin 2048) :
    k0_pay32 (F := Ideal) (k0_pay31 Q A) (ix2 r j) = scoreOf (fun k => Q (ix2 ⟨1248 + r.val, by omega⟩ k)) K (mainKey j) := by
  rw [← main_scores A K hA]
  pointwise [k0_pay32, k0_pay31, k0_pay30]

omit hA in
include hB in
theorem scores3_tail (r : Fin 416) (j : Fin 128) :
    k0_pay33 (F := Ideal) k0_pay16 k0_pay17 (k0_pay30 Q) B (ix2 r j) = scoreOf (fun k => Q (ix2 ⟨1248 + r.val, by omega⟩ k)) K (tailKey j) := by
  rw [← tail_scores B K hB]
  pointwise [k0_pay33, k0_pay30, k0_pay16, k0_pay17]

theorem scores4_main (r : Fin 400) (j : Fin 2048) :
    k0_pay38 (F := Ideal) (k0_pay37 Q A) (ix2 r j) = scoreOf (fun k => Q (ix2 ⟨1664 + r.val, by omega⟩ k)) K (mainKey j) := by
  rw [← main_scores A K hA]
  pointwise [k0_pay38, k0_pay37, k0_pay36]

omit hA in
include hB in
theorem scores4_tail (r : Fin 400) (j : Fin 128) :
    k0_pay39 (F := Ideal) k0_pay16 k0_pay17 (k0_pay36 Q) B (ix2 r j) = scoreOf (fun k => Q (ix2 ⟨1664 + r.val, by omega⟩ k)) K (tailKey j) := by
  rw [← tail_scores B K hB]
  pointwise [k0_pay39, k0_pay36, k0_pay16, k0_pay17]

end Scores

/-! ## Their weights -/

section Weights
theorem weights0 (s : Vec Ideal S416x2176 .f32) (r : Fin 416) (j : Fin 2176) :
    k0_pay28 (F := Ideal) s (ix2 r j) = weight (fun j => s (ix2 r j)) j := by
  pointwise [k0_pay28]
  rw [negInf]; rfl

theorem weights1 (s : Vec Ideal S416x2176 .f32) (r : Fin 416) (j : Fin 2176) :
    k0_pay34 (F := Ideal) s (ix2 r j) = weight (fun j => s (ix2 r j)) j := by
  pointwise [k0_pay34]
  rw [negInf]; rfl

theorem weights2 (s : Vec Ideal S416x2176 .f32) (r : Fin 416) (j : Fin 2176) :
    k0_pay40 (F := Ideal) s (ix2 r j) = weight (fun j => s (ix2 r j)) j := by
  pointwise [k0_pay40]
  rw [negInf]; rfl

theorem weights3 (s : Vec Ideal S416x2176 .f32) (r : Fin 416) (j : Fin 2176) :
    k0_pay43 (F := Ideal) s (k0_pay42 s) (ix2 r j) = weight (fun j => s (ix2 r j)) j := by
  pointwise [k0_pay43, k0_pay42]
  rw [negInf]; rfl

theorem weights4 (s : Vec Ideal S400x2176 .f32) (r : Fin 400) (j : Fin 2176) :
    k0_pay45 (F := Ideal) s (ix2 r j) = weight (fun j => s (ix2 r j)) j := by
  pointwise [k0_pay45]
  rw [negInf]; rfl

end Weights

/-! ## And what each tile stores -/

section Out
theorem out0 (p : Vec Ideal S416x2176 .bf16) (V : Vec Ideal S2176x256 .bf16) (r : Fin 416) (s : Fin 2176 → EReal)
    (h : ∀ j, p (ix2 r j) = weight s j) (e : Fin 128) :
    k0_pay29 (F := Ideal) p V (ix3 0 r e) = softOut s V e := by
  pointwise [k0_pay29]
  simp only [h]; rfl

theorem out1 (p : Vec Ideal S416x2176 .bf16) (V : Vec Ideal S2176x256 .bf16) (r : Fin 416) (s : Fin 2176 → EReal)
    (h : ∀ j, p (ix2 r j) = weight s j) (e : Fin 128) :
    k0_pay35 (F := Ideal) p V (ix3 0 r e) = softOut s V e := by
  pointwise [k0_pay35]
  simp only [h]; rfl

theorem out2 (p : Vec Ideal S416x2176 .bf16) (V : Vec Ideal S2176x256 .bf16) (r : Fin 416) (s : Fin 2176 → EReal)
    (h : ∀ j, p (ix2 r j) = weight s j) (e : Fin 128) :
    k0_pay41 (F := Ideal) p V (ix3 0 r e) = softOut s V e := by
  pointwise [k0_pay41]
  simp only [h]; rfl

theorem out3 (p : Vec Ideal S416x2176 .bf16) (V : Vec Ideal S2176x256 .bf16) (r : Fin 416) (s : Fin 2176 → EReal)
    (h : ∀ j, p (ix2 r j) = weight s j) (e : Fin 128) :
    k0_pay44 (F := Ideal) p V (ix3 0 r e) = softOut s V e := by
  pointwise [k0_pay44]
  simp only [h]; rfl

theorem out4 (p : Vec Ideal S400x2176 .bf16) (V : Vec Ideal S2176x256 .bf16) (r : Fin 400) (s : Fin 2176 → EReal)
    (h : ∀ j, p (ix2 r j) = weight s j) (e : Fin 128) :
    k0_pay1 (F := Ideal) (k0_pay46 p V) (ix3 0 r e) = softOut s V e := by
  pointwise [k0_pay1, k0_pay46]
  simp only [h]; rfl

end Out

end Mla

end
-- ==== Proof.MlaBlock.lean ====
/- What one grid point of the attention kernel leaves in its output block, in the stored keys and in the stored values, over
   the extended reals. A point with head index 0 fills both stores whole (case A); any other point fills their left halves
   and keeps the right halves of the point before (case B). In either case the output is the softmax of the scores against
   the keys store, weighting the values store, as the point leaves them. -/
module

public import proofs.«01_k».proof.Proof.MlaStages
public import proofs.«01_k».proof.Proof.Gen.KernelIdeal.Frame
public import Idealize.ShloMosaic.Lib.WritesUnit
public import Idealize.ShloMosaic.Lib.Pipeline.ReadBack

@[expose] public section

set_option maxRecDepth 16384

noncomputable section

namespace Mla

open Idealize.ShloMosaic Idealize.ShloMosaic.TcCoe Idealize.SL.Sem Cert.KernelIdeal Cert.KernelIdeal.Gen

/-- Two indices with the same coordinates are the same index. -/
theorem ix_ext2 {n0 n1 : ℕ} {a : Fin n0} {b : Fin n1} (y : (⟨2, ![n0, n1]⟩ : Shape).Idx) (h0 : (y 0).val = a.val)
    (h1 : (y 1).val = b.val) : y = ix2 a b :=
  funext fun x => Fin.ext (match x with | ⟨0, _⟩ => h0 | ⟨1, _⟩ => h1)

theorem ix_ext3 {n0 n1 n2 : ℕ} {a : Fin n0} {b : Fin n1} {d : Fin n2} (y : (⟨3, ![n0, n1, n2]⟩ : Shape).Idx)
    (h0 : (y 0).val = a.val) (h1 : (y 1).val = b.val) (h2 : (y 2).val = d.val) : y = ix3 a b d :=
  funext fun x => Fin.ext (match x with | ⟨0, _⟩ => h0 | ⟨1, _⟩ => h1 | ⟨2, _⟩ => h2)

/-- A load of a whole table reads the table. -/
theorem ld_whole (x : Vec Ideal S2064x128 .f32) :
    View.ld (Val := Elt Ideal) (e' := .f32) x (Rect.unit (s := S2064x128) ![0, 0] S2064x128.size inb_S2064x128_S2064x128_0_0) = x :=
  View.ld_unit_zero (by funext a; fin_cases a <;> rfl) _ x

/-! ## A load of one tile's rows, after that tile's two stores -/

section Pair
variable {sig' : RefSig} {κ' : Kind} {sp : Space} {e : EltTy} {Val : EltTy → Type} [∀ e, Nonempty (Val e)]

/-- The tile's scores were stored in two pieces: against the first 2048 keys, and against the last 128. -/
theorem readCov_pair {n o : ℕ} (v : View sig' κ' sp S1664x2176 e)
    (i1 : ∀ a : Fin 2, (![o, 2048] : Fin 2 → ℕ) a + (![n, 128] : Fin 2 → ℕ) a ≤ S1664x2176.size a)
    (i0 : ∀ a : Fin 2, (![o, 0] : Fin 2 → ℕ) a + (![n, 2048] : Fin 2 → ℕ) a ≤ S1664x2176.size a)
    (iB : ∀ a : Fin 2, (![o, 0] : Fin 2 → ℕ) a + (![n, 2176] : Fin 2 → ℕ) a ≤ S1664x2176.size a)
    (w1 : (⟨2, ![n, 128]⟩ : Shape).Idx → Val e) (w0 : (⟨2, ![n, 2048]⟩ : Shape).Idx → Val e)
    (L : List (View.Piece Val S1664x2176 e)) (G : Fin n → Fin 2176 → Val e)
    (h1 : ∀ (r : Fin n) (j : Fin 128), w1 (ix2 r j) = G r (tailKey j))
    (h0 : ∀ (r : Fin n) (j : Fin 2048), w0 (ix2 r j) = G r (mainKey j)) (r : Fin n) (j : Fin 2176) :
    v.readCov (⟨Rect.unit (s := S1664x2176) ![o, 2048] ![n, 128] i1, w1⟩ :: ⟨Rect.unit (s := S1664x2176) ![o, 0] ![n, 2048] i0, w0⟩ :: L)
        (Rect.unit (s := S1664x2176) ![o, 0] ![n, 2176] iB).toLoadRect (ix2 r j) = G r j := by
  have e0 : (((Rect.unit (s := S1664x2176) ![o, 0] ![n, 2176] iB).toLoadRect.idx (ix2 r j)) 0).val = o + r.val := by
    show o + 1 * r.val = _; omega
  have e1 : (((Rect.unit (s := S1664x2176) ![o, 0] ![n, 2176] iB).toLoadRect.idx (ix2 r j)) 1).val = j.val := by
    show 0 + 1 * j.val = _; omega
  by_cases hj : j.val < 2048
  · refine (View.read_writes_cons_unit_of_not_mem v _ i1 w1 _ _ rfl (1 : Fin 2) (Or.inl (e1.trans_lt hj))).trans ?_
    refine (View.read_writes_cons_unit_of_mem v _ i0 w0 L _ (ix2 r ⟨j.val, hj⟩) rfl ?_).trans (h0 r ⟨j.val, hj⟩)
    intro a
    match a with
    | ⟨0, _⟩ => exact e0
    | ⟨1, _⟩ => exact e1.trans (Nat.zero_add _).symm
  · refine (View.read_writes_cons_unit_of_mem v _ i1 w1 _ _ (ix2 r ⟨j.val - 2048, by omega⟩) rfl ?_).trans
      ((h1 r ⟨j.val - 2048, by omega⟩).trans (congrArg (G r) (Fin.ext (by show 2048 + (j.val - 2048) = j.val; omega))))
    intro a
    match a with
    | ⟨0, _⟩ => exact e0
    | ⟨1, _⟩ => exact e1.trans (show j.val = 2048 + (j.val - 2048) by omega)

end Pair

variable (c : Dev nD) (i : grid0.Coords)
  (arg2 : Memref sig .tc .vmem S1x2064x256 .bf16) (harg2 : arg2.IsWhole) (arg3 : Memref sig .tc .vmem S1x2064x256 .bf16) (harg3 : arg3.IsWhole)
  (arg4 : Memref sig .tc .vmem S1x2064x128 .bf16) (harg4 : arg4.IsWhole) (arg5 : Memref sig .tc .vmem S2064x128 .f32) (harg5 : arg5.IsWhole)
  (arg6 : Memref sig .tc .vmem S2064x128 .f32) (harg6 : arg6.IsWhole) (arg7 : Memref sig .tc .vmem S2064x128 .f32) (harg7 : arg7.IsWhole)
  (arg8 : Memref sig .tc .vmem S1x2064x128 .bf16) (harg8 : arg8.IsWhole) (arg9 : Memref sig .tc .vmem S2176x256 .bf16) (harg9 : arg9.IsWhole)
  (arg10 : Memref sig .tc .vmem S2176x256 .bf16) (harg10 : arg10.IsWhole) (arg11 : Memref sig .tc .vmem S1664x2176 .f32) (harg11 : arg11.IsWhole)
  (arg12 : Memref sig .tc .vmem S1664x2176 .bf16) (harg12 : arg12.IsWhole)
  (x0 x1 : Vec Ideal S1x2064x256 .bf16) (x2 : Vec Ideal S1x2064x128 .bf16) (x3 x4 x5 : Vec Ideal S2064x128 .f32)
  (xs0 xs1 : Vec Ideal S2176x256 .bf16)

/-- The query row `r` of a block of queries and of the three tables' rows. -/
def qRow (r : Fin 2064) : Fin 256 → EReal :=
  queryRow (fun k => x0 (ix3 0 r k)) (fun k => x3 (ix2 r k)) (fun k => x4 (ix2 r k)) (fun k => x5 (ix2 r k))

/-- The rotated key lanes of row `r`. -/
def kRow (r : Fin 2064) : Fin 128 → EReal :=
  ropeRow (fun k => x2 (ix3 0 r k)) (fun k => x3 (ix2 r k)) (fun k => x4 (ix2 r k)) (fun k => x5 (ix2 r k))

/-- The output block of a point whose stores hold the keys `K` and the values `V`. -/
def blockOut (K V : S2176x256.Idx → EReal) (y : S1x2064x128.Idx) : EReal :=
  softOut (scoreOf (qRow x0 x3 x4 x5 (y 1)) K) V (y 2)

/-! ## Case A -/

section CaseA

/-- The keys store as the point's stores leave it. -/
def keysA : S2176x256.Idx → EReal := arg9.view.read (Elt Ideal) (arg9.view.writes (Elt Ideal) arg9.view.junk (kernelRun0_A.sl.HS0_6 (F := Ideal) c arg3 harg3 arg4 harg4 arg5 harg5 arg6 harg6 arg7 harg7 x1 x2 x3 x4 x5))

/-- The values store as the point's stores leave it. -/
def valsA : S2176x256.Idx → EReal := arg10.view.read (Elt Ideal) (arg10.view.writes (Elt Ideal) arg10.view.junk (kernelRun0_A.sl.HS1_4 (F := Ideal) c arg3 harg3 x1))

/-- The queries. -/
theorem queriesA (r : Fin 2064) (k : Fin 256) :
    kernelRun0_A.sl.r (F := Ideal) c arg2 harg2 arg5 harg5 arg6 harg6 arg7 harg7 x0 x3 x4 x5 (ix2 r k) = qRow x0 x3 x4 x5 r k := by
  unfold kernelRun0_A.sl.r
  simp only [View.readAt_eq_ld, harg2.read_unread, harg5.read_unread, harg6.read_unread, harg7.read_unread]
  refine (pay15_apply _ _ _ _ _ (fun k => x0 (ix3 0 r k)) r ?_ ?_ k).trans ?_
  · intro k; exact congrArg x0 (ix_ext3 _ (by show 0 + 1 * 0 = 0; rfl) (by show 0 + 1 * r.val = r.val; omega) (by show 0 + 1 * k.val = k.val; omega))
  · intro k; exact congrArg x0 (ix_ext3 _ (by show 0 + 1 * 0 = 0; rfl) (by show 0 + 1 * r.val = r.val; omega) (by show 128 + 1 * k.val = 128 + k.val; omega))
  · rw [qRow, ld_whole x3, ld_whole x4, ld_whole x5]

/-- The two loads of keys read the keys store: its first 2048 rows, and its last 128. -/
theorem keysMainA (j : Fin 2048) (k : Fin 256) :
    (kernelRun0_A.sl.v64 (F := Ideal) c arg3 harg3 arg4 harg4 arg5 harg5 arg6 harg6 arg7 harg7 arg9 x1 x2 x3 x4 x5) (ix2 j k) = (keysA c arg3 harg3 arg4 harg4 arg5 harg5 arg6 harg6 arg7 harg7 arg9 x1 x2 x3 x4 x5) (ix2 (mainKey j) k) :=
  congrArg (keysA c arg3 harg3 arg4 harg4 arg5 harg5 arg6 harg6 arg7 harg7 arg9 x1 x2 x3 x4 x5) (ix_ext2 _ (by show 0 + 1 * j.val = j.val; omega) (by show 0 + 1 * k.val = k.val; omega))

theorem keysTailA (j : Fin 128) (k : Fin 256) :
    (kernelRun0_A.sl.v69 (F := Ideal) c arg3 harg3 arg4 harg4 arg5 harg5 arg6 harg6 arg7 harg7 arg9 x1 x2 x3 x4 x5) (ix2 j k) = (keysA c arg3 harg3 arg4 harg4 arg5 harg5 arg6 harg6 arg7 harg7 arg9 x1 x2 x3 x4 x5) (ix2 (tailKey j) k) :=
  congrArg (keysA c arg3 harg3 arg4 harg4 arg5 harg5 arg6 harg6 arg7 harg7 arg9 x1 x2 x3 x4 x5) (ix_ext2 _ (by show 2048 + 1 * j.val = 2048 + j.val; omega) (by show 0 + 1 * k.val = k.val; omega))

/-- The load of the values reads the whole values store. -/
theorem valsAllA : kernelRun0_A.sl.v116 (F := Ideal) c arg3 harg3 arg10 x1 = (valsA c arg3 harg3 arg10 x1) :=
  funext fun y => congrArg (valsA c arg3 harg3 arg10 x1) (funext fun a => Fin.ext (by
    match a with
    | ⟨0, _⟩ => show 0 + 1 * (y 0).val = (y 0).val; omega
    | ⟨1, _⟩ => show 0 + 1 * (y 1).val = (y 1).val; omega))

/-- Tile 0's scores, as loaded. -/
theorem tileA0_scores (r : Fin 416) (j : Fin 2176) :
    kernelRun0_A.sl.v105 (F := Ideal) c arg2 harg2 arg3 harg3 arg4 harg4 arg5 harg5 arg6 harg6 arg7 harg7 arg9 arg11 x0 x1 x2 x3 x4 x5 (ix2 r j)
      = scoreOf (qRow x0 x3 x4 x5 ⟨0 + r.val, by omega⟩) (keysA c arg3 harg3 arg4 harg4 arg5 harg5 arg6 harg6 arg7 harg7 arg9 x1 x2 x3 x4 x5) j := by
  have hQ : qRow x0 x3 x4 x5 ⟨0 + r.val, by omega⟩
      = fun k => kernelRun0_A.sl.r (F := Ideal) c arg2 harg2 arg5 harg5 arg6 harg6 arg7 harg7 x0 x3 x4 x5 (ix2 ⟨0 + r.val, by omega⟩ k) :=
    funext fun k => (queriesA ..).symm
  rw [hQ]
  unfold kernelRun0_A.sl.v105
  unfold kernelRun0_A.sl.HS2_6
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  refine readCov_pair (Val := Elt Ideal) (e := .f32) _ _ _ _ _ _ _
    (fun r j => scoreOf (fun k => kernelRun0_A.sl.r (F := Ideal) c arg2 harg2 arg5 harg5 arg6 harg6 arg7 harg7 x0 x3 x4 x5 (ix2 ⟨0 + r.val, by omega⟩ k)) (keysA c arg3 harg3 arg4 harg4 arg5 harg5 arg6 harg6 arg7 harg7 arg9 x1 x2 x3 x4 x5) j)
    ?_ ?_ r j
  · intro r j; exact scores0_tail _ _ _ (fun j k => keysTailA ..) r j
  · intro r j; exact scores0_main _ _ _ (fun j k => keysMainA ..) r j

/-- Tile 0's weights, as loaded. -/
theorem tileA0_weights (r : Fin 416) (j : Fin 2176) :
    kernelRun0_A.sl.v115 (F := Ideal) c arg2 harg2 arg3 harg3 arg4 harg4 arg5 harg5 arg6 harg6 arg7 harg7 arg9 arg11 arg12 x0 x1 x2 x3 x4 x5 (ix2 r j)
      = weight (scoreOf (qRow x0 x3 x4 x5 ⟨0 + r.val, by omega⟩) (keysA c arg3 harg3 arg4 harg4 arg5 harg5 arg6 harg6 arg7 harg7 arg9 x1 x2 x3 x4 x5)) j := by
  refine (congrFun (show _ = k0_pay28 (F := Ideal) (kernelRun0_A.sl.v105 c arg2 harg2 arg3 harg3 arg4 harg4 arg5 harg5 arg6 harg6 arg7 harg7 arg9 arg11 x0 x1 x2 x3 x4 x5) from View.readCov_cons_toLoadRect _ _ _ _) _).trans ?_
  refine (weights0 _ r j).trans (congrArg (weight · j) (funext fun j => tileA0_scores ..))

/-- Tile 1's scores, as loaded. -/
theorem tileA1_scores (r : Fin 416) (j : Fin 2176) :
    kernelRun0_A.sl.v139 (F := Ideal) c arg2 harg2 arg3 harg3 arg4 harg4 arg5 harg5 arg6 harg6 arg7 harg7 arg9 arg11 x0 x1 x2 x3 x4 x5 (ix2 r j)
      = scoreOf (qRow x0 x3 x4 x5 ⟨416 + r.val, by omega⟩) (keysA c arg3 harg3 arg4 harg4 arg5 harg5 arg6 harg6 arg7 harg7 arg9 x1 x2 x3 x4 x5) j := by
  have hQ : qRow x0 x3 x4 x5 ⟨416 + r.val, by omega⟩
      = fun k => kernelRun0_A.sl.r (F := Ideal) c arg2 harg2 arg5 harg5 arg6 harg6 arg7 harg7 x0 x3 x4 x5 (ix2 ⟨416 + r.val, by omega⟩ k) :=
    funext fun k => (queriesA ..).symm
  rw [hQ]
  unfold kernelRun0_A.sl.v139
  unfold kernelRun0_A.sl.HS2_8 kernelRun0_A.sl.HS2_6
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  refine readCov_pair (Val := Elt Ideal) (e := .f32) _ _ _ _ _ _ _
    (fun r j => scoreOf (fun k => kernelRun0_A.sl.r (F := Ideal) c arg2 harg2 arg5 harg5 arg6 harg6 arg7 harg7 x0 x3 x4 x5 (ix2 ⟨416 + r.val, by omega⟩ k)) (keysA c arg3 harg3 arg4 harg4 arg5 harg5 arg6 harg6 arg7 harg7 arg9 x1 x2 x3 x4 x5) j)
    ?_ ?_ r j
  · intro r j; exact scores1_tail _ _ _ (fun j k => keysTailA ..) r j
  · intro r j; exact scores1_main _ _ _ (fun j k => keysMainA ..) r j

/-- Tile 1's weights, as loaded. -/
theorem tileA1_weights (r : Fin 416) (j : Fin 2176) :
    kernelRun0_A.sl.v149 (F := Ideal) c arg2 harg2 arg3 harg3 arg4 harg4 arg5 harg5 arg6 harg6 arg7 harg7 arg9 arg11 arg12 x0 x1 x2 x3 x4 x5 (ix2 r j)
      = weight (scoreOf (qRow x0 x3 x4 x5 ⟨416 + r.val, by omega⟩) (keysA c arg3 harg3 arg4 harg4 arg5 harg5 arg6 harg6 arg7 harg7 arg9 x1 x2 x3 x4 x5)) j := by
  refine (congrFun (show _ = k0_pay34 (F := Ideal) (kernelRun0_A.sl.v139 c arg2 harg2 arg3 harg3 arg4 harg4 arg5 harg5 arg6 harg6 arg7 harg7 arg9 arg11 x0 x1 x2 x3 x4 x5) from View.readCov_cons_toLoadRect _ _ _ _) _).trans ?_
  refine (weights1 _ r j).trans (congrArg (weight · j) (funext fun j => tileA1_scores ..))

/-- Tile 2's scores, as loaded. -/
theorem tileA2_scores (r : Fin 416) (j : Fin 2176) :
    kernelRun0_A.sl.v173 (F := Ideal) c arg2 harg2 arg3 harg3 arg4 harg4 arg5 harg5 arg6 harg6 arg7 harg7 arg9 arg11 x0 x1 x2 x3 x4 x5 (ix2 r j)
      = scoreOf (qRow x0 x3 x4 x5 ⟨832 + r.val, by omega⟩) (keysA c arg3 harg3 arg4 harg4 arg5 harg5 arg6 harg6 arg7 harg7 arg9 x1 x2 x3 x4 x5) j := by
  have hQ : qRow x0 x3 x4 x5 ⟨832 + r.val, by omega⟩
      = fun k => kernelRun0_A.sl.r (F := Ideal) c arg2 harg2 arg5 harg5 arg6 harg6 arg7 harg7 x0 x3 x4 x5 (ix2 ⟨832 + r.val, by omega⟩ k) :=
    funext fun k => (queriesA ..).symm
  rw [hQ]
  unfold kernelRun0_A.sl.v173
  unfold kernelRun0_A.sl.HS2_10 kernelRun0_A.sl.HS2_8 kernelRun0_A.sl.HS2_6
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  refine readCov_pair (Val := Elt Ideal) (e := .f32) _ _ _ _ _ _ _
    (fun r j => scoreOf (fun k => kernelRun0_A.sl.r (F := Ideal) c arg2 harg2 arg5 harg5 arg6 harg6 arg7 harg7 x0 x3 x4 x5 (ix2 ⟨832 + r.val, by omega⟩ k)) (keysA c arg3 harg3 arg4 harg4 arg5 harg5 arg6 harg6 arg7 harg7 arg9 x1 x2 x3 x4 x5) j)
    ?_ ?_ r j
  · intro r j; exact scores2_tail _ _ _ (fun j k => keysTailA ..) r j
  · intro r j; exact scores2_main _ _ _ (fun j k => keysMainA ..) r j

/-- Tile 2's weights, as loaded. -/
theorem tileA2_weights (r : Fin 416) (j : Fin 2176) :
    kernelRun0_A.sl.v183 (F := Ideal) c arg2 harg2 arg3 harg3 arg4 harg4 arg5 harg5 arg6 harg6 arg7 harg7 arg9 arg11 arg12 x0 x1 x2 x3 x4 x5 (ix2 r j)
      = weight (scoreOf (qRow x0 x3 x4 x5 ⟨832 + r.val, by omega⟩) (keysA c arg3 harg3 arg4 harg4 arg5 harg5 arg6 harg6 arg7 harg7 arg9 x1 x2 x3 x4 x5)) j := by
  refine (congrFun (show _ = k0_pay40 (F := Ideal) (kernelRun0_A.sl.v173 c arg2 harg2 arg3 harg3 arg4 harg4 arg5 harg5 arg6 harg6 arg7 harg7 arg9 arg11 x0 x1 x2 x3 x4 x5) from View.readCov_cons_toLoadRect _ _ _ _) _).trans ?_
  refine (weights2 _ r j).trans (congrArg (weight · j) (funext fun j => tileA2_scores ..))

/-- Tile 3's scores, as loaded. -/
theorem tileA3_scores (r : Fin 416) (j : Fin 2176) :
    kernelRun0_A.sl.v193 (F := Ideal) c arg2 harg2 arg3 harg3 arg4 harg4 arg5 harg5 arg6 harg6 arg7 harg7 arg9 arg11 x0 x1 x2 x3 x4 x5 (ix2 r j)
      = scoreOf (qRow x0 x3 x4 x5 ⟨1248 + r.val, by omega⟩) (keysA c arg3 harg3 arg4 harg4 arg5 harg5 arg6 harg6 arg7 harg7 arg9 x1 x2 x3 x4 x5) j := by
  have hQ : qRow x0 x3 x4 x5 ⟨1248 + r.val, by omega⟩
      = fun k => kernelRun0_A.sl.r (F := Ideal) c arg2 harg2 arg5 harg5 arg6 harg6 arg7 harg7 x0 x3 x4 x5 (ix2 ⟨1248 + r.val, by omega⟩ k) :=
    funext fun k => (queriesA ..).symm
  rw [hQ]
  unfold kernelRun0_A.sl.v193
  unfold kernelRun0_A.sl.HS2_10 kernelRun0_A.sl.HS2_8
  rw [View.readCov_skip _ _ _ _ _ (by decide +kernel)]
  rw [View.readCov_skip _ _ _ _ _ (by decide +kernel)]
  refine readCov_pair (Val := Elt Ideal) (e := .f32) _ _ _ _ _ _ _
    (fun r j => scoreOf (fun k => kernelRun0_A.sl.r (F := Ideal) c arg2 harg2 arg5 harg5 arg6 harg6 arg7 harg7 x0 x3 x4 x5 (ix2 ⟨1248 + r.val, by omega⟩ k)) (keysA c arg3 harg3 arg4 harg4 arg5 harg5 arg6 harg6 arg7 harg7 arg9 x1 x2 x3 x4 x5) j)
    ?_ ?_ r j
  · intro r j; exact scores3_tail _ _ _ (fun j k => keysTailA ..) r j
  · intro r j; exact scores3_main _ _ _ (fun j k => keysMainA ..) r j

/-- Tile 3's weights, as loaded. -/
theorem tileA3_weights (r : Fin 416) (j : Fin 2176) :
    kernelRun0_A.sl.v203 (F := Ideal) c arg2 harg2 arg3 harg3 arg4 harg4 arg5 harg5 arg6 harg6 arg7 harg7 arg9 arg11 arg12 x0 x1 x2 x3 x4 x5 (ix2 r j)
      = weight (scoreOf (qRow x0 x3 x4 x5 ⟨1248 + r.val, by omega⟩) (keysA c arg3 harg3 arg4 harg4 arg5 harg5 arg6 harg6 arg7 harg7 arg9 x1 x2 x3 x4 x5)) j := by
  refine (congrFun (show _ = k0_pay43 (F := Ideal) (kernelRun0_A.sl.v193 c arg2 harg2 arg3 harg3 arg4 harg4 arg5 harg5 arg6 harg6 arg7 harg7 arg9 arg11 x0 x1 x2 x3 x4 x5) (k0_pay42 (kernelRun0_A.sl.v193 c arg2 harg2 arg3 harg3 arg4 harg4 arg5 harg5 arg6 harg6 arg7 harg7 arg9 arg11 x0 x1 x2 x3 x4 x5)) from View.readCov_cons_toLoadRect _ _ _ _) _).trans ?_
  refine (weights3 _ r j).trans (congrArg (weight · j) (funext fun j => tileA3_scores ..))

/-- Tile 4's scores, as loaded. -/
theorem tileA4_scores (r : Fin 400) (j : Fin 2176) :
    kernelRun0_A.sl.v213 (F := Ideal) c arg2 harg2 arg3 harg3 arg4 harg4 arg5 harg5 arg6 harg6 arg7 harg7 arg9 arg11 x0 x1 x2 x3 x4 x5 (ix2 r j)
      = scoreOf (qRow x0 x3 x4 x5 ⟨1664 + r.val, by omega⟩) (keysA c arg3 harg3 arg4 harg4 arg5 harg5 arg6 harg6 arg7 harg7 arg9 x1 x2 x3 x4 x5) j := by
  have hQ : qRow x0 x3 x4 x5 ⟨1664 + r.val, by omega⟩
      = fun k => kernelRun0_A.sl.r (F := Ideal) c arg2 harg2 arg5 harg5 arg6 harg6 arg7 harg7 x0 x3 x4 x5 (ix2 ⟨1664 + r.val, by omega⟩ k) :=
    funext fun k => (queriesA ..).symm
  rw [hQ]
  unfold kernelRun0_A.sl.v213
  unfold kernelRun0_A.sl.HS2_10
  refine readCov_pair (Val := Elt Ideal) (e := .f32) _ _ _ _ _ _ _
    (fun r j => scoreOf (fun k => kernelRun0_A.sl.r (F := Ideal) c arg2 harg2 arg5 harg5 arg6 harg6 arg7 harg7 x0 x3 x4 x5 (ix2 ⟨1664 + r.val, by omega⟩ k)) (keysA c arg3 harg3 arg4 harg4 arg5 harg5 arg6 harg6 arg7 harg7 arg9 x1 x2 x3 x4 x5) j)
    ?_ ?_ r j
  · intro r j; exact scores4_tail _ _ _ (fun j k => keysTailA ..) r j
  · intro r j; exact scores4_main _ _ _ (fun j k => keysMainA ..) r j

/-- Tile 4's weights, as loaded. -/
theorem tileA4_weights (r : Fin 400) (j : Fin 2176) :
    kernelRun0_A.sl.v223 (F := Ideal) c arg2 harg2 arg3 harg3 arg4 harg4 arg5 harg5 arg6 harg6 arg7 harg7 arg9 arg11 arg12 x0 x1 x2 x3 x4 x5 (ix2 r j)
      = weight (scoreOf (qRow x0 x3 x4 x5 ⟨1664 + r.val, by omega⟩) (keysA c arg3 harg3 arg4 harg4 arg5 harg5 arg6 harg6 arg7 harg7 arg9 x1 x2 x3 x4 x5)) j := by
  refine (congrFun (show _ = k0_pay45 (F := Ideal) (kernelRun0_A.sl.v213 c arg2 harg2 arg3 harg3 arg4 harg4 arg5 harg5 arg6 harg6 arg7 harg7 arg9 arg11 x0 x1 x2 x3 x4 x5) from View.readCov_cons_toLoadRect _ _ _ _) _).trans ?_
  refine (weights4 _ r j).trans (congrArg (weight · j) (funext fun j => tileA4_scores ..))

/-- THE POINT'S OUTPUT: at row `r` and lane `e`, the softmax of the row's scores, weighting the values. -/
theorem outBlockA (hc0 : cond0_0 i) (r : Fin 2064) (e : Fin 128) :
    out0_A_6 (F := Ideal) c i arg2 harg2 arg3 harg3 arg4 harg4 arg5 harg5 arg6 harg6 arg7 harg7 arg8 harg8 arg9 harg9 arg10 harg10 arg11 harg11 arg12 harg12 hc0 x0 x1 x2 x3 x4 x5 (ix3 0 r e)
      = softOut (scoreOf (qRow x0 x3 x4 x5 r) (keysA c arg3 harg3 arg4 harg4 arg5 harg5 arg6 harg6 arg7 harg7 arg9 x1 x2 x3 x4 x5)) (valsA c arg3 harg3 arg10 x1) e := by
  refine (congrFun (View.read_writes_junk_eq_canon (Val := Elt Ideal) VO0_6 (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5).1) (ix3 0 r e)).trans ?_
  refine View.canon_apply_of_pieces (Val := Elt Ideal) (e := .bf16) (blockOut x0 x3 x4 x5 (keysA c arg3 harg3 arg4 harg4 arg5 harg5 arg6 harg6 arg7 harg7 arg9 x1 x2 x3 x4 x5) (valsA c arg3 harg3 arg10 x1)) _
    (View.PiecesOf.mem (Val := Elt Ideal) (e := .bf16) (G := blockOut x0 x3 x4 x5 (keysA c arg3 harg3 arg4 harg4 arg5 harg5 arg6 harg6 arg7 harg7 arg9 x1 x2 x3 x4 x5) (valsA c arg3 harg3 arg10 x1)) ?_) (ix3 0 r e) (cover0_A_6 c i arg2 harg2 arg3 harg3 arg4 harg4 arg5 harg5 arg6 harg6 arg7 harg7 arg8 harg8 arg9 harg9 arg10 harg10 arg11 harg11 arg12 harg12 hc0 x0 x1 x2 x3 x4 x5 _)
  refine ⟨?_, ?_, ?_, ?_, ?_, trivial⟩
  · intro y
    obtain ⟨r, e, rfl⟩ : ∃ (r : Fin 400) (e : Fin 128), y = ix3 (n0 := 1) 0 r e := ⟨y 1, y 2, ix_ext3 (n0 := 1) (n1 := 400) (n2 := 128) (a := 0) (b := y 1) (d := y 2) y (Nat.lt_one_iff.mp (y 0).isLt) rfl rfl⟩
    refine (out4 _ _ r _ (fun j => tileA4_weights c arg2 harg2 arg3 harg3 arg4 harg4 arg5 harg5 arg6 harg6 arg7 harg7 arg9 arg11 arg12 x0 x1 x2 x3 x4 x5 r j) e).trans ?_
    rw [valsAllA]
    exact congrArg₂ (fun (r : Fin 2064) (e : Fin 128) => softOut (scoreOf (qRow x0 x3 x4 x5 r) (keysA c arg3 harg3 arg4 harg4 arg5 harg5 arg6 harg6 arg7 harg7 arg9 x1 x2 x3 x4 x5)) (valsA c arg3 harg3 arg10 x1) e)
      (Fin.ext (by show 1664 + r.val = 1664 + 1 * r.val; omega)) (Fin.ext (by show e.val = 0 + 1 * e.val; omega))
  · intro y
    obtain ⟨r, e, rfl⟩ : ∃ (r : Fin 416) (e : Fin 128), y = ix3 (n0 := 1) 0 r e := ⟨y 1, y 2, ix_ext3 (n0 := 1) (n1 := 416) (n2 := 128) (a := 0) (b := y 1) (d := y 2) y (Nat.lt_one_iff.mp (y 0).isLt) rfl rfl⟩
    refine (out3 _ _ r _ (fun j => tileA3_weights c arg2 harg2 arg3 harg3 arg4 harg4 arg5 harg5 arg6 harg6 arg7 harg7 arg9 arg11 arg12 x0 x1 x2 x3 x4 x5 r j) e).trans ?_
    rw [valsAllA]
    exact congrArg₂ (fun (r : Fin 2064) (e : Fin 128) => softOut (scoreOf (qRow x0 x3 x4 x5 r) (keysA c arg3 harg3 arg4 harg4 arg5 harg5 arg6 harg6 arg7 harg7 arg9 x1 x2 x3 x4 x5)) (valsA c arg3 harg3 arg10 x1) e)
      (Fin.ext (by show 1248 + r.val = 1248 + 1 * r.val; omega)) (Fin.ext (by show e.val = 0 + 1 * e.val; omega))
  · intro y
    obtain ⟨r, e, rfl⟩ : ∃ (r : Fin 416) (e : Fin 128), y = ix3 (n0 := 1) 0 r e := ⟨y 1, y 2, ix_ext3 (n0 := 1) (n1 := 416) (n2 := 128) (a := 0) (b := y 1) (d := y 2) y (Nat.lt_one_iff.mp (y 0).isLt) rfl rfl⟩
    refine (out2 _ _ r _ (fun j => tileA2_weights c arg2 harg2 arg3 harg3 arg4 harg4 arg5 harg5 arg6 harg6 arg7 harg7 arg9 arg11 arg12 x0 x1 x2 x3 x4 x5 r j) e).trans ?_
    rw [valsAllA]
    exact congrArg₂ (fun (r : Fin 2064) (e : Fin 128) => softOut (scoreOf (qRow x0 x3 x4 x5 r) (keysA c arg3 harg3 arg4 harg4 arg5 harg5 arg6 harg6 arg7 harg7 arg9 x1 x2 x3 x4 x5)) (valsA c arg3 harg3 arg10 x1) e)
      (Fin.ext (by show 832 + r.val = 832 + 1 * r.val; omega)) (Fin.ext (by show e.val = 0 + 1 * e.val; omega))
  · intro y
    obtain ⟨r, e, rfl⟩ : ∃ (r : Fin 416) (e : Fin 128), y = ix3 (n0 := 1) 0 r e := ⟨y 1, y 2, ix_ext3 (n0 := 1) (n1 := 416) (n2 := 128) (a := 0) (b := y 1) (d := y 2) y (Nat.lt_one_iff.mp (y 0).isLt) rfl rfl⟩
    refine (out1 _ _ r _ (fun j => tileA1_weights c arg2 harg2 arg3 harg3 arg4 harg4 arg5 harg5 arg6 harg6 arg7 harg7 arg9 arg11 arg12 x0 x1 x2 x3 x4 x5 r j) e).trans ?_
    rw [valsAllA]
    exact congrArg₂ (fun (r : Fin 2064) (e : Fin 128) => softOut (scoreOf (qRow x0 x3 x4 x5 r) (keysA c arg3 harg3 arg4 harg4 arg5 harg5 arg6 harg6 arg7 harg7 arg9 x1 x2 x3 x4 x5)) (valsA c arg3 harg3 arg10 x1) e)
      (Fin.ext (by show 416 + r.val = 416 + 1 * r.val; omega)) (Fin.ext (by show e.val = 0 + 1 * e.val; omega))
  · intro y
    obtain ⟨r, e, rfl⟩ : ∃ (r : Fin 416) (e : Fin 128), y = ix3 (n0 := 1) 0 r e := ⟨y 1, y 2, ix_ext3 (n0 := 1) (n1 := 416) (n2 := 128) (a := 0) (b := y 1) (d := y 2) y (Nat.lt_one_iff.mp (y 0).isLt) rfl rfl⟩
    refine (out0 _ _ r _ (fun j => tileA0_weights c arg2 harg2 arg3 harg3 arg4 harg4 arg5 harg5 arg6 harg6 arg7 harg7 arg9 arg11 arg12 x0 x1 x2 x3 x4 x5 r j) e).trans ?_
    rw [valsAllA]
    exact congrArg₂ (fun (r : Fin 2064) (e : Fin 128) => softOut (scoreOf (qRow x0 x3 x4 x5 r) (keysA c arg3 harg3 arg4 harg4 arg5 harg5 arg6 harg6 arg7 harg7 arg9 x1 x2 x3 x4 x5)) (valsA c arg3 harg3 arg10 x1) e)
      (Fin.ext (by show 0 + r.val = 0 + 1 * r.val; omega)) (Fin.ext (by show e.val = 0 + 1 * e.val; omega))

end CaseA

/-! ## Case B -/

section CaseB

/-- The keys store as the point's stores leave it. -/
def keysB : S2176x256.Idx → EReal := arg9.view.read (Elt Ideal) (arg9.view.writes (Elt Ideal) (harg9.unread xs0) (kernelRun0_B.sl.HS0_3 (F := Ideal) c arg3 harg3 x1))

/-- The values store as the point's stores leave it. -/
def valsB : S2176x256.Idx → EReal := arg10.view.read (Elt Ideal) (arg10.view.writes (Elt Ideal) (harg10.unread xs1) (kernelRun0_B.sl.HS1_3 (F := Ideal) c arg3 harg3 x1))

/-- The queries. -/
theorem queriesB (r : Fin 2064) (k : Fin 256) :
    kernelRun0_B.sl.r (F := Ideal) c arg2 harg2 arg5 harg5 arg6 harg6 arg7 harg7 x0 x3 x4 x5 (ix2 r k) = qRow x0 x3 x4 x5 r k := by
  unfold kernelRun0_B.sl.r
  simp only [View.readAt_eq_ld, harg2.read_unread, harg5.read_unread, harg6.read_unread, harg7.read_unread]
  refine (pay15_apply _ _ _ _ _ (fun k => x0 (ix3 0 r k)) r ?_ ?_ k).trans ?_
  · intro k; exact congrArg x0 (ix_ext3 _ (by show 0 + 1 * 0 = 0; rfl) (by show 0 + 1 * r.val = r.val; omega) (by show 0 + 1 * k.val = k.val; omega))
  · intro k; exact congrArg x0 (ix_ext3 _ (by show 0 + 1 * 0 = 0; rfl) (by show 0 + 1 * r.val = r.val; omega) (by show 128 + 1 * k.val = 128 + k.val; omega))
  · rw [qRow, ld_whole x3, ld_whole x4, ld_whole x5]

/-- The two loads of keys read the keys store: its first 2048 rows, and its last 128. -/
theorem keysMainB (j : Fin 2048) (k : Fin 256) :
    (View.readAt (Elt Ideal) arg9.view (Rect.unit (s := S2176x256) ![0, 0] S2048x256.size inb_S2176x256_S2048x256_0_0).toLoadRect (arg9.view.writes (Elt Ideal) (harg9.unread xs0) (kernelRun0_B.sl.HS0_3 (F := Ideal) c arg3 harg3 x1))) (ix2 j k) = (keysB c arg3 harg3 arg9 harg9 x1 xs0) (ix2 (mainKey j) k) :=
  congrArg (keysB c arg3 harg3 arg9 harg9 x1 xs0) (ix_ext2 _ (by show 0 + 1 * j.val = j.val; omega) (by show 0 + 1 * k.val = k.val; omega))

theorem keysTailB (j : Fin 128) (k : Fin 256) :
    (View.readAt (Elt Ideal) arg9.view (Rect.unit (s := S2176x256) ![2048, 0] S128x256.size inb_S2176x256_S128x256_2048_0).toLoadRect (arg9.view.writes (Elt Ideal) (harg9.unread xs0) (kernelRun0_B.sl.HS0_3 (F := Ideal) c arg3 harg3 x1))) (ix2 j k) = (keysB c arg3 harg3 arg9 harg9 x1 xs0) (ix2 (tailKey j) k) :=
  congrArg (keysB c arg3 harg3 arg9 harg9 x1 xs0) (ix_ext2 _ (by show 2048 + 1 * j.val = 2048 + j.val; omega) (by show 0 + 1 * k.val = k.val; omega))

/-- The load of the values reads the whole values store. -/
theorem valsAllB : View.readAt (Elt Ideal) arg10.view (Rect.unit (s := S2176x256) ![0, 0] S2176x256.size inb_S2176x256_S2176x256_0_0).toLoadRect (arg10.view.writes (Elt Ideal) (harg10.unread xs1) (kernelRun0_B.sl.HS1_3 (F := Ideal) c arg3 harg3 x1)) = (valsB c arg3 harg3 arg10 harg10 x1 xs1) :=
  funext fun y => congrArg (valsB c arg3 harg3 arg10 harg10 x1 xs1) (funext fun a => Fin.ext (by
    match a with
    | ⟨0, _⟩ => show 0 + 1 * (y 0).val = (y 0).val; omega
    | ⟨1, _⟩ => show 0 + 1 * (y 1).val = (y 1).val; omega))

/-- Tile 0's scores, as loaded. -/
theorem tileB0_scores (r : Fin 416) (j : Fin 2176) :
    kernelRun0_B.sl.v105 (F := Ideal) c arg2 harg2 arg3 harg3 arg5 harg5 arg6 harg6 arg7 harg7 arg9 harg9 arg11 x0 x1 x3 x4 x5 xs0 (ix2 r j)
      = scoreOf (qRow x0 x3 x4 x5 ⟨0 + r.val, by omega⟩) (keysB c arg3 harg3 arg9 harg9 x1 xs0) j := by
  have hQ : qRow x0 x3 x4 x5 ⟨0 + r.val, by omega⟩
      = fun k => kernelRun0_B.sl.r (F := Ideal) c arg2 harg2 arg5 harg5 arg6 harg6 arg7 harg7 x0 x3 x4 x5 (ix2 ⟨0 + r.val, by omega⟩ k) :=
    funext fun k => (queriesB ..).symm
  rw [hQ]
  unfold kernelRun0_B.sl.v105
  unfold kernelRun0_B.sl.HS2_6
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  refine readCov_pair (Val := Elt Ideal) (e := .f32) _ _ _ _ _ _ _
    (fun r j => scoreOf (fun k => kernelRun0_B.sl.r (F := Ideal) c arg2 harg2 arg5 harg5 arg6 harg6 arg7 harg7 x0 x3 x4 x5 (ix2 ⟨0 + r.val, by omega⟩ k)) (keysB c arg3 harg3 arg9 harg9 x1 xs0) j)
    ?_ ?_ r j
  · intro r j; exact scores0_tail _ _ _ (fun j k => keysTailB ..) r j
  · intro r j; exact scores0_main _ _ _ (fun j k => keysMainB ..) r j

/-- Tile 0's weights, as loaded. -/
theorem tileB0_weights (r : Fin 416) (j : Fin 2176) :
    kernelRun0_B.sl.v115 (F := Ideal) c arg2 harg2 arg3 harg3 arg5 harg5 arg6 harg6 arg7 harg7 arg9 harg9 arg11 arg12 x0 x1 x3 x4 x5 xs0 (ix2 r j)
      = weight (scoreOf (qRow x0 x3 x4 x5 ⟨0 + r.val, by omega⟩) (keysB c arg3 harg3 arg9 harg9 x1 xs0)) j := by
  refine (congrFun (show _ = k0_pay28 (F := Ideal) (kernelRun0_B.sl.v105 c arg2 harg2 arg3 harg3 arg5 harg5 arg6 harg6 arg7 harg7 arg9 harg9 arg11 x0 x1 x3 x4 x5 xs0) from View.readCov_cons_toLoadRect _ _ _ _) _).trans ?_
  refine (weights0 _ r j).trans (congrArg (weight · j) (funext fun j => tileB0_scores ..))

/-- Tile 1's scores, as loaded. -/
theorem tileB1_scores (r : Fin 416) (j : Fin 2176) :
    kernelRun0_B.sl.v139 (F := Ideal) c arg2 harg2 arg3 harg3 arg5 harg5 arg6 harg6 arg7 harg7 arg9 harg9 arg11 x0 x1 x3 x4 x5 xs0 (ix2 r j)
      = scoreOf (qRow x0 x3 x4 x5 ⟨416 + r.val, by omega⟩) (keysB c arg3 harg3 arg9 harg9 x1 xs0) j := by
  have hQ : qRow x0 x3 x4 x5 ⟨416 + r.val, by omega⟩
      = fun k => kernelRun0_B.sl.r (F := Ideal) c arg2 harg2 arg5 harg5 arg6 harg6 arg7 harg7 x0 x3 x4 x5 (ix2 ⟨416 + r.val, by omega⟩ k) :=
    funext fun k => (queriesB ..).symm
  rw [hQ]
  unfold kernelRun0_B.sl.v139
  unfold kernelRun0_B.sl.HS2_8 kernelRun0_B.sl.HS2_6
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  refine readCov_pair (Val := Elt Ideal) (e := .f32) _ _ _ _ _ _ _
    (fun r j => scoreOf (fun k => kernelRun0_B.sl.r (F := Ideal) c arg2 harg2 arg5 harg5 arg6 harg6 arg7 harg7 x0 x3 x4 x5 (ix2 ⟨416 + r.val, by omega⟩ k)) (keysB c arg3 harg3 arg9 harg9 x1 xs0) j)
    ?_ ?_ r j
  · intro r j; exact scores1_tail _ _ _ (fun j k => keysTailB ..) r j
  · intro r j; exact scores1_main _ _ _ (fun j k => keysMainB ..) r j

/-- Tile 1's weights, as loaded. -/
theorem tileB1_weights (r : Fin 416) (j : Fin 2176) :
    kernelRun0_B.sl.v149 (F := Ideal) c arg2 harg2 arg3 harg3 arg5 harg5 arg6 harg6 arg7 harg7 arg9 harg9 arg11 arg12 x0 x1 x3 x4 x5 xs0 (ix2 r j)
      = weight (scoreOf (qRow x0 x3 x4 x5 ⟨416 + r.val, by omega⟩) (keysB c arg3 harg3 arg9 harg9 x1 xs0)) j := by
  refine (congrFun (show _ = k0_pay34 (F := Ideal) (kernelRun0_B.sl.v139 c arg2 harg2 arg3 harg3 arg5 harg5 arg6 harg6 arg7 harg7 arg9 harg9 arg11 x0 x1 x3 x4 x5 xs0) from View.readCov_cons_toLoadRect _ _ _ _) _).trans ?_
  refine (weights1 _ r j).trans (congrArg (weight · j) (funext fun j => tileB1_scores ..))

/-- Tile 2's scores, as loaded. -/
theorem tileB2_scores (r : Fin 416) (j : Fin 2176) :
    kernelRun0_B.sl.v173 (F := Ideal) c arg2 harg2 arg3 harg3 arg5 harg5 arg6 harg6 arg7 harg7 arg9 harg9 arg11 x0 x1 x3 x4 x5 xs0 (ix2 r j)
      = scoreOf (qRow x0 x3 x4 x5 ⟨832 + r.val, by omega⟩) (keysB c arg3 harg3 arg9 harg9 x1 xs0) j := by
  have hQ : qRow x0 x3 x4 x5 ⟨832 + r.val, by omega⟩
      = fun k => kernelRun0_B.sl.r (F := Ideal) c arg2 harg2 arg5 harg5 arg6 harg6 arg7 harg7 x0 x3 x4 x5 (ix2 ⟨832 + r.val, by omega⟩ k) :=
    funext fun k => (queriesB ..).symm
  rw [hQ]
  unfold kernelRun0_B.sl.v173
  unfold kernelRun0_B.sl.HS2_10 kernelRun0_B.sl.HS2_8 kernelRun0_B.sl.HS2_6
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  refine readCov_pair (Val := Elt Ideal) (e := .f32) _ _ _ _ _ _ _
    (fun r j => scoreOf (fun k => kernelRun0_B.sl.r (F := Ideal) c arg2 harg2 arg5 harg5 arg6 harg6 arg7 harg7 x0 x3 x4 x5 (ix2 ⟨832 + r.val, by omega⟩ k)) (keysB c arg3 harg3 arg9 harg9 x1 xs0) j)
    ?_ ?_ r j
  · intro r j; exact scores2_tail _ _ _ (fun j k => keysTailB ..) r j
  · intro r j; exact scores2_main _ _ _ (fun j k => keysMainB ..) r j

/-- Tile 2's weights, as loaded. -/
theorem tileB2_weights (r : Fin 416) (j : Fin 2176) :
    kernelRun0_B.sl.v183 (F := Ideal) c arg2 harg2 arg3 harg3 arg5 harg5 arg6 harg6 arg7 harg7 arg9 harg9 arg11 arg12 x0 x1 x3 x4 x5 xs0 (ix2 r j)
      = weight (scoreOf (qRow x0 x3 x4 x5 ⟨832 + r.val, by omega⟩) (keysB c arg3 harg3 arg9 harg9 x1 xs0)) j := by
  refine (congrFun (show _ = k0_pay40 (F := Ideal) (kernelRun0_B.sl.v173 c arg2 harg2 arg3 harg3 arg5 harg5 arg6 harg6 arg7 harg7 arg9 harg9 arg11 x0 x1 x3 x4 x5 xs0) from View.readCov_cons_toLoadRect _ _ _ _) _).trans ?_
  refine (weights2 _ r j).trans (congrArg (weight · j) (funext fun j => tileB2_scores ..))

/-- Tile 3's scores, as loaded. -/
theorem tileB3_scores (r : Fin 416) (j : Fin 2176) :
    kernelRun0_B.sl.v193 (F := Ideal) c arg2 harg2 arg3 harg3 arg5 harg5 arg6 harg6 arg7 harg7 arg9 harg9 arg11 x0 x1 x3 x4 x5 xs0 (ix2 r j)
      = scoreOf (qRow x0 x3 x4 x5 ⟨1248 + r.val, by omega⟩) (keysB c arg3 harg3 arg9 harg9 x1 xs0) j := by
  have hQ : qRow x0 x3 x4 x5 ⟨1248 + r.val, by omega⟩
      = fun k => kernelRun0_B.sl.r (F := Ideal) c arg2 harg2 arg5 harg5 arg6 harg6 arg7 harg7 x0 x3 x4 x5 (ix2 ⟨1248 + r.val, by omega⟩ k) :=
    funext fun k => (queriesB ..).symm
  rw [hQ]
  unfold kernelRun0_B.sl.v193
  unfold kernelRun0_B.sl.HS2_10 kernelRun0_B.sl.HS2_8
  rw [View.readCov_skip _ _ _ _ _ (by decide +kernel)]
  rw [View.readCov_skip _ _ _ _ _ (by decide +kernel)]
  refine readCov_pair (Val := Elt Ideal) (e := .f32) _ _ _ _ _ _ _
    (fun r j => scoreOf (fun k => kernelRun0_B.sl.r (F := Ideal) c arg2 harg2 arg5 harg5 arg6 harg6 arg7 harg7 x0 x3 x4 x5 (ix2 ⟨1248 + r.val, by omega⟩ k)) (keysB c arg3 harg3 arg9 harg9 x1 xs0) j)
    ?_ ?_ r j
  · intro r j; exact scores3_tail _ _ _ (fun j k => keysTailB ..) r j
  · intro r j; exact scores3_main _ _ _ (fun j k => keysMainB ..) r j

/-- Tile 3's weights, as loaded. -/
theorem tileB3_weights (r : Fin 416) (j : Fin 2176) :
    kernelRun0_B.sl.v203 (F := Ideal) c arg2 harg2 arg3 harg3 arg5 harg5 arg6 harg6 arg7 harg7 arg9 harg9 arg11 arg12 x0 x1 x3 x4 x5 xs0 (ix2 r j)
      = weight (scoreOf (qRow x0 x3 x4 x5 ⟨1248 + r.val, by omega⟩) (keysB c arg3 harg3 arg9 harg9 x1 xs0)) j := by
  refine (congrFun (show _ = k0_pay43 (F := Ideal) (kernelRun0_B.sl.v193 c arg2 harg2 arg3 harg3 arg5 harg5 arg6 harg6 arg7 harg7 arg9 harg9 arg11 x0 x1 x3 x4 x5 xs0) (k0_pay42 (kernelRun0_B.sl.v193 c arg2 harg2 arg3 harg3 arg5 harg5 arg6 harg6 arg7 harg7 arg9 harg9 arg11 x0 x1 x3 x4 x5 xs0)) from View.readCov_cons_toLoadRect _ _ _ _) _).trans ?_
  refine (weights3 _ r j).trans (congrArg (weight · j) (funext fun j => tileB3_scores ..))

/-- Tile 4's scores, as loaded. -/
theorem tileB4_scores (r : Fin 400) (j : Fin 2176) :
    kernelRun0_B.sl.v213 (F := Ideal) c arg2 harg2 arg3 harg3 arg5 harg5 arg6 harg6 arg7 harg7 arg9 harg9 arg11 x0 x1 x3 x4 x5 xs0 (ix2 r j)
      = scoreOf (qRow x0 x3 x4 x5 ⟨1664 + r.val, by omega⟩) (keysB c arg3 harg3 arg9 harg9 x1 xs0) j := by
  have hQ : qRow x0 x3 x4 x5 ⟨1664 + r.val, by omega⟩
      = fun k => kernelRun0_B.sl.r (F := Ideal) c arg2 harg2 arg5 harg5 arg6 harg6 arg7 harg7 x0 x3 x4 x5 (ix2 ⟨1664 + r.val, by omega⟩ k) :=
    funext fun k => (queriesB ..).symm
  rw [hQ]
  unfold kernelRun0_B.sl.v213
  unfold kernelRun0_B.sl.HS2_10
  refine readCov_pair (Val := Elt Ideal) (e := .f32) _ _ _ _ _ _ _
    (fun r j => scoreOf (fun k => kernelRun0_B.sl.r (F := Ideal) c arg2 harg2 arg5 harg5 arg6 harg6 arg7 harg7 x0 x3 x4 x5 (ix2 ⟨1664 + r.val, by omega⟩ k)) (keysB c arg3 harg3 arg9 harg9 x1 xs0) j)
    ?_ ?_ r j
  · intro r j; exact scores4_tail _ _ _ (fun j k => keysTailB ..) r j
  · intro r j; exact scores4_main _ _ _ (fun j k => keysMainB ..) r j

/-- Tile 4's weights, as loaded. -/
theorem tileB4_weights (r : Fin 400) (j : Fin 2176) :
    kernelRun0_B.sl.v223 (F := Ideal) c arg2 harg2 arg3 harg3 arg5 harg5 arg6 harg6 arg7 harg7 arg9 harg9 arg11 arg12 x0 x1 x3 x4 x5 xs0 (ix2 r j)
      = weight (scoreOf (qRow x0 x3 x4 x5 ⟨1664 + r.val, by omega⟩) (keysB c arg3 harg3 arg9 harg9 x1 xs0)) j := by
  refine (congrFun (show _ = k0_pay45 (F := Ideal) (kernelRun0_B.sl.v213 c arg2 harg2 arg3 harg3 arg5 harg5 arg6 harg6 arg7 harg7 arg9 harg9 arg11 x0 x1 x3 x4 x5 xs0) from View.readCov_cons_toLoadRect _ _ _ _) _).trans ?_
  refine (weights4 _ r j).trans (congrArg (weight · j) (funext fun j => tileB4_scores ..))

/-- THE POINT'S OUTPUT: at row `r` and lane `e`, the softmax of the row's scores, weighting the values. -/
theorem outBlockB (hc0 : ¬cond0_0 i) (r : Fin 2064) (e : Fin 128) :
    out0_B_6 (F := Ideal) c i arg2 harg2 arg3 harg3 arg4 harg4 arg5 harg5 arg6 harg6 arg7 harg7 arg8 harg8 arg9 harg9 arg10 harg10 arg11 harg11 arg12 harg12 hc0 x0 x1 x2 x3 x4 x5 xs0 xs1 (ix3 0 r e)
      = softOut (scoreOf (qRow x0 x3 x4 x5 r) (keysB c arg3 harg3 arg9 harg9 x1 xs0)) (valsB c arg3 harg3 arg10 harg10 x1 xs1) e := by
  refine (congrFun (View.read_writes_junk_eq_canon (Val := Elt Ideal) VO0_6 (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 xs0 xs1).1) (ix3 0 r e)).trans ?_
  refine View.canon_apply_of_pieces (Val := Elt Ideal) (e := .bf16) (blockOut x0 x3 x4 x5 (keysB c arg3 harg3 arg9 harg9 x1 xs0) (valsB c arg3 harg3 arg10 harg10 x1 xs1)) _
    (View.PiecesOf.mem (Val := Elt Ideal) (e := .bf16) (G := blockOut x0 x3 x4 x5 (keysB c arg3 harg3 arg9 harg9 x1 xs0) (valsB c arg3 harg3 arg10 harg10 x1 xs1)) ?_) (ix3 0 r e) (cover0_B_6 c i arg2 harg2 arg3 harg3 arg4 harg4 arg5 harg5 arg6 harg6 arg7 harg7 arg8 harg8 arg9 harg9 arg10 harg10 arg11 harg11 arg12 harg12 hc0 x0 x1 x2 x3 x4 x5 xs0 xs1 _)
  refine ⟨?_, ?_, ?_, ?_, ?_, trivial⟩
  · intro y
    obtain ⟨r, e, rfl⟩ : ∃ (r : Fin 400) (e : Fin 128), y = ix3 (n0 := 1) 0 r e := ⟨y 1, y 2, ix_ext3 (n0 := 1) (n1 := 400) (n2 := 128) (a := 0) (b := y 1) (d := y 2) y (Nat.lt_one_iff.mp (y 0).isLt) rfl rfl⟩
    refine (out4 _ _ r _ (fun j => tileB4_weights c arg2 harg2 arg3 harg3 arg5 harg5 arg6 harg6 arg7 harg7 arg9 harg9 arg11 arg12 x0 x1 x3 x4 x5 xs0 r j) e).trans ?_
    rw [valsAllB]
    exact congrArg₂ (fun (r : Fin 2064) (e : Fin 128) => softOut (scoreOf (qRow x0 x3 x4 x5 r) (keysB c arg3 harg3 arg9 harg9 x1 xs0)) (valsB c arg3 harg3 arg10 harg10 x1 xs1) e)
      (Fin.ext (by show 1664 + r.val = 1664 + 1 * r.val; omega)) (Fin.ext (by show e.val = 0 + 1 * e.val; omega))
  · intro y
    obtain ⟨r, e, rfl⟩ : ∃ (r : Fin 416) (e : Fin 128), y = ix3 (n0 := 1) 0 r e := ⟨y 1, y 2, ix_ext3 (n0 := 1) (n1 := 416) (n2 := 128) (a := 0) (b := y 1) (d := y 2) y (Nat.lt_one_iff.mp (y 0).isLt) rfl rfl⟩
    refine (out3 _ _ r _ (fun j => tileB3_weights c arg2 harg2 arg3 harg3 arg5 harg5 arg6 harg6 arg7 harg7 arg9 harg9 arg11 arg12 x0 x1 x3 x4 x5 xs0 r j) e).trans ?_
    rw [valsAllB]
    exact congrArg₂ (fun (r : Fin 2064) (e : Fin 128) => softOut (scoreOf (qRow x0 x3 x4 x5 r) (keysB c arg3 harg3 arg9 harg9 x1 xs0)) (valsB c arg3 harg3 arg10 harg10 x1 xs1) e)
      (Fin.ext (by show 1248 + r.val = 1248 + 1 * r.val; omega)) (Fin.ext (by show e.val = 0 + 1 * e.val; omega))
  · intro y
    obtain ⟨r, e, rfl⟩ : ∃ (r : Fin 416) (e : Fin 128), y = ix3 (n0 := 1) 0 r e := ⟨y 1, y 2, ix_ext3 (n0 := 1) (n1 := 416) (n2 := 128) (a := 0) (b := y 1) (d := y 2) y (Nat.lt_one_iff.mp (y 0).isLt) rfl rfl⟩
    refine (out2 _ _ r _ (fun j => tileB2_weights c arg2 harg2 arg3 harg3 arg5 harg5 arg6 harg6 arg7 harg7 arg9 harg9 arg11 arg12 x0 x1 x3 x4 x5 xs0 r j) e).trans ?_
    rw [valsAllB]
    exact congrArg₂ (fun (r : Fin 2064) (e : Fin 128) => softOut (scoreOf (qRow x0 x3 x4 x5 r) (keysB c arg3 harg3 arg9 harg9 x1 xs0)) (valsB c arg3 harg3 arg10 harg10 x1 xs1) e)
      (Fin.ext (by show 832 + r.val = 832 + 1 * r.val; omega)) (Fin.ext (by show e.val = 0 + 1 * e.val; omega))
  · intro y
    obtain ⟨r, e, rfl⟩ : ∃ (r : Fin 416) (e : Fin 128), y = ix3 (n0 := 1) 0 r e := ⟨y 1, y 2, ix_ext3 (n0 := 1) (n1 := 416) (n2 := 128) (a := 0) (b := y 1) (d := y 2) y (Nat.lt_one_iff.mp (y 0).isLt) rfl rfl⟩
    refine (out1 _ _ r _ (fun j => tileB1_weights c arg2 harg2 arg3 harg3 arg5 harg5 arg6 harg6 arg7 harg7 arg9 harg9 arg11 arg12 x0 x1 x3 x4 x5 xs0 r j) e).trans ?_
    rw [valsAllB]
    exact congrArg₂ (fun (r : Fin 2064) (e : Fin 128) => softOut (scoreOf (qRow x0 x3 x4 x5 r) (keysB c arg3 harg3 arg9 harg9 x1 xs0)) (valsB c arg3 harg3 arg10 harg10 x1 xs1) e)
      (Fin.ext (by show 416 + r.val = 416 + 1 * r.val; omega)) (Fin.ext (by show e.val = 0 + 1 * e.val; omega))
  · intro y
    obtain ⟨r, e, rfl⟩ : ∃ (r : Fin 416) (e : Fin 128), y = ix3 (n0 := 1) 0 r e := ⟨y 1, y 2, ix_ext3 (n0 := 1) (n1 := 416) (n2 := 128) (a := 0) (b := y 1) (d := y 2) y (Nat.lt_one_iff.mp (y 0).isLt) rfl rfl⟩
    refine (out0 _ _ r _ (fun j => tileB0_weights c arg2 harg2 arg3 harg3 arg5 harg5 arg6 harg6 arg7 harg7 arg9 harg9 arg11 arg12 x0 x1 x3 x4 x5 xs0 r j) e).trans ?_
    rw [valsAllB]
    exact congrArg₂ (fun (r : Fin 2064) (e : Fin 128) => softOut (scoreOf (qRow x0 x3 x4 x5 r) (keysB c arg3 harg3 arg9 harg9 x1 xs0)) (valsB c arg3 harg3 arg10 harg10 x1 xs1) e)
      (Fin.ext (by show 0 + r.val = 0 + 1 * r.val; omega)) (Fin.ext (by show e.val = 0 + 1 * e.val; omega))

end CaseB

end Mla

end
-- ==== Proof.MlaStore.lean ====
/- What the two stores of the attention kernel hold at each entry: the keys store has, for each of the 2064 rows of the
   sequence (the tokens first, then the 16 rows before them), the row's own 128 key lanes and the 128 rotated lanes all heads
   share; the values store has the row's 128 value lanes and 128 ones. The last 112 rows of both left halves are zero. -/
module

public import proofs.«01_k».proof.Proof.MlaBlock

@[expose] public section

set_option maxRecDepth 16384

noncomputable section

namespace Mla

open Idealize.ShloMosaic Idealize.ShloMosaic.TcCoe Idealize.SL.Sem Cert.KernelIdeal Cert.KernelIdeal.Gen

/-- The row of the sequence that stored key `j` is. -/
def keyRow (j : Fin 2176) (h : j.val < 2064) : Fin 2064 :=
  if h' : j.val < 2048 then ⟨16 + j.val, by omega⟩ else ⟨j.val - 2048, by omega⟩

/-- Entry `(j, l)` of the keys store, for the head's block `x1` of keys and values and the rotated rows `kr`. -/
def storedKey (x1 : S1x2064x256.Idx → EReal) (kr : Fin 2064 → Fin 128 → EReal) (j : Fin 2176) (l : Fin 256) : EReal :=
  if h : j.val < 2064 then
    if hl : l.val < 128 then x1 (ix3 0 (keyRow j h) l) else kr (keyRow j h) ⟨l.val - 128, by omega⟩
  else 0

/-- Entry `(j, l)` of the values store. -/
def storedVal (x1 : S1x2064x256.Idx → EReal) (j : Fin 2176) (l : Fin 256) : EReal :=
  if hl : l.val < 128 then
    if h : j.val < 2064 then x1 (ix3 0 (keyRow j h) (rightLane ⟨l.val, hl⟩)) else 0
  else 1

theorem keyRow_main {j : Fin 2176} {h : j.val < 2064} (h' : j.val < 2048) : (keyRow j h).val = 16 + j.val := by
  rw [keyRow, dif_pos h']

theorem keyRow_tail {j : Fin 2176} {h : j.val < 2064} (h' : ¬j.val < 2048) : (keyRow j h).val = j.val - 2048 := by
  rw [keyRow, dif_neg h']

section Entries
variable (x1 : S1x2064x256.Idx → EReal) (kr : Fin 2064 → Fin 128 → EReal)

theorem storedKey_left {j : Fin 2176} {l : Fin 256} (h : j.val < 2064) (hl : l.val < 128) {r : Fin 2064}
    (hr : r.val = if j.val < 2048 then 16 + j.val else j.val - 2048) : storedKey x1 kr j l = x1 (ix3 0 r l) := by
  rw [storedKey, dif_pos h, dif_pos hl]
  refine congrArg (fun r => x1 (ix3 0 r l)) (Fin.ext ?_)
  by_cases h' : j.val < 2048
  · rw [keyRow_main h', hr, if_pos h']
  · rw [keyRow_tail h', hr, if_neg h']

theorem storedKey_right {j : Fin 2176} {l : Fin 256} (h : j.val < 2064) (hl : ¬l.val < 128) {r : Fin 2064} {k : Fin 128}
    (hr : r.val = if j.val < 2048 then 16 + j.val else j.val - 2048) (hk : l.val = 128 + k.val) :
    storedKey x1 kr j l = kr r k := by
  rw [storedKey, dif_pos h, dif_neg hl]
  refine congrArg₂ kr (Fin.ext ?_) (Fin.ext (show l.val - 128 = k.val by omega))
  by_cases h' : j.val < 2048
  · rw [keyRow_main h', hr, if_pos h']
  · rw [keyRow_tail h', hr, if_neg h']

theorem storedKey_zero {j : Fin 2176} {l : Fin 256} (h : ¬j.val < 2064) : storedKey x1 kr j l = 0 := by
  rw [storedKey, dif_neg h]

theorem storedVal_left {j : Fin 2176} {l : Fin 256} (h : j.val < 2064) {k : Fin 128} (hk : l.val = k.val) {r : Fin 2064}
    (hr : r.val = if j.val < 2048 then 16 + j.val else j.val - 2048) : storedVal x1 j l = x1 (ix3 0 r (rightLane k)) := by
  rw [storedVal, dif_pos (by omega), dif_pos h]
  refine congrArg₂ (fun r k => x1 (ix3 0 r (rightLane k))) (Fin.ext ?_) (Fin.ext hk)
  by_cases h' : j.val < 2048
  · rw [keyRow_main h', hr, if_pos h']
  · rw [keyRow_tail h', hr, if_neg h']

theorem storedVal_zero {j : Fin 2176} {l : Fin 256} (h : ¬j.val < 2064) (hl : l.val < 128) : storedVal x1 j l = 0 := by
  rw [storedVal, dif_pos hl, dif_neg h]

theorem storedVal_one {j : Fin 2176} {l : Fin 256} (hl : ¬l.val < 128) : storedVal x1 j l = 1 := by
  rw [storedVal, dif_neg hl]

end Entries

/-! ## The payloads -/

theorem pay9_apply (a : Vec Ideal S1x2048x128 .bf16) (r : Fin 2048) (l : Fin 128) :
    k0_pay9 (F := Ideal) a (ix2 r l) = a (ix3 0 r l) := by pointwise [k0_pay9]

theorem pay10_apply (a : Vec Ideal S1x16x128 .bf16) (r : Fin 16) (l : Fin 128) :
    k0_pay10 (F := Ideal) a (ix2 r l) = a (ix3 0 r l) := by pointwise [k0_pay10]

theorem pay12_apply (a : Vec Ideal S1x2048x128 .bf16) (r : Fin 2048) (l : Fin 128) :
    k0_pay12 (F := Ideal) a (ix2 r l) = a (ix3 0 r l) := by pointwise [k0_pay12]

theorem pay13_apply (a : Vec Ideal S1x16x128 .bf16) (r : Fin 16) (l : Fin 128) :
    k0_pay13 (F := Ideal) a (ix2 r l) = a (ix3 0 r l) := by pointwise [k0_pay13]

theorem pay7_apply (r : Fin 112) (l : Fin 128) : k0_pay7 (F := Ideal) (ix2 r l) = 0 := by
  pointwise [k0_pay7]

theorem pay11_apply (r : Fin 112) (l : Fin 128) : k0_pay11 (F := Ideal) (ix2 r l) = 0 := by
  pointwise [k0_pay11]

theorem pay14_apply (r : Fin 112) (l : Fin 128) : k0_pay14 (F := Ideal) (ix2 r l) = 0 := by
  pointwise [k0_pay14]

theorem pay8_apply (r : Fin 2176) (l : Fin 128) : k0_pay8 (F := Ideal) (ix2 r l) = 1 := by
  pointwise [k0_pay8]

/-! ## The loads they are made of -/

variable (c : Dev nD) (i : grid0.Coords)
  (arg2 : Memref sig .tc .vmem S1x2064x256 .bf16) (harg2 : arg2.IsWhole) (arg3 : Memref sig .tc .vmem S1x2064x256 .bf16) (harg3 : arg3.IsWhole)
  (arg4 : Memref sig .tc .vmem S1x2064x128 .bf16) (harg4 : arg4.IsWhole) (arg5 : Memref sig .tc .vmem S2064x128 .f32) (harg5 : arg5.IsWhole)
  (arg6 : Memref sig .tc .vmem S2064x128 .f32) (harg6 : arg6.IsWhole) (arg7 : Memref sig .tc .vmem S2064x128 .f32) (harg7 : arg7.IsWhole)
  (arg8 : Memref sig .tc .vmem S1x2064x128 .bf16) (harg8 : arg8.IsWhole) (arg9 : Memref sig .tc .vmem S2176x256 .bf16) (harg9 : arg9.IsWhole)
  (arg10 : Memref sig .tc .vmem S2176x256 .bf16) (harg10 : arg10.IsWhole) (arg11 : Memref sig .tc .vmem S1664x2176 .f32) (harg11 : arg11.IsWhole)
  (arg12 : Memref sig .tc .vmem S1664x2176 .bf16) (harg12 : arg12.IsWhole)
  (x0 x1 : Vec Ideal S1x2064x256 .bf16) (x2 : Vec Ideal S1x2064x128 .bf16) (x3 x4 x5 : Vec Ideal S2064x128 .f32)
  (xs0 xs1 : Vec Ideal S2176x256 .bf16)

/-- A load of `n` rows of 128 lanes of a block `(1, 2064, w)`, from row `o` and lane `u` on. -/
theorem load3 {n w o u : ℕ} (x : (⟨3, ![1, 2064, w]⟩ : Shape).Idx → EReal)
    (inb : ∀ a : Fin 3, (![0, o, u] : Fin 3 → ℕ) a + (![1, n, 128] : Fin 3 → ℕ) a ≤ (⟨3, ![1, 2064, w]⟩ : Shape).size a)
    (r : Fin n) (l : Fin 128) (r' : Fin 2064) (l' : Fin w) (hr : r'.val = o + r.val) (hl : l'.val = u + l.val) :
    View.ld (Val := Elt Ideal) (e' := .bf16) x (Rect.unit (s := ⟨3, ![1, 2064, w]⟩) ![0, o, u] ![1, n, 128] inb) (ix3 0 r l) = x (ix3 0 r' l') :=
  congrArg x (ix_ext3 _ (by show 0 + 1 * 0 = 0; rfl) (by show o + 1 * r.val = _; omega) (by show u + 1 * l.val = _; omega))

/-- A load of `n` rows of a table. -/
theorem load2 {n o : ℕ} (x : S2064x128.Idx → EReal)
    (inb : ∀ a : Fin 2, (![o, 0] : Fin 2 → ℕ) a + (![n, 128] : Fin 2 → ℕ) a ≤ S2064x128.size a)
    (r : Fin n) (l : Fin 128) (r' : Fin 2064) (hr : r'.val = o + r.val) :
    View.ld (Val := Elt Ideal) (e' := .f32) x (Rect.unit (s := S2064x128) ![o, 0] ![n, 128] inb) (ix2 r l) = x (ix2 r' l) :=
  congrArg x (ix_ext2 _ (by show o + 1 * r.val = _; omega) (by show 0 + 1 * l.val = _; omega))

/-- The rotated key lanes of the 2048 tokens, as stored. -/
theorem keyLanes (r : Fin 2048) (l : Fin 128) :
    kernelRun0_A.sl.v252 (F := Ideal) c arg4 harg4 arg5 harg5 arg6 harg6 arg7 harg7 x2 x3 x4 x5 (ix2 r l)
      = kRow x2 x3 x4 x5 ⟨16 + r.val, by omega⟩ l := by
  refine (pay2_apply (View.readAt (Elt Ideal) arg4.view (Rect.unit (s := S1x2064x128) ![0, 16, 0] S1x2048x128.size inb_S1x2064x128_S1x2048x128_0_16_0).toLoadRect (harg4.unread x2)) _ _ _ r l).trans ?_
  simp only [View.readAt_eq_ld, harg4.read_unread, harg5.read_unread, harg6.read_unread, harg7.read_unread]
  have h3 : ∀ k : Fin 128, View.ld (Val := Elt Ideal) (e' := .bf16) x2 (Rect.unit (s := S1x2064x128) ![0, 16, 0] S1x2048x128.size inb_S1x2064x128_S1x2048x128_0_16_0) (ix3 0 r k)
      = x2 (ix3 0 ⟨16 + r.val, by omega⟩ k) := fun k => load3 x2 _ r k _ k rfl (Nat.zero_add _).symm
  have h2 : ∀ (x : S2064x128.Idx → EReal) (k : Fin 128), View.ld (Val := Elt Ideal) (e' := .f32) x (Rect.unit (s := S2064x128) ![16, 0] S2048x128.size inb_S2064x128_S2048x128_16_0) (ix2 r k)
      = x (ix2 ⟨16 + r.val, by omega⟩ k) := fun x k => load2 x _ r k _ rfl
  rw [kRow, funext h3, funext (h2 x3), funext (h2 x4), funext (h2 x5)]

/-- … and of the 16 rows before them. -/
theorem keyLanesMeta (r : Fin 16) (l : Fin 128) :
    k0_pay6 (F := Ideal) (kernelRun0_A.sl.v266 c arg4 harg4 arg5 harg5 arg6 harg6 x2 x3 x4) (kernelRun0_A.sl.v267 c arg4 harg4 arg7 harg7 x2 x5) (ix2 r l)
      = kRow x2 x3 x4 x5 ⟨r.val, by omega⟩ l := by
  refine (pay6_apply (View.readAt (Elt Ideal) arg4.view (Rect.unit (s := S1x2064x128) ![0, 0, 0] S1x16x128.size inb_S1x2064x128_S1x16x128_0_0_0).toLoadRect (harg4.unread x2)) _ _ _ r l).trans ?_
  simp only [View.readAt_eq_ld, harg4.read_unread, harg5.read_unread, harg6.read_unread, harg7.read_unread]
  have h3 : ∀ k : Fin 128, View.ld (Val := Elt Ideal) (e' := .bf16) x2 (Rect.unit (s := S1x2064x128) ![0, 0, 0] S1x16x128.size inb_S1x2064x128_S1x16x128_0_0_0) (ix3 0 r k)
      = x2 (ix3 0 ⟨r.val, by omega⟩ k) := fun k => load3 x2 _ r k _ k (Nat.zero_add _).symm (Nat.zero_add _).symm
  have h2 : ∀ (x : S2064x128.Idx → EReal) (k : Fin 128), View.ld (Val := Elt Ideal) (e' := .f32) x (Rect.unit (s := S2064x128) ![0, 0] S16x128.size inb_S2064x128_S16x128_0_0) (ix2 r k)
      = x (ix2 ⟨r.val, by omega⟩ k) := fun x k => load2 x _ r k _ (Nat.zero_add _).symm
  rw [kRow, funext h3, funext (h2 x3), funext (h2 x4), funext (h2 x5)]

/-! ## The stores, read at an entry -/

section Left
variable (r : Fin 2048) (r' : Fin 16) (l : Fin 128)

theorem keyLeft : k0_pay9 (F := Ideal) (View.readAt (Elt Ideal) arg3.view (Rect.unit (s := S1x2064x256) ![0, 16, 0] S1x2048x128.size inb_S1x2064x256_S1x2048x128_0_16_0).toLoadRect (harg3.unread x1)) (ix2 r l)
    = x1 (ix3 0 ⟨16 + r.val, by omega⟩ (leftLane l)) := by
  rw [pay9_apply, View.readAt_eq_ld, harg3.read_unread]
  exact load3 x1 _ r l _ _ rfl (Nat.zero_add _).symm

theorem keyLeftMeta : k0_pay10 (F := Ideal) (View.readAt (Elt Ideal) arg3.view (Rect.unit (s := S1x2064x256) ![0, 0, 0] S1x16x128.size inb_S1x2064x256_S1x16x128_0_0_0).toLoadRect (harg3.unread x1)) (ix2 r' l)
    = x1 (ix3 0 ⟨r'.val, by omega⟩ (leftLane l)) := by
  rw [pay10_apply, View.readAt_eq_ld, harg3.read_unread]
  exact load3 x1 _ r' l _ _ (Nat.zero_add _).symm (Nat.zero_add _).symm

theorem valLeft : k0_pay12 (F := Ideal) (View.readAt (Elt Ideal) arg3.view (Rect.unit (s := S1x2064x256) ![0, 16, 128] S1x2048x128.size inb_S1x2064x256_S1x2048x128_0_16_128).toLoadRect (harg3.unread x1)) (ix2 r l)
    = x1 (ix3 0 ⟨16 + r.val, by omega⟩ (rightLane l)) := by
  rw [pay12_apply, View.readAt_eq_ld, harg3.read_unread]
  exact load3 x1 _ r l _ _ rfl rfl

theorem valLeftMeta : k0_pay13 (F := Ideal) (View.readAt (Elt Ideal) arg3.view (Rect.unit (s := S1x2064x256) ![0, 0, 128] S1x16x128.size inb_S1x2064x256_S1x16x128_0_0_128).toLoadRect (harg3.unread x1)) (ix2 r' l)
    = x1 (ix3 0 ⟨r'.val, by omega⟩ (rightLane l)) := by
  rw [pay13_apply, View.readAt_eq_ld, harg3.read_unread]
  exact load3 x1 _ r' l _ _ (Nat.zero_add _).symm rfl

end Left

section Pieces
variable {sig' : RefSig} {κ' : Kind} {sp : Space} {Val : EltTy → Type} {e : EltTy} (v : View sig' κ' sp S2176x256 e) (f : v.ty.Contents Val)

/-- An entry of a store of `n` rows and `w` lanes at row `o` and lane `u`, read when the entry lies in it. -/
theorem piece_in {o u n w : ℕ} (inb : ∀ a : Fin 2, (![o, u] : Fin 2 → ℕ) a + (![n, w] : Fin 2 → ℕ) a ≤ S2176x256.size a)
    (p : (⟨2, ![n, w]⟩ : Shape).Idx → Val e) (L : List (View.Piece Val S2176x256 e)) (j : Fin 2176) (l : Fin 256) (G : Val e)
    (hj : o ≤ j.val ∧ j.val < o + n) (hl : u ≤ l.val ∧ l.val < u + w)
    (hG : ∀ (r : Fin n) (k : Fin w), j.val = o + r.val → l.val = u + k.val → p (ix2 r k) = G) :
    v.read Val (v.writes Val f (⟨Rect.unit (s := S2176x256) ![o, u] ![n, w] inb, p⟩ :: L)) (ix2 j l) = G := by
  refine (View.read_writes_cons_unit_of_mem v f inb p L (ix2 j l) (ix2 ⟨j.val - o, by omega⟩ ⟨l.val - u, by omega⟩) rfl ?_).trans
    (hG _ _ (show j.val = o + (j.val - o) by omega) (show l.val = u + (l.val - u) by omega))
  intro a
  match a with
  | ⟨0, _⟩ => show j.val = o + (j.val - o); omega
  | ⟨1, _⟩ => show l.val = u + (l.val - u); omega

/-- … and passed over when it does not. -/
theorem piece_out {o u n w : ℕ} (inb : ∀ a : Fin 2, (![o, u] : Fin 2 → ℕ) a + (![n, w] : Fin 2 → ℕ) a ≤ S2176x256.size a)
    (p : (⟨2, ![n, w]⟩ : Shape).Idx → Val e) (L : List (View.Piece Val S2176x256 e)) (j : Fin 2176) (l : Fin 256) (G : Val e)
    (h : (j.val < o ∨ o + n ≤ j.val) ∨ (l.val < u ∨ u + w ≤ l.val))
    (hG : v.read Val (v.writes Val f L) (ix2 j l) = G) :
    v.read Val (v.writes Val f (⟨Rect.unit (s := S2176x256) ![o, u] ![n, w] inb, p⟩ :: L)) (ix2 j l) = G := by
  rcases h with h | h
  · exact (View.read_writes_cons_unit_of_not_mem v f inb p L (ix2 j l) rfl (0 : Fin 2) h).trans hG
  · exact (View.read_writes_cons_unit_of_not_mem v f inb p L (ix2 j l) rfl (1 : Fin 2) h).trans hG

end Pieces

/-- Case A's keys store. -/
theorem keysA_apply (j : Fin 2176) (l : Fin 256) :
    keysA c arg3 harg3 arg4 harg4 arg5 harg5 arg6 harg6 arg7 harg7 arg9 x1 x2 x3 x4 x5 (ix2 j l) = storedKey x1 (kRow x2 x3 x4 x5) j l := by
  unfold keysA kernelRun0_A.sl.HS0_6
  by_cases hl : l.val < 128
  · by_cases h0 : j.val < 2048
    · refine piece_out _ _ _ _ _ _ _ _ (by omega) (piece_out _ _ _ _ _ _ _ _ (by omega) (piece_in _ _ _ _ _ _ _ _ (by omega) (by omega) ?_))
      exact fun r k hj' hk => (keyLeft arg3 harg3 x1 r k).trans
        ((storedKey_left x1 _ (by omega) hl (r := ⟨16 + r.val, by omega⟩) (by show 16 + r.val = _; split <;> omega)).trans (congrArg (fun l => x1 (ix3 0 _ l)) (Fin.ext (hk.trans (Nat.zero_add _))))).symm
    by_cases h1 : j.val < 2064
    · refine piece_out _ _ _ _ _ _ _ _ (by omega) (piece_in _ _ _ _ _ _ _ _ (by omega) (by omega) ?_)
      exact fun r k hj' hk => (keyLeftMeta arg3 harg3 x1 r k).trans
        ((storedKey_left x1 _ (by omega) hl (r := ⟨r.val, by omega⟩) (by show r.val = _; split <;> omega)).trans (congrArg (fun l => x1 (ix3 0 _ l)) (Fin.ext (hk.trans (Nat.zero_add _))))).symm
    · exact piece_in _ _ _ _ _ _ _ _ (by omega) (by omega) fun r k _ _ => (pay11_apply r k).trans (storedKey_zero x1 _ (by omega)).symm
  · by_cases h0 : j.val < 2048
    · refine piece_out _ _ _ _ _ _ _ _ (by omega) (piece_out _ _ _ _ _ _ _ _ (by omega) (piece_out _ _ _ _ _ _ _ _ (by omega) (piece_out _ _ _ _ _ _ _ _ (by omega) (piece_out _ _ _ _ _ _ _ _ (by omega) (piece_in _ _ _ _ _ _ _ _ (by omega) (by omega) ?_)))))
      exact fun r k hj' hk => (keyLanes c arg4 harg4 arg5 harg5 arg6 harg6 arg7 harg7 x2 x3 x4 x5 r k).trans
        (storedKey_right x1 _ (by omega) hl (r := ⟨16 + r.val, by omega⟩) (by show 16 + r.val = _; split <;> omega) hk).symm
    by_cases h1 : j.val < 2064
    · refine piece_out _ _ _ _ _ _ _ _ (by omega) (piece_out _ _ _ _ _ _ _ _ (by omega) (piece_out _ _ _ _ _ _ _ _ (by omega) (piece_out _ _ _ _ _ _ _ _ (by omega) (piece_in _ _ _ _ _ _ _ _ (by omega) (by omega) ?_))))
      exact fun r k hj' hk => (keyLanesMeta c arg4 harg4 arg5 harg5 arg6 harg6 arg7 harg7 x2 x3 x4 x5 r k).trans
        (storedKey_right x1 _ (by omega) hl (r := ⟨r.val, by omega⟩) (by show r.val = _; split <;> omega) hk).symm
    · refine piece_out _ _ _ _ _ _ _ _ (by omega) (piece_out _ _ _ _ _ _ _ _ (by omega) (piece_out _ _ _ _ _ _ _ _ (by omega) (piece_in _ _ _ _ _ _ _ _ (by omega) (by omega) ?_)))
      exact fun r k _ _ => (pay7_apply r k).trans (storedKey_zero x1 _ h1).symm

/-- Case A's values store. -/
theorem valsA_apply (j : Fin 2176) (l : Fin 256) :
    valsA c arg3 harg3 arg10 x1 (ix2 j l) = storedVal x1 j l := by
  unfold valsA kernelRun0_A.sl.HS1_4
  by_cases hl : l.val < 128
  · by_cases h0 : j.val < 2048
    · refine piece_out _ _ _ _ _ _ _ _ (by omega) (piece_out _ _ _ _ _ _ _ _ (by omega) (piece_in _ _ _ _ _ _ _ _ (by omega) (by omega) ?_))
      exact fun r k hj' hk => (valLeft arg3 harg3 x1 r k).trans
        (storedVal_left x1 (by omega) (k := k) (hk.trans (Nat.zero_add _)) (r := ⟨16 + r.val, by omega⟩) (by show 16 + r.val = _; split <;> omega)).symm
    by_cases h1 : j.val < 2064
    · refine piece_out _ _ _ _ _ _ _ _ (by omega) (piece_in _ _ _ _ _ _ _ _ (by omega) (by omega) ?_)
      exact fun r k hj' hk => (valLeftMeta arg3 harg3 x1 r k).trans
        (storedVal_left x1 (by omega) (k := k) (hk.trans (Nat.zero_add _)) (r := ⟨r.val, by omega⟩) (by show r.val = _; split <;> omega)).symm
    · exact piece_in _ _ _ _ _ _ _ _ (by omega) (by omega) fun r k _ _ => (pay14_apply r k).trans (storedVal_zero x1 (by omega) hl).symm
  · refine piece_out _ _ _ _ _ _ _ _ (by omega) (piece_out _ _ _ _ _ _ _ _ (by omega) (piece_out _ _ _ _ _ _ _ _ (by omega) (piece_in _ _ _ _ _ _ _ _ (by omega) (by omega) ?_)))
    exact fun r k _ _ => (pay8_apply r k).trans (storedVal_one x1 hl).symm

/-- Case B's keys store: the right half is what the point before left. -/
theorem keysB_apply (kr : Fin 2064 → Fin 128 → EReal) (x1' : S1x2064x256.Idx → EReal)
    (hx : ∀ (j : Fin 2176) (l : Fin 256), xs0 (ix2 j l) = storedKey x1' kr j l) (j : Fin 2176) (l : Fin 256) :
    keysB c arg3 harg3 arg9 harg9 x1 xs0 (ix2 j l) = storedKey x1 kr j l := by
  unfold keysB kernelRun0_B.sl.HS0_3
  by_cases hl : l.val < 128
  · by_cases h0 : j.val < 2048
    · refine piece_out _ _ _ _ _ _ _ _ (by omega) (piece_out _ _ _ _ _ _ _ _ (by omega) (piece_in _ _ _ _ _ _ _ _ (by omega) (by omega) ?_))
      exact fun r k hj' hk => (keyLeft arg3 harg3 x1 r k).trans
        ((storedKey_left x1 _ (by omega) hl (r := ⟨16 + r.val, by omega⟩) (by show 16 + r.val = _; split <;> omega)).trans (congrArg (fun l => x1 (ix3 0 _ l)) (Fin.ext (hk.trans (Nat.zero_add _))))).symm
    by_cases h1 : j.val < 2064
    · refine piece_out _ _ _ _ _ _ _ _ (by omega) (piece_in _ _ _ _ _ _ _ _ (by omega) (by omega) ?_)
      exact fun r k hj' hk => (keyLeftMeta arg3 harg3 x1 r k).trans
        ((storedKey_left x1 _ (by omega) hl (r := ⟨r.val, by omega⟩) (by show r.val = _; split <;> omega)).trans (congrArg (fun l => x1 (ix3 0 _ l)) (Fin.ext (hk.trans (Nat.zero_add _))))).symm
    · exact piece_in _ _ _ _ _ _ _ _ (by omega) (by omega) fun r k _ _ => (pay11_apply r k).trans (storedKey_zero x1 _ (by omega)).symm
  · refine piece_out _ _ _ _ _ _ _ _ (by omega) (piece_out _ _ _ _ _ _ _ _ (by omega) (piece_out _ _ _ _ _ _ _ _ (by omega) ?_))
    rw [View.writes_nil, harg9.read_unread, hx, storedKey, storedKey]
    simp only [dif_neg hl]

/-- Case B's values store. -/
theorem valsB_apply (x1' : S1x2064x256.Idx → EReal)
    (hx : ∀ (j : Fin 2176) (l : Fin 256), xs1 (ix2 j l) = storedVal x1' j l) (j : Fin 2176) (l : Fin 256) :
    valsB c arg3 harg3 arg10 harg10 x1 xs1 (ix2 j l) = storedVal x1 j l := by
  unfold valsB kernelRun0_B.sl.HS1_3
  by_cases hl : l.val < 128
  · by_cases h0 : j.val < 2048
    · refine piece_out _ _ _ _ _ _ _ _ (by omega) (piece_out _ _ _ _ _ _ _ _ (by omega) (piece_in _ _ _ _ _ _ _ _ (by omega) (by omega) ?_))
      exact fun r k hj' hk => (valLeft arg3 harg3 x1 r k).trans
        (storedVal_left x1 (by omega) (k := k) (hk.trans (Nat.zero_add _)) (r := ⟨16 + r.val, by omega⟩) (by show 16 + r.val = _; split <;> omega)).symm
    by_cases h1 : j.val < 2064
    · refine piece_out _ _ _ _ _ _ _ _ (by omega) (piece_in _ _ _ _ _ _ _ _ (by omega) (by omega) ?_)
      exact fun r k hj' hk => (valLeftMeta arg3 harg3 x1 r k).trans
        (storedVal_left x1 (by omega) (k := k) (hk.trans (Nat.zero_add _)) (r := ⟨r.val, by omega⟩) (by show r.val = _; split <;> omega)).symm
    · exact piece_in _ _ _ _ _ _ _ _ (by omega) (by omega) fun r k _ _ => (pay14_apply r k).trans (storedVal_zero x1 (by omega) hl).symm
  · refine piece_out _ _ _ _ _ _ _ _ (by omega) (piece_out _ _ _ _ _ _ _ _ (by omega) (piece_out _ _ _ _ _ _ _ _ (by omega) ?_))
    rw [View.writes_nil, harg10.read_unread, hx, storedVal_one _ hl, storedVal_one _ hl]

end Mla

end
-- ==== Proof.MlaValue.lean ====
/- The attention kernel's whole result over the extended reals. The grid has one point per sequence `b` and head `h`, the
   heads of a sequence one after another; the rotated keys a sequence's first point stores are those every later point of
   that sequence reads. So each point's output block is one head's softmax over the keys and values of its own sequence. -/
module

public import proofs.«01_k».proof.Proof.MlaStore
public import proofs.«01_k».proof.Proof.Gen.KernelIdeal.Value

@[expose] public section

set_option maxRecDepth 16384

noncomputable section

namespace Mla

open Idealize.ShloMosaic Idealize.ShloMosaic.TcCoe Idealize.SL.Sem Cert.KernelIdeal Cert.KernelIdeal.Gen

variable (m : (ℓ : Loc nD τ sig) → Buf (Elt Ideal) ℓ)

/-! ## Which part of its array each point's block is -/

theorem idx0 : ∀ t : Fin cfg0.N, win0_0.index t (0 : Fin 3) = t.val / 8 ∧ win0_0.index t (1 : Fin 3) = 0 ∧ win0_0.index t (2 : Fin 3) = t.val % 8 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = t.val % 8 :=
  (by decide +kernel : ∀ t : Fin grid0.N, _)
theorem idx2 : ∀ t : Fin cfg0.N, win0_2.index t (0 : Fin 3) = t.val / 8 ∧ win0_2.index t (1 : Fin 3) = 0 ∧ win0_2.index t (2 : Fin 3) = 20 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- Lane `l` of head `h`'s 256. -/
def lane256 (h : Fin 8) (l : Fin 256) : Fin 2048 := ⟨256 * h.val + l.val, by omega⟩
/-- Lane `l` of the 128 that hold the shared keys to rotate. -/
def laneKpe (l : Fin 128) : Fin 3072 := ⟨2560 + l.val, by omega⟩

section Blocks
variable (c : Dev nD) (t : Fin cfg0.N) (b : Fin 16) (h : Fin 8) (ht : t.val = 8 * b.val + h.val)
include ht

theorem iblk0_apply (r : Fin 2064) (l : Fin 256) :
    iblk m c 0 t (ix3 0 r l) = V m c main_v39 (ix3 b r (lane256 h l)) := by
  obtain ⟨e0, e1, e2⟩ := idx0 t
  refine congrArg (V m c main_v39) (ix_ext3 _ ?_ ?_ ?_)
  · show win0_0.index t (0 : Fin 3) * 1 + 1 * 0 = b.val; omega
  · show win0_0.index t (1 : Fin 3) * 2064 + 1 * r.val = r.val; omega
  · show win0_0.index t (2 : Fin 3) * 256 + 1 * l.val = 256 * h.val + l.val; omega

theorem iblk1_apply (r : Fin 2064) (l : Fin 256) :
    iblk m c 1 t (ix3 0 r l) = V m c main_v40 (ix3 b r (lane256 h l)) := by
  obtain ⟨e0, e1, e2⟩ := idx1 t
  refine congrArg (V m c main_v40) (ix_ext3 _ ?_ ?_ ?_)
  · show win0_1.index t (0 : Fin 3) * 1 + 1 * 0 = b.val; omega
  · show win0_1.index t (1 : Fin 3) * 2064 + 1 * r.val = r.val; omega
  · show win0_1.index t (2 : Fin 3) * 256 + 1 * l.val = 256 * h.val + l.val; omega

theorem iblk2_apply (r : Fin 2064) (l : Fin 128) :
    iblk m c 2 t (ix3 0 r l) = V m c main_v41 (ix3 b r (laneKpe l)) := by
  obtain ⟨e0, e1, e2⟩ := idx2 t
  refine congrArg (V m c main_v41) (ix_ext3 _ ?_ ?_ ?_)
  · show win0_2.index t (0 : Fin 3) * 1 + 1 * 0 = b.val; omega
  · show win0_2.index t (1 : Fin 3) * 2064 + 1 * r.val = r.val; omega
  · show win0_2.index t (2 : Fin 3) * 128 + 1 * l.val = 2560 + l.val; omega

omit ht
theorem iblk3_apply (r : Fin 2064) (l : Fin 128) : iblk m c 3 t (ix2 r l) = V m c main_v34 (ix2 r l) := by
  obtain ⟨e0, e1⟩ := idx3 t
  refine congrArg (V m c main_v34) (ix_ext2 _ ?_ ?_)
  · show win0_3.index t (0 : Fin 2) * 2064 + 1 * r.val = r.val; omega
  · show win0_3.index t (1 : Fin 2) * 128 + 1 * l.val = l.val; omega

theorem iblk4_apply (r : Fin 2064) (l : Fin 128) : iblk m c 4 t (ix2 r l) = V m c main_v37 (ix2 r l) := by
  obtain ⟨e0, e1⟩ := idx4 t
  refine congrArg (V m c main_v37) (ix_ext2 _ ?_ ?_)
  · show win0_4.index t (0 : Fin 2) * 2064 + 1 * r.val = r.val; omega
  · show win0_4.index t (1 : Fin 2) * 128 + 1 * l.val = l.val; omega

theorem iblk5_apply (r : Fin 2064) (l : Fin 128) : iblk m c 5 t (ix2 r l) = V m c main_v38 (ix2 r l) := by
  obtain ⟨e0, e1⟩ := idx5 t
  refine congrArg (V m c main_v38) (ix_ext2 _ ?_ ?_)
  · show win0_5.index t (0 : Fin 2) * 2064 + 1 * r.val = r.val; omega
  · show win0_5.index t (1 : Fin 2) * 128 + 1 * l.val = l.val; omega

end Blocks

/-! ## The stores after each point -/

section Stores
variable (c : Dev nD)

/-- Sequence `b`'s rotated shared key, by row. -/
def keyRope (b : Fin 16) (r : Fin 2064) : Fin 128 → EReal :=
  ropeRow (fun k => V m c main_v41 (ix3 b r (laneKpe k))) (fun k => V m c main_v34 (ix2 r k))
    (fun k => V m c main_v37 (ix2 r k)) (fun k => V m c main_v38 (ix2 r k))

/-- Head `h` of sequence `b`: its query row `r`. -/
def headQuery (b : Fin 16) (h : Fin 8) (r : Fin 2064) : Fin 256 → EReal :=
  queryRow (fun k => V m c main_v39 (ix3 b r (lane256 h k))) (fun k => V m c main_v34 (ix2 r k))
    (fun k => V m c main_v37 (ix2 r k)) (fun k => V m c main_v38 (ix2 r k))

/-- Head `h` of sequence `b`: its keys and values before rotation, as a block. -/
def headKV (b : Fin 16) (h : Fin 8) : S1x2064x256.Idx → EReal := fun y => V m c main_v40 (ix3 b (y 1) (lane256 h (y 2)))

variable (t : Fin cfg0.N) (b : Fin 16) (h : Fin 8) (ht : t.val = 8 * b.val + h.val)
include ht

theorem kRow_eq : kRow (iblk m c 2 t) (iblk m c 3 t) (iblk m c 4 t) (iblk m c 5 t) = keyRope m c b := by
  funext r
  unfold kRow keyRope
  rw [funext fun k => iblk2_apply m c t b h ht r k, funext fun k => iblk3_apply m c t r k,
    funext fun k => iblk4_apply m c t r k, funext fun k => iblk5_apply m c t r k]

theorem qRow_eq (r : Fin 2064) : qRow (iblk m c 0 t) (iblk m c 3 t) (iblk m c 4 t) (iblk m c 5 t) r = headQuery m c b h r := by
  unfold qRow headQuery
  rw [funext fun k => iblk0_apply m c t b h ht r k, funext fun k => iblk3_apply m c t r k,
    funext fun k => iblk4_apply m c t r k, funext fun k => iblk5_apply m c t r k]

theorem kv_eq : (iblk m c 1 t : S1x2064x256.Idx → EReal) = headKV m c b h := by
  funext (y : S1x2064x256.Idx)
  rw [show y = ix3 (n0 := 1) (n1 := 2064) (n2 := 256) 0 (y 1) (y 2) from ix_ext3 (n0 := 1) (n1 := 2064) (n2 := 256) (a := 0) y (Nat.lt_one_iff.mp (y 0).isLt) rfl rfl]
  exact iblk1_apply m c t b h ht _ _

/-- After a point with head 0 the keys store holds that head's keys and the rotated ones, … -/
theorem keys_A (h0 : t.val % 8 = 0) (j : Fin 2176) (l : Fin 256) :
    (outsAt0 m c t.val t.isLt).2.1 (ix2 j l) = storedKey (headKV m c b h) (keyRope m c b) j l := by
  rw [outsAt0_A m c t h0, ← kRow_eq m c t b h ht, ← kv_eq m c t b h ht]
  exact keysA_apply c (ms0_1 t) (hs0_1 t) (ms0_2 t) (hs0_2 t) (ms0_3 t) (hs0_3 t) (ms0_4 t) (hs0_4 t) (ms0_5 t) (hs0_5 t) scM0_0 _ _ _ _ _ j l

/-- … and the values store the head's values beside ones. -/
theorem vals_A (h0 : t.val % 8 = 0) (j : Fin 2176) (l : Fin 256) :
    (outsAt0 m c t.val t.isLt).2.2 (ix2 j l) = storedVal (headKV m c b h) j l := by
  rw [outsAt0_A m c t h0, ← kv_eq m c t b h ht]
  exact valsA_apply c (ms0_1 t) (hs0_1 t) scM0_1 _ j l

/-- The keys store of the point before, as this point finds it. -/
def keysBefore (t : Fin cfg0.N) : S2176x256.Idx → EReal := (outsAt0 m c (t.val - 1) (Nat.lt_of_le_of_lt (Nat.sub_le _ _) t.isLt)).2.1
/-- The values store of the point before. -/
def valsBefore (t : Fin cfg0.N) : S2176x256.Idx → EReal := (outsAt0 m c (t.val - 1) (Nat.lt_of_le_of_lt (Nat.sub_le _ _) t.isLt)).2.2

theorem keys_B (h0 : ¬t.val % 8 = 0) (x' : S1x2064x256.Idx → EReal)
    (hx : ∀ (j : Fin 2176) (l : Fin 256), keysBefore m c t (ix2 j l) = storedKey x' (keyRope m c b) j l) (j : Fin 2176) (l : Fin 256) :
    (outsAt0 m c t.val t.isLt).2.1 (ix2 j l) = storedKey (headKV m c b h) (keyRope m c b) j l := by
  rw [outsAt0_B m c t h0, ← kv_eq m c t b h ht]
  exact keysB_apply c (ms0_1 t) (hs0_1 t) scM0_0 (Memref.isWhole_whole _) _ (keysBefore m c t) (keyRope m c b) x' hx j l

theorem vals_B (h0 : ¬t.val % 8 = 0) (x' : S1x2064x256.Idx → EReal)
    (hx : ∀ (j : Fin 2176) (l : Fin 256), valsBefore m c t (ix2 j l) = storedVal x' j l) (j : Fin 2176) (l : Fin 256) :
    (outsAt0 m c t.val t.isLt).2.2 (ix2 j l) = storedVal (headKV m c b h) j l := by
  rw [outsAt0_B m c t h0, ← kv_eq m c t b h ht]
  exact valsB_apply c (ms0_1 t) (hs0_1 t) scM0_1 (Memref.isWhole_whole _) _ (valsBefore m c t) x' hx j l

end Stores

/-- The first 128 lanes of head `h`'s keys and the rotated ones; the head's values and ones. -/
def headKeys (c : Dev nD) (b : Fin 16) (h : Fin 8) : S2176x256.Idx → EReal := fun y => storedKey (headKV m c b h) (keyRope m c b) (y 0) (y 1)
def headVals (c : Dev nD) (b : Fin 16) (h : Fin 8) : S2176x256.Idx → EReal := fun y => storedVal (headKV m c b h) (y 0) (y 1)

/-- The stores after point `n`, by induction over the points. -/
theorem stores (c : Dev nD) : ∀ (n : ℕ) (hn : n < cfg0.N) (b : Fin 16) (h : Fin 8), n = 8 * b.val + h.val →
    (∀ (j : Fin 2176) (l : Fin 256), (outsAt0 m c n hn).2.1 (ix2 j l) = storedKey (headKV m c b h) (keyRope m c b) j l)
      ∧ ∀ (j : Fin 2176) (l : Fin 256), (outsAt0 m c n hn).2.2 (ix2 j l) = storedVal (headKV m c b h) j l := by
  intro n
  induction n with
  | zero =>
    intro hn b h e
    exact ⟨keys_A m c ⟨0, hn⟩ b h e rfl, vals_A m c ⟨0, hn⟩ b h e rfl⟩
  | succ n ih =>
    intro hn b h e
    by_cases h0 : (n + 1) % 8 = 0
    · exact ⟨keys_A m c ⟨n + 1, hn⟩ b h e h0, vals_A m c ⟨n + 1, hn⟩ b h e h0⟩
    · obtain ⟨ik, iv⟩ := ih (Nat.lt_of_succ_lt hn) b ⟨h.val - 1, by omega⟩ (by show n = 8 * b.val + (h.val - 1); omega)
      exact ⟨keys_B m c ⟨n + 1, hn⟩ b h e h0 _ ik, vals_B m c ⟨n + 1, hn⟩ b h e h0 _ iv⟩

/-! ## The output -/

/-- Two stores with the same entries give the same output. -/
theorem softOut_congr (q q' : Fin 256 → EReal) (K K' V V' : S2176x256.Idx → EReal) (hq : q = q')
    (hK : ∀ (j : Fin 2176) (l : Fin 256), K (ix2 j l) = K' (ix2 j l)) (hV : ∀ (j : Fin 2176) (l : Fin 256), V (ix2 j l) = V' (ix2 j l)) (e : Fin 128) :
    softOut (scoreOf q K) V e = softOut (scoreOf q' K') V' e := by
  have eta : ∀ y : S2176x256.Idx, y = ix2 (n0 := 2176) (n1 := 256) (y 0) (y 1) := fun y => ix_ext2 (n0 := 2176) (n1 := 256) y rfl rfl
  have hk : K = K' := funext fun y => by rw [eta y]; exact hK _ _
  have hv : V = V' := funext fun y => by rw [eta y]; exact hV _ _
  rw [hq, hk, hv]

theorem block_out_A (c : Dev nD) (t : Fin cfg0.N) (b : Fin 16) (h : Fin 8) (ht : t.val = 8 * b.val + h.val) (h0 : t.val % 8 = 0) (r : Fin 2064) (e : Fin 128) :
    (outsAt0 m c t.val t.isLt).1 (ix3 0 r e) = softOut (scoreOf (headQuery m c b h r) (headKeys m c b h)) (headVals m c b h) e := by
  rw [outsAt0_A m c t h0]
  dsimp only
  rw [outBlockA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) ((hcond0_0 t).mpr h0) r e]
  refine softOut_congr _ _ _ _ _ _ (qRow_eq m c t b h ht r) (fun j l => ?_) (fun j l => ?_) e
  · refine (keysA_apply c (ms0_1 t) (hs0_1 t) (ms0_2 t) (hs0_2 t) (ms0_3 t) (hs0_3 t) (ms0_4 t) (hs0_4 t) (ms0_5 t) (hs0_5 t) scM0_0 _ _ _ _ _ j l).trans ?_
    rw [kRow_eq m c t b h ht, kv_eq m c t b h ht]; rfl
  · refine (valsA_apply c (ms0_1 t) (hs0_1 t) scM0_1 _ j l).trans ?_
    rw [kv_eq m c t b h ht]; rfl

theorem block_out_B (c : Dev nD) (t : Fin cfg0.N) (b : Fin 16) (h : Fin 8) (ht : t.val = 8 * b.val + h.val) (h0 : ¬t.val % 8 = 0) (r : Fin 2064) (e : Fin 128) :
    (outsAt0 m c t.val t.isLt).1 (ix3 0 r e) = softOut (scoreOf (headQuery m c b h r) (headKeys m c b h)) (headVals m c b h) e := by
  obtain ⟨ik, iv⟩ := stores m c (t.val - 1) (Nat.lt_of_le_of_lt (Nat.sub_le _ _) t.isLt) b ⟨h.val - 1, by omega⟩ (by show t.val - 1 = 8 * b.val + (h.val - 1); omega)
  rw [outsAt0_B m c t h0]
  dsimp only
  rw [outBlockB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) r e]
  refine softOut_congr _ _ _ _ _ _ (qRow_eq m c t b h ht r) (fun j l => ?_) (fun j l => ?_) e
  · refine (keysB_apply c (ms0_1 t) (hs0_1 t) scM0_0 (Memref.isWhole_whole _) _ (keysBefore m c t) (keyRope m c b) _ ik j l).trans ?_
    rw [kv_eq m c t b h ht]; rfl
  · refine (valsB_apply c (ms0_1 t) (hs0_1 t) scM0_1 (Memref.isWhole_whole _) _ (valsBefore m c t) _ iv j l).trans ?_
    rw [kv_eq m c t b h ht]; rfl

/-- WHAT A POINT WRITES: its head's attention. -/
theorem block_out (c : Dev nD) (t : Fin cfg0.N) (b : Fin 16) (h : Fin 8) (ht : t.val = 8 * b.val + h.val) (r : Fin 2064) (e : Fin 128) :
    (outsAt0 m c t.val t.isLt).1 (ix3 0 r e) = softOut (scoreOf (headQuery m c b h r) (headKeys m c b h)) (headVals m c b h) e := by
  by_cases h0 : t.val % 8 = 0
  · exact block_out_A m c t b h ht h0 r e
  · exact block_out_B m c t b h ht h0 r e

/-- THE RESULT: at sequence `b`, row `r` and lane `e` of head `h`, that head's attention. -/
theorem result (c : Dev nD) (b : Fin 16) (r : Fin 2064) (h : Fin 8) (e : Fin 128) :
    Cert.KernelIdeal.Value.G6 m c (ix3 b r ⟨128 * h.val + e.val, by omega⟩)
      = softOut (scoreOf (headQuery m c b h r) (headKeys m c b h)) (headVals m c b h) e := by
  have hp : Value.pt6Of (ix3 b r ⟨128 * h.val + e.val, by omega⟩) = 8 * b.val + h.val := by
    show 8 * (b.val / 1 - 0) + 8 * (r.val / 2064 - 0) + 1 * ((128 * h.val + e.val) / 128 - 0) = _; omega
  have hb : 8 * b.val + h.val < cfg0.N := lt_of_lt_of_eq (show _ < 128 by omega) N_0.symm
  have hl : Value.loc6Of (ix3 b r ⟨128 * h.val + e.val, by omega⟩) = ix3 (n0 := 1) 0 r e :=
    ix_ext3 _ (Nat.mod_one _) (by show r.val % 2064 = r.val; omega) (by show (128 * h.val + e.val) % 128 = e.val; omega)
  unfold Value.G6
  rw [dif_pos (hp.symm ▸ hb), hl, Value.fold0_congr m c _ _ _ (by omega) hp, ← Value.outsAt0_sweep m c _ hb]
  exact block_out m c ⟨_, hb⟩ b h rfl r e

end Mla

end
-- ==== Proof.Softmax.lean ====
/- Softmax over the extended reals, when every score is a real number. The kernel computes it from base-2 exponentials of
   scores already divided by `log 2`, over 2176 keys of which the last 112 have score `-∞` and the others are the 2064 keys in
   another order, and divides once at the end; the reference computes it from exponentials of the scores and divides each
   weight. Each subtracts its own greatest score; the factor that this brings in cancels. -/
module

public import Idealize.ShloMosaic.PureOps.Ideal

@[expose] public section

noncomputable section

namespace Mla

open Idealize.ShloMosaic

/-- A number of the extended reals that is neither infinity. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.sub {x y : EReal} : IsReal x → IsReal y → IsReal (x - y) := by
  rintro ⟨a, rfl⟩ ⟨b, rfl⟩; exact ⟨a - b, (EReal.coe_sub a b).symm⟩
theorem IsReal.neg {x : EReal} : IsReal x → IsReal (-x) := by
  rintro ⟨a, rfl⟩; exact ⟨-a, (EReal.coe_neg a).symm⟩
theorem IsReal.cos {x : EReal} : IsReal x → IsReal (Ideal.cos x) := by
  rintro ⟨a, rfl⟩; exact ⟨_, rfl⟩
theorem IsReal.sin {x : EReal} : IsReal x → IsReal (Ideal.sin x) := by
  rintro ⟨a, rfl⟩; exact ⟨_, rfl⟩
theorem IsReal.pow {x y : EReal} : IsReal x → IsReal y → IsReal (Ideal.pow x y) := by
  rintro ⟨a, rfl⟩ ⟨b, rfl⟩; exact ⟨_, rfl⟩
theorem IsReal.of_ne {x : EReal} (h : x ≠ ⊥) (h' : x ≠ ⊤) : IsReal x := ⟨x.toReal, (EReal.coe_toReal h' h).symm⟩

/-- A finite sum of real numbers, in the extended reals. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The greatest of finitely many scores, none `∞` and not all `-∞`, is a real number. -/
theorem isReal_max {n : ℕ} (s : Fin n → EReal) (ht : ∀ j, s j ≠ ⊤) (j : Fin n) (hb : s j ≠ ⊥) :
    IsReal (Finset.univ.fold max ⊥ s) := by
  refine IsReal.of_ne (ne_of_gt ?_) (ne_of_lt ?_)
  · exact (Finset.lt_fold_max _).2 (Or.inr ⟨j, Finset.mem_univ _, bot_lt_iff_ne_bot.2 hb⟩)
  · exact (Finset.fold_max_lt _).2 ⟨bot_lt_top, fun k _ => lt_top_iff_ne_top.2 (ht k)⟩

/-- A sum over 2176 keys of which the last 112 contribute nothing. -/
theorem sum_keys (f : Fin 2176 → EReal) (h : ∀ j : Fin 2176, ¬ j.val < 2064 → f j = 0) :
    ∑ j, f j = ∑ t : Fin 2064, f ⟨t.val, by omega⟩ := by
  refine (Fin.sum_univ_add (a := 2064) (b := 112) f).trans ?_
  rw [Finset.sum_eq_zero (s := Finset.univ) (f := fun i : Fin 112 => f (Fin.natAdd 2064 i))
    fun i _ => h _ (by show ¬ 2064 + i.val < 2064; omega), add_zero]
  rfl

theorem div_real (a b : ℝ) (hb : b ≠ 0) : Ideal.div (a : EReal) (b : EReal) = ((a / b : ℝ) : EReal) := by
  rw [Ideal.div_coe hb, ← EReal.coe_mul, mul_one_div]

theorem two_rpow (x M : ℝ) : Real.rpow 2 (x / Real.log 2 - M) = Real.exp x * Real.exp (-(M * Real.log 2)) := by
  have h2 : Real.log 2 ≠ 0 := (Real.log_pos (by norm_num)).ne'
  show (2 : ℝ) ^ (x / Real.log 2 - M) = _
  rw [Real.rpow_def_of_pos (by norm_num), ← Real.exp_add]
  congr 1
  field_simp
  ring

section
variable (σ : Fin 2064 ≃ Fin 2064) (u v : Fin 2064 → ℝ)

/-- The softmax of the scores `u`, weighting the values `v`. -/
def softmax : ℝ := (∑ t, Real.exp (u t) * v t) / ∑ t, Real.exp (u t)

theorem exp_sum_pos (u : Fin 2064 → ℝ) : 0 < ∑ t, Real.exp (u t) :=
  Finset.sum_pos (fun t _ => Real.exp_pos _) ⟨⟨0, by decide⟩, Finset.mem_univ _⟩

/-- What the kernel computes. -/
theorem kernel_softmax (s val one : Fin 2176 → EReal)
    (hs : ∀ t : Fin 2064, s ⟨t.val, by omega⟩ = ((u (σ t) / Real.log 2 : ℝ) : EReal)) (hs' : ∀ j : Fin 2176, ¬ j.val < 2064 → s j = ⊥)
    (hv : ∀ t : Fin 2064, val ⟨t.val, by omega⟩ = (v (σ t) : EReal)) (ho : ∀ j, one j = 1) :
    Ideal.div (∑ j, Ideal.exp2 (s j - Finset.univ.fold max ⊥ s) * val j) (∑ j, Ideal.exp2 (s j - Finset.univ.fold max ⊥ s) * one j)
      = (softmax u v : EReal) := by
  obtain ⟨M, hM⟩ : IsReal (Finset.univ.fold max ⊥ s) := isReal_max s
    (fun j => by
      by_cases h : j.val < 2064
      · rw [show s j = _ from hs ⟨j.val, h⟩]; exact EReal.coe_ne_top _
      · rw [hs' j h]; exact bot_ne_top) ⟨0, by decide⟩ (by rw [show s ⟨0, by decide⟩ = _ from hs ⟨0, by decide⟩]; exact EReal.coe_ne_bot _)
  rw [hM]
  have hw : ∀ t : Fin 2064, Ideal.exp2 (s ⟨t.val, by omega⟩ - (M : EReal)) = ((Real.exp (u (σ t)) * Real.exp (-(M * Real.log 2)) : ℝ) : EReal) := fun t => by
    rw [hs, ← EReal.coe_sub, Ideal.exp2_coe, two_rpow]
  have hw' : ∀ j : Fin 2176, ¬ j.val < 2064 → Ideal.exp2 (s j - (M : EReal)) = 0 := fun j h => by
    rw [hs' j h, EReal.bot_sub, Ideal.exp2_bot]
  rw [sum_keys _ fun j h => by rw [hw' j h, zero_mul], sum_keys _ fun j h => by rw [hw' j h, zero_mul]]
  have hn : ∑ t : Fin 2064, Ideal.exp2 (s ⟨t.val, by omega⟩ - (M : EReal)) * val ⟨t.val, by omega⟩
      = (((∑ t, Real.exp (u t) * v t) * Real.exp (-(M * Real.log 2)) : ℝ) : EReal) := by
    rw [← Equiv.sum_comp σ (fun t => Real.exp (u t) * v t), Finset.sum_mul, coe_sum]
    exact Finset.sum_congr rfl fun t _ => by rw [hw, hv, ← EReal.coe_mul]; congr 1; ring
  have hd : ∑ t : Fin 2064, Ideal.exp2 (s ⟨t.val, by omega⟩ - (M : EReal)) * one ⟨t.val, by omega⟩
      = (((∑ t, Real.exp (u t)) * Real.exp (-(M * Real.log 2)) : ℝ) : EReal) := by
    rw [← Equiv.sum_comp σ (fun t => Real.exp (u t)), Finset.sum_mul, coe_sum]
    exact Finset.sum_congr rfl fun t _ => by rw [hw, ho, mul_one]
  rw [hn, hd, div_real _ _ (mul_ne_zero (exp_sum_pos u).ne' (Real.exp_pos _).ne'), mul_div_mul_right _ _ (Real.exp_pos _).ne']
  rfl

/-- What the reference computes. -/
theorem reference_softmax (s val : Fin 2064 → EReal) (M : EReal) (hM : M = max ⊥ (Finset.univ.fold max ⊥ s))
    (hs : ∀ t, s t = (u t : EReal)) (hv : ∀ t, val t = (v t : EReal)) :
    ∑ t, val t * Ideal.div (Ideal.exp (s t - M)) (0 + ∑ t', Ideal.exp (s t' - M)) = (softmax u v : EReal) := by
  obtain ⟨M', hM'⟩ : IsReal M := by
    rw [hM, max_eq_right bot_le]
    exact isReal_max s (fun j => by rw [hs]; exact EReal.coe_ne_top _) ⟨0, by decide⟩ (by rw [hs]; exact EReal.coe_ne_bot _)
  have hw : ∀ t, Ideal.exp (s t - M) = ((Real.exp (u t) * Real.exp (-M') : ℝ) : EReal) := fun t => by
    rw [hs, hM', ← EReal.coe_sub, Ideal.exp_coe, sub_eq_add_neg, Real.exp_add]
  have hd : (0 : EReal) + ∑ t', Ideal.exp (s t' - M) = (((∑ t, Real.exp (u t)) * Real.exp (-M') : ℝ) : EReal) := by
    rw [zero_add, Finset.sum_mul, coe_sum]
    exact Finset.sum_congr rfl fun t _ => hw t
  rw [hd, softmax, Finset.sum_div, coe_sum]
  refine Finset.sum_congr rfl fun t _ => ?_
  rw [hw, hv, div_real _ _ (mul_ne_zero (exp_sum_pos u).ne' (Real.exp_pos _).ne'), mul_div_mul_right _ _ (Real.exp_pos _).ne', ← EReal.coe_mul]
  congr 1
  ring

end

end Mla

end
-- ==== Proof.MlaTables.lean ====
/- The rotation tables the host prepares for the attention kernel, and what the kernel's rotation of a row by them amounts
   to. The kernel rotates 128 lanes at once by two lane rotations and three tables; on the first 64 lanes that is the
   two-axis rotary embedding, and the other 64 lanes it leaves alone. -/
module

public import proofs.«01_k».proof.Proof.MlaStages
public import proofs.«01_k».proof.Proof.Softmax
public import proofs.«01_k».proof.Proof.Gen.KernelIdeal.Frame
public import Idealize.ShloMosaic.Lib.Pointwise
public import Idealize.ShloMosaic.Lib.StableHlo.RunRead

@[expose] public section

set_option maxRecDepth 16384

noncomputable section

namespace Mla

open Idealize.ShloMosaic Idealize.ShloMosaic.TcCoe Cert.KernelIdeal Cert.KernelIdeal.Gen

/-! ## The angles -/

/-- The grid row and the grid column of a sequence's row `r`: 0 for the first 16, then 64 to a grid row. -/
def gridRow (r : ℕ) : EReal := if r < 16 then 0 else FloatOps.sitofp (F := Ideal) .f32 (BitVec.ofNat 32 ((r - 16) / 64))
def gridCol (r : ℕ) : EReal := if r < 16 then 0 else FloatOps.sitofp (F := Ideal) .f32 (BitVec.ofNat 32 ((r - 16) % 64))

/-- Frequency `k` of 16. -/
def freq (k : ℕ) : EReal :=
  Ideal.pow (Ideal.ofBits .f32 0x461C4000#32) (Ideal.div (-FloatOps.sitofp (F := Ideal) .f32 (BitVec.ofNat 32 k)) (Ideal.ofBits .f32 0x41800000#32))

def cosR (r k : ℕ) : EReal := Ideal.cos (gridRow r * freq k)
def sinR (r k : ℕ) : EReal := Ideal.sin (gridRow r * freq k)
def cosC (r k : ℕ) : EReal := Ideal.cos (gridCol r * freq k)
def sinC (r k : ℕ) : EReal := Ideal.sin (gridCol r * freq k)

theorem isReal_gridRow (r : ℕ) : IsReal (gridRow r) := by
  unfold gridRow; split
  · exact IsReal.zero
  · exact ⟨_, rfl⟩
theorem isReal_gridCol (r : ℕ) : IsReal (gridCol r) := by
  unfold gridCol; split
  · exact IsReal.zero
  · exact ⟨_, rfl⟩
theorem bits_sixteen : Ideal.ofBits .f32 0x41800000#32 = ((16 : ℝ) : EReal) := by
  simp [Ideal.ofBits, Ideal.ieee, ← EReal.coe_mul]; norm_num
theorem bits_theta : Ideal.ofBits .f32 0x461C4000#32 = ((10000 : ℝ) : EReal) := by
  simp [Ideal.ofBits, Ideal.ieee, ← EReal.coe_mul]; norm_num
theorem isReal_freq (k : ℕ) : IsReal (freq k) := by
  unfold freq
  rw [bits_sixteen, bits_theta, Ideal.div_coe (by norm_num)]
  exact (IsReal.coe _).pow ((IsReal.neg ⟨_, rfl⟩).mul (IsReal.coe _))

theorem isReal_cosR (r k : ℕ) : IsReal (cosR r k) := ((isReal_gridRow r).mul (isReal_freq k)).cos
theorem isReal_sinR (r k : ℕ) : IsReal (sinR r k) := ((isReal_gridRow r).mul (isReal_freq k)).sin
theorem isReal_cosC (r k : ℕ) : IsReal (cosC r k) := ((isReal_gridCol r).mul (isReal_freq k)).cos
theorem isReal_sinC (r k : ℕ) : IsReal (sinC r k) := ((isReal_gridCol r).mul (isReal_freq k)).sin

/-! ## The tables -/

section Tables
variable (m : (ℓ : Loc nD τ sig) → Buf (Elt Ideal) ℓ) (c : Dev nD) (r : Fin 2064) (l : Fin 128)

theorem table_cos : V m c main_v34 (ix2 r l) = (if l.val < 16 then cosR r.val l.val else if l.val - 16 < 16 then cosR r.val (l.val - 16)
    else if l.val - 16 - 16 < 16 then cosC r.val (l.val - 16 - 16) else if l.val - 16 - 16 - 16 < 16 then cosC r.val (l.val - 16 - 16 - 16) else 1 : EReal) := by
  unfold V
  after_reads_simp
  pointwise []
  after_reads_simp
  pointwise []
  after_reads_simp
  pointwise []
  rfl

theorem table_lo : V m c main_v37 (ix2 r l) = (if l.val < 16 then -sinR r.val l.val else if l.val - 16 < 16 then 0
    else if l.val - 16 - 16 < 16 then -sinC r.val (l.val - 16 - 16) else if l.val - 16 - 16 - 16 < 16 then 0 else 0 : EReal) := by
  unfold V
  after_reads_simp
  pointwise []
  after_reads_simp
  pointwise []
  after_reads_simp
  pointwise []
  rfl

theorem table_hi : V m c main_v38 (ix2 r l) = (if l.val < 16 then 0 else if l.val - 16 < 16 then sinR r.val (l.val - 16)
    else if l.val - 16 - 16 < 16 then 0 else if l.val - 16 - 16 - 16 < 16 then sinC r.val (l.val - 16 - 16 - 16) else 0 : EReal) := by
  unfold V
  after_reads_simp
  pointwise []
  after_reads_simp
  pointwise []
  after_reads_simp
  pointwise []
  rfl

end Tables

/-! ## The rotation of a row -/

/-- The two-axis rotary embedding of 64 lanes, as the reference writes it: the first 32 lanes by the grid row, the other 32
    by the grid column, each as two halves of 16. -/
def rotated (x : Fin 64 → EReal) (r : ℕ) (l : Fin 64) : EReal :=
  if h : l.val < 32 then
    if h' : l.val < 16 then x l * cosR r l.val - x ⟨l.val + 16, by omega⟩ * sinR r l.val
    else x l * cosR r (l.val - 16) + x ⟨l.val - 16, by omega⟩ * sinR r (l.val - 16)
  else
    if h' : l.val < 48 then x l * cosC r (l.val - 32) - x ⟨l.val + 16, by omega⟩ * sinC r (l.val - 32)
    else x l * cosC r (l.val - 48) + x ⟨l.val - 16, by omega⟩ * sinC r (l.val - 48)

theorem isReal_rotated (x : Fin 64 → EReal) (hx : ∀ k, IsReal (x k)) (r : ℕ) (l : Fin 64) : IsReal (rotated x r l) := by
  unfold rotated
  split
  · split
    · exact ((hx _).mul (isReal_cosR _ _)).sub ((hx _).mul (isReal_sinR _ _))
    · exact ((hx _).mul (isReal_cosR _ _)).add ((hx _).mul (isReal_sinR _ _))
  · split
    · exact ((hx _).mul (isReal_cosC _ _)).sub ((hx _).mul (isReal_sinC _ _))
    · exact ((hx _).mul (isReal_cosC _ _)).add ((hx _).mul (isReal_sinC _ _))

section Rope
variable (m : (ℓ : Loc nD τ sig) → Buf (Elt Ideal) ℓ) (c : Dev nD) (x : Fin 128 → EReal) (r : Fin 2064)

theorem ropeRow_left (l : Fin 64) :
    ropeRow x (fun k => V m c main_v34 (ix2 r k)) (fun k => V m c main_v37 (ix2 r k)) (fun k => V m c main_v38 (ix2 r k)) ⟨l.val, by omega⟩
      = rotated (fun k => x ⟨k.val, by omega⟩) r.val l := by
  unfold ropeRow rotated
  dsimp only
  rw [table_cos, table_lo, table_hi]
  dsimp only
  by_cases h1 : l.val < 16
  · have e : (⟨(l.val + 128 - 112) % 128, Nat.mod_lt _ (by norm_num)⟩ : Fin 128) = ⟨l.val + 16, by omega⟩ := Fin.ext (by show (l.val + 128 - 112) % 128 = l.val + 16; omega)
    simp only [h1, if_true, dif_pos, show l.val < 32 by omega, mul_zero, add_zero, e, mul_neg, sub_eq_add_neg]
  by_cases h2 : l.val < 32
  · have e : (⟨(l.val + 128 - 16) % 128, Nat.mod_lt _ (by norm_num)⟩ : Fin 128) = ⟨l.val - 16, by omega⟩ := Fin.ext (by show (l.val + 128 - 16) % 128 = l.val - 16; omega)
    simp only [h1, h2, if_true, if_false, dif_pos, dif_neg, not_false_eq_true, show l.val - 16 < 16 by omega, mul_zero, add_zero, e]
  by_cases h3 : l.val < 48
  · have e : (⟨(l.val + 128 - 112) % 128, Nat.mod_lt _ (by norm_num)⟩ : Fin 128) = ⟨l.val + 16, by omega⟩ := Fin.ext (by show (l.val + 128 - 112) % 128 = l.val + 16; omega)
    simp only [h1, h2, h3, if_true, if_false, dif_pos, dif_neg, not_false_eq_true, show ¬ l.val - 16 < 16 by omega,
      show l.val - 16 - 16 = l.val - 32 by omega, show l.val - 32 < 16 by omega, mul_zero, add_zero, e, mul_neg, sub_eq_add_neg]
  · have e : (⟨(l.val + 128 - 16) % 128, Nat.mod_lt _ (by norm_num)⟩ : Fin 128) = ⟨l.val - 16, by omega⟩ := Fin.ext (by show (l.val + 128 - 16) % 128 = l.val - 16; omega)
    simp only [h1, h2, h3, if_true, if_false, dif_neg, not_false_eq_true, show ¬ l.val - 16 < 16 by omega, show ¬ l.val - 16 - 16 < 16 by omega,
      show l.val - 16 - 16 - 16 = l.val - 48 by omega, show l.val - 48 < 16 by omega, mul_zero, add_zero, e]

theorem ropeRow_right (l : Fin 128) (h : ¬ l.val < 64) :
    ropeRow x (fun k => V m c main_v34 (ix2 r k)) (fun k => V m c main_v37 (ix2 r k)) (fun k => V m c main_v38 (ix2 r k)) l = x l := by
  unfold ropeRow
  dsimp only
  rw [table_cos, table_lo, table_hi]
  simp only [show ¬ l.val < 16 by omega, show ¬ l.val - 16 < 16 by omega, show ¬ l.val - 16 - 16 < 16 by omega,
    show ¬ l.val - 16 - 16 - 16 < 16 by omega, if_false, mul_zero, add_zero, mul_one]

end Rope

end Mla

end
-- ==== Proof.MlaReference.lean ====
/- What the reference's attention computes, stage by stage, at an index. -/
module

public import proofs.«01_k».proof.Proof.MlaTables
public import proofs.«01_k».proof.Proof.Gen.ReferenceIdeal.Read
public import Idealize.ShloMosaic.Lib.Pointwise

@[expose] public section

set_option maxRecDepth 16384

noncomputable section

namespace Mla

open Idealize.ShloMosaic Cert.ReferenceIdeal Cert.ReferenceIdeal.Gen Cert.ReferenceIdeal.Read

variable (x0 x1 : (⟨S33024x2048, .bf16⟩ : BufTy).Contents (Elt Ideal)) (x2 : (⟨S33024x3072, .bf16⟩ : BufTy).Contents (Elt Ideal))
variable (b : Fin 16) (r t : Fin 2064) (h : Fin 8)

/-- Row `r` of sequence `b`, and lane `k` of head `h`. -/
def seqRow (b : Fin 16) (r : Fin 2064) : Fin 33024 := ⟨b.val * 2064 + r.val, by omega⟩
def headLane (h : Fin 8) (k : Fin 256) : Fin 2048 := ⟨256 * h.val + k.val, by omega⟩

/-- Lane `l` of head `h`, 128 lanes to a head. -/
def outLane (h : Fin 8) (e : Fin 128) : Fin 1024 := ⟨128 * h.val + e.val, by omega⟩
def upper (k : Fin 64) : Fin 256 := ⟨128 + k.val, by omega⟩
def half (k : Fin 128) : Fin 256 := ⟨128 + k.val, by omega⟩
def lower (k : Fin 128) : Fin 256 := ⟨k.val, by omega⟩
def peLane (k : Fin 64) : Fin 3072 := ⟨2560 + k.val, by omega⟩

theorem read_q (k : Fin 256) : val_main_v11 x0 (ix4 b r h k) = x0 (ix2 (seqRow b r) (headLane h k)) := by
  pointwise [val_main_v11, val_main_v10]
  exact congrArg (fun z : Fin 2048 => x0 (ix2 (seqRow b r) z)) (Fin.ext (by show h.val * 256 + k.val = 256 * h.val + k.val; omega))

theorem read_kv (k : Fin 256) : val_main_v14 x1 (ix4 b r h k) = x1 (ix2 (seqRow b r) (headLane h k)) := by
  pointwise [val_main_v14, val_main_v13]
  exact congrArg (fun z : Fin 2048 => x1 (ix2 (seqRow b r) z)) (Fin.ext (by show h.val * 256 + k.val = 256 * h.val + k.val; omega))

theorem read_v17 (k : Fin 64) : val_main_v17 x2 (ix4 b r 0 k) = x2 (ix2 (seqRow b r) (peLane k)) := by
  pointwise [val_main_v17, val_main_v16, val_main_v15]
  rfl

/-! ## The tables -/

theorem read_v32 (k : Fin 16) : val_main_v32 (F := Ideal) (ix2 r k) = cosR r.val k.val := by
  pointwise [val_main_v32, val_main_v21, val_main_v22, val_main_v23, val_main_v24, val_main_v25, val_main_v26, val_main_v27, val_main_v28, val_main_v29, val_main_v30, val_main_v31, val_main_cst_0, val_main_cst_1, val_main_cst, val_main_v8, val_main_v7, val_main_v2, val_main_v1, val_main_v0]
  rfl
theorem read_v34 (k : Fin 16) : val_main_v34 (F := Ideal) (ix2 r k) = sinR r.val k.val := by
  pointwise [val_main_v34, val_main_v21, val_main_v22, val_main_v23, val_main_v24, val_main_v25, val_main_v26, val_main_v27, val_main_v28, val_main_v29, val_main_v30, val_main_v31, val_main_cst_0, val_main_cst_1, val_main_cst, val_main_v8, val_main_v7, val_main_v2, val_main_v1, val_main_v0]
  rfl
theorem read_v61 (k : Fin 16) : val_main_v61 (F := Ideal) (ix2 r k) = cosC r.val k.val := by
  pointwise [val_main_v61, val_main_v50, val_main_v51, val_main_v52, val_main_v53, val_main_v54, val_main_v55, val_main_v56, val_main_v57, val_main_v58, val_main_v59, val_main_v60, val_main_cst_2, val_main_cst_3, val_main_cst, val_main_v9, val_main_v7, val_main_v6, val_main_v5, val_main_v4, val_main_v3]
  rfl
theorem read_v63 (k : Fin 16) : val_main_v63 (F := Ideal) (ix2 r k) = sinC r.val k.val := by
  pointwise [val_main_v63, val_main_v50, val_main_v51, val_main_v52, val_main_v53, val_main_v54, val_main_v55, val_main_v56, val_main_v57, val_main_v58, val_main_v59, val_main_v60, val_main_cst_2, val_main_cst_3, val_main_cst, val_main_v9, val_main_v7, val_main_v6, val_main_v5, val_main_v4, val_main_v3]
  rfl
theorem read_v93 (k : Fin 16) : val_main_v93 (F := Ideal) (ix2 r k) = cosR r.val k.val := by
  pointwise [val_main_v93, val_main_v82, val_main_v83, val_main_v84, val_main_v85, val_main_v86, val_main_v87, val_main_v88, val_main_v89, val_main_v90, val_main_v91, val_main_v92, val_main_cst_4, val_main_cst_5, val_main_cst, val_main_v8, val_main_v7, val_main_v2, val_main_v1, val_main_v0]
  rfl
theorem read_v95 (k : Fin 16) : val_main_v95 (F := Ideal) (ix2 r k) = sinR r.val k.val := by
  pointwise [val_main_v95, val_main_v82, val_main_v83, val_main_v84, val_main_v85, val_main_v86, val_main_v87, val_main_v88, val_main_v89, val_main_v90, val_main_v91, val_main_v92, val_main_cst_4, val_main_cst_5, val_main_cst, val_main_v8, val_main_v7, val_main_v2, val_main_v1, val_main_v0]
  rfl
theorem read_v122 (k : Fin 16) : val_main_v122 (F := Ideal) (ix2 r k) = cosC r.val k.val := by
  pointwise [val_main_v122, val_main_v111, val_main_v112, val_main_v113, val_main_v114, val_main_v115, val_main_v116, val_main_v117, val_main_v118, val_main_v119, val_main_v120, val_main_v121, val_main_cst_6, val_main_cst_7, val_main_cst, val_main_v9, val_main_v7, val_main_v6, val_main_v5, val_main_v4, val_main_v3]
  rfl
theorem read_v124 (k : Fin 16) : val_main_v124 (F := Ideal) (ix2 r k) = sinC r.val k.val := by
  pointwise [val_main_v124, val_main_v111, val_main_v112, val_main_v113, val_main_v114, val_main_v115, val_main_v116, val_main_v117, val_main_v118, val_main_v119, val_main_v120, val_main_v121, val_main_cst_6, val_main_cst_7, val_main_cst, val_main_v9, val_main_v7, val_main_v6, val_main_v5, val_main_v4, val_main_v3]
  rfl

/-! ## The rotations -/

theorem read_v78 (l : Fin 64) :
    val_main_v78 x0 (ix4 b r h l) = rotated (fun k => x0 (ix2 (seqRow b r) (headLane h (upper k)))) r.val l := by
  pointwise [val_main_v78, val_main_v48, val_main_v77, val_main_v42, val_main_v47, val_main_v39, val_main_v41, val_main_v71, val_main_v76, val_main_v44, val_main_v46, val_main_v68, val_main_v70, val_main_v73, val_main_v75, val_main_v38, val_main_v40, val_main_v43, val_main_v45, val_main_v67, val_main_v69, val_main_v72, val_main_v74, val_main_v36, val_main_v37, val_main_v65, val_main_v66, val_main_v20, val_main_v49, val_main_v19, val_main_v12, val_main_v33, val_main_v35, val_main_v62, val_main_v64]
  simp only [read_v32, read_v34, read_v61, read_v63, read_q]
  unfold rotated upper
  by_cases h1 : l.val < 16
  · simp only [h1, dif_pos, show l.val < 32 by omega, show 16 + l.val = l.val + 16 by omega]
  by_cases h2 : l.val < 32
  · simp only [h1, h2, dif_pos, dif_neg, not_false_eq_true, show 16 + (l.val - 16) = l.val by omega]
  by_cases h3 : l.val < 48
  · simp only [h2, h3, show l.val - 32 < 16 by omega, dif_pos, dif_neg, not_false_eq_true, show 32 + (l.val - 32) = l.val by omega,
      show 32 + (16 + (l.val - 32)) = l.val + 16 by omega]
  · simp only [h2, h3, show ¬ l.val - 32 < 16 by omega, dif_neg, not_false_eq_true, show l.val - 32 - 16 = l.val - 48 by omega,
      show 32 + (16 + (l.val - 48)) = l.val by omega, show 32 + (l.val - 48) = l.val - 16 by omega]

theorem read_v139 (l : Fin 64) : val_main_v139 x2 (ix4 b r 0 l) = rotated (fun k => x2 (ix2 (seqRow b r) (peLane k))) r.val l := by
  pointwise [val_main_v139, val_main_v138, val_main_v137, val_main_v136, val_main_v135, val_main_v134, val_main_v133, val_main_v132, val_main_v131, val_main_v130, val_main_v129, val_main_v128, val_main_v127, val_main_v126, val_main_v110, val_main_v109, val_main_v108, val_main_v107, val_main_v106, val_main_v105, val_main_v104, val_main_v103, val_main_v102, val_main_v101, val_main_v100, val_main_v99, val_main_v98, val_main_v97, val_main_v81, val_main_v94, val_main_v96, val_main_v123, val_main_v125]
  simp only [read_v93, read_v95, read_v122, read_v124, read_v17]
  unfold rotated
  by_cases h1 : l.val < 16
  · simp only [h1, dif_pos, show l.val < 32 by omega, show 16 + l.val = l.val + 16 by omega]
  by_cases h2 : l.val < 32
  · simp only [h1, h2, dif_pos, dif_neg, not_false_eq_true, show 16 + (l.val - 16) = l.val by omega]
  by_cases h3 : l.val < 48
  · simp only [h2, h3, show l.val - 32 < 16 by omega, dif_pos, dif_neg, not_false_eq_true, show 32 + (l.val - 32) = l.val by omega,
      show 32 + (16 + (l.val - 32)) = l.val + 16 by omega]
  · simp only [h2, h3, show ¬ l.val - 32 < 16 by omega, dif_neg, not_false_eq_true, show l.val - 32 - 16 = l.val - 48 by omega,
      show 32 + (16 + (l.val - 48)) = l.val by omega, show 32 + (l.val - 48) = l.val - 16 by omega]

/-! ## The scores -/

/-- The score of key `t` for query `r`. -/
def refScore (b : Fin 16) (h : Fin 8) (r t : Fin 2064) : EReal :=
  Ideal.div ((∑ k : Fin 128, x0 (ix2 (seqRow b r) (headLane h (lower k))) * x1 (ix2 (seqRow b t) (headLane h (lower k))))
    + ∑ l : Fin 64, rotated (fun k => x0 (ix2 (seqRow b r) (headLane h (upper k)))) r.val l * rotated (fun k => x2 (ix2 (seqRow b t) (peLane k))) t.val l)
    (Ideal.sqrt (Ideal.ofBits .f32 0x43400000#32))

theorem read_v142_lower (k : Fin 128) (p : k.val < 192) : val_main_v142 x0 (ix4 b r h ⟨k.val, p⟩) = x0 (ix2 (seqRow b r) (headLane h (lower k))) := by
  pointwise [val_main_v142, val_main_v18, val_main_v12]
  rw [read_q]
  rfl
theorem read_v141_lower (k : Fin 128) (p : k.val < 192) : val_main_v141 x1 x2 (ix4 b r h ⟨k.val, p⟩) = x1 (ix2 (seqRow b r) (headLane h (lower k))) := by
  pointwise [val_main_v141, val_main_v79]
  rw [read_kv]
  rfl
theorem read_v141_upper (k : Fin 64) (p : 128 + k.val < 192) : val_main_v141 x1 x2 (ix4 b r h ⟨128 + k.val, p⟩) = rotated (fun k => x2 (ix2 (seqRow b r) (peLane k))) r.val k := by
  pointwise [val_main_v141, val_main_v140]
  rw [read_v139]

theorem read_v146 : val_main_v146 x0 x1 x2 (ix4 b h r t) = refScore x0 x1 x2 b h r t := by
  pointwise [val_main_v146, val_main_v145, val_main_v144, val_main_v143, val_main_v142, val_main_v18, val_main_v12, val_main_cst_8]
  simp only [read_q, read_v78, read_v141_lower, read_v141_upper]
  rfl

/-! ## The softmax -/

theorem read_v161 (e : Fin 128) : val_main_v161 x0 x1 x2 (ix3 b r (outLane h e)) = val_main_v158 x0 x1 x2 (ix4 b h e r) := by
  rw [val_main_v161_apply, val_main_v160_apply, val_main_v159_apply]
  generalize val_main_v158 x0 x1 x2 = y
  refine congrArg y (funext fun a => Fin.ext ?_)
  have h1 := r.isLt; have h2 := h.isLt; have h3 := e.isLt
  match a with
  | ⟨0, _⟩ => show ((b.val * 2064 + r.val) * 1024 + (128 * h.val + e.val)) / 2113536 = b.val; omega
  | ⟨1, _⟩ => show ((b.val * 2064 + r.val) * 1024 + (128 * h.val + e.val)) / 128 % 8 = h.val; omega
  | ⟨2, _⟩ => show ((b.val * 2064 + r.val) * 1024 + (128 * h.val + e.val)) % 128 = e.val; omega
  | ⟨3, _⟩ => show ((b.val * 2064 + r.val) * 1024 + (128 * h.val + e.val)) / 1024 % 2064 = r.val; omega

theorem read_v158 (e : Fin 128) : val_main_v158 x0 x1 x2 (ix4 b h e r) = ∑ t, val_main_v80 x1 (ix4 b t h e) * val_main_v157 x0 x1 x2 (ix4 b h r t) := by
  rw [val_main_v158_apply]
  generalize val_main_v157 x0 x1 x2 = y
  generalize val_main_v80 x1 = z
  refine Finset.sum_congr rfl fun t _ => ?_
  congr 1
  · exact congrArg z (funext fun a => Fin.ext (by match a with | ⟨0, _⟩ => rfl | ⟨1, _⟩ => rfl | ⟨2, _⟩ => rfl | ⟨3, _⟩ => rfl))
  · exact congrArg y (funext fun a => Fin.ext (by match a with | ⟨0, _⟩ => rfl | ⟨1, _⟩ => rfl | ⟨2, _⟩ => rfl | ⟨3, _⟩ => rfl))

theorem read_v80 (e : Fin 128) : val_main_v80 x1 (ix4 b t h e) = x1 (ix2 (seqRow b t) (headLane h (half e))) := by
  pointwise [val_main_v80]
  rw [read_kv]
  rfl

theorem read_v154 : val_main_v154 x0 x1 x2 (ix3 b h r) = 0 + ∑ k, val_main_v153 x0 x1 x2 (ix4 b h r k) := by
  rw [val_main_v154_apply]
  generalize val_main_v153 x0 x1 x2 = y
  congr 1
  · exact Ideal.ofBits_zero .f32
  · exact Finset.sum_congr rfl fun t _ =>
      congrArg y (funext fun a => Fin.ext (by match a with | ⟨0, _⟩ => rfl | ⟨1, _⟩ => rfl | ⟨2, _⟩ => rfl | ⟨3, _⟩ => rfl))

theorem read_v147 : val_main_v147 x0 x1 x2 (ix3 b h r)
    = Finset.univ.fold max (val_main_cst_9 (F := Ideal) (Shape.Idx.first h_S_)) fun t => val_main_v146 x0 x1 x2 (ix4 b h r t) := by
  pointwise [val_main_v147]

theorem read_cst_10 (i : S_.Idx) : val_main_cst_10 (F := Ideal) i = (⊥ : EReal) := by
  rw [val_main_cst_10_apply]
  simp [Ideal.ofBits, Ideal.ieee]

theorem read_cst_9 (i : S_.Idx) : val_main_cst_9 (F := Ideal) i = (⊥ : EReal) := by
  rw [val_main_cst_9_apply]
  simp [Ideal.ofBits, Ideal.ieee]

/-- The greatest score of a query. -/
def refMax (b : Fin 16) (h : Fin 8) (r : Fin 2064) : EReal := max ⊥ (Finset.univ.fold max ⊥ (refScore x0 x1 x2 b h r))

theorem read_v149 : val_main_v149 x0 x1 x2 (ix3 b h r) = refMax x0 x1 x2 b h r := by
  rw [val_main_v149_apply, read_v147, val_main_v148_apply, read_cst_9, read_cst_10]
  simp only [read_v146]
  rfl

theorem read_v153 : val_main_v153 x0 x1 x2 (ix4 b h r t) = Ideal.exp (refScore x0 x1 x2 b h r t - refMax x0 x1 x2 b h r) := by
  rw [val_main_v153_apply, val_main_v152_apply, read_v146, val_main_v151_apply, val_main_v150_apply, ← read_v149]
  generalize val_main_v149 x0 x1 x2 = y
  have e : idx_main_v150 (idx_main_v151 (ix4 b h r t)) = ix3 b h r :=
    funext fun a => by match a with | ⟨0, _⟩ => rfl | ⟨1, _⟩ => rfl | ⟨2, _⟩ => rfl
  rw [e]
  rfl

theorem read_v157 : val_main_v157 x0 x1 x2 (ix4 b h r t)
    = Ideal.div (val_main_v153 x0 x1 x2 (ix4 b h r t)) (val_main_v154 x0 x1 x2 (ix3 b h r)) := by
  pointwise [val_main_v157, val_main_v156, val_main_v155]

/-- The reference's attention at row `r`, lane `e` of head `h`. -/
theorem reference_out (e : Fin 128) : val_main_v161 x0 x1 x2 (ix3 b r (outLane h e))
    = ∑ t, x1 (ix2 (seqRow b t) (headLane h (half e))) * Ideal.div (Ideal.exp (refScore x0 x1 x2 b h r t - refMax x0 x1 x2 b h r))
        (0 + ∑ t', Ideal.exp (refScore x0 x1 x2 b h r t' - refMax x0 x1 x2 b h r)) := by
  rw [read_v161, read_v158]
  refine Finset.sum_congr rfl fun t _ => ?_
  rw [read_v80, read_v157, read_v154, read_v153]
  simp only [read_v153]

end Mla

end
-- ==== Proof.MlaKernel.lean ====
/- The kernel's attention in terms of the arguments: queries, keys, values and scores, entry by entry. -/
module

public import proofs.«01_k».proof.Proof.MlaValue
public import proofs.«01_k».proof.Proof.MlaReference
public import Idealize.ShloMosaic.Lib.Pointwise
public import Idealize.ShloMosaic.Lib.StableHlo.RunRead

@[expose] public section

set_option maxRecDepth 16384

noncomputable section

namespace Mla

open Idealize.ShloMosaic Idealize.ShloMosaic.TcCoe Cert.KernelIdeal Cert.KernelIdeal.Gen

/-- The row of the sequence that stored key `t` is: the 2048 tokens first, then the 16 rows before them. -/
def keyOrder : Fin 2064 ≃ Fin 2064 where
  toFun t := ⟨if t.val < 2048 then 16 + t.val else t.val - 2048, by split <;> omega⟩
  invFun r := ⟨if r.val < 16 then 2048 + r.val else r.val - 16, by split <;> omega⟩
  left_inv t := Fin.ext (by dsimp only; split_ifs <;> omega)
  right_inv r := Fin.ext (by dsimp only; split_ifs <;> omega)

/-- The last 64 of a head's 256 lanes. -/
def padLane (k : Fin 64) : Fin 256 := ⟨192 + k.val, by omega⟩

theorem sum_lanes (f : Fin 256 → EReal) :
    ∑ k, f k = (∑ k, f (lower k)) + ((∑ l, f (upper l)) + ∑ l, f (padLane l)) := by
  refine (Fin.sum_univ_add (a := 128) (b := 128) f).trans ?_
  refine congrArg₂ (· + ·) rfl ?_
  exact Fin.sum_univ_add (a := 64) (b := 64) fun i => f (Fin.natAdd 128 i)

variable (m : (ℓ : Loc nD τ sig) → Buf (Elt Ideal) ℓ) (c : Dev nD)

/-- The three arguments. -/
def argQ : S33024x2048.Idx → EReal := m ((c.tc : Thread nD τ).loc main_arg0)
def argKV : S33024x2048.Idx → EReal := m ((c.tc : Thread nD τ).loc main_arg1)
def argPA : S33024x3072.Idx → EReal := m ((c.tc : Thread nD τ).loc main_arg2)

variable (b : Fin 16) (r t : Fin 2064) (h : Fin 8)

theorem entry_q (l : Fin 2048) : V m c main_v39 (ix3 b r l) = argQ m c (ix2 (seqRow b r) l) := by
  unfold V
  after_reads_simp
  pointwise []
  rfl
theorem entry_kv (l : Fin 2048) : V m c main_v40 (ix3 b r l) = argKV m c (ix2 (seqRow b r) l) := by
  unfold V
  after_reads_simp
  pointwise []
  rfl
theorem entry_pa (l : Fin 3072) : V m c main_v41 (ix3 b r l) = argPA m c (ix2 (seqRow b r) l) := by
  unfold V
  after_reads_simp
  pointwise []
  rfl

/-! ## Queries -/

theorem query_lower (k : Fin 128) : headQuery m c b h r (lower k) = argQ m c (ix2 (seqRow b r) (headLane h (lower k))) * qScale := by
  unfold headQuery queryRow
  rw [dif_pos (show (lower k).val < 128 from k.isLt)]
  exact congrArg (· * qScale) (entry_q m c b r (headLane h (lower k)))

theorem query_upper (l : Fin 64) :
    headQuery m c b h r (upper l) = rotated (fun k => argQ m c (ix2 (seqRow b r) (headLane h (upper k)))) r.val l * qScale := by
  unfold headQuery queryRow
  rw [dif_neg (show ¬ (upper l).val < 128 by show ¬ 128 + l.val < 128; omega)]
  have e : (⟨(upper l).val - 128, by have := (upper l).isLt; omega⟩ : Fin 128) = ⟨l.val, by omega⟩ := Fin.ext (by show 128 + l.val - 128 = l.val; omega)
  rw [e, ropeRow_left]
  exact congrArg (fun x => rotated x r.val l * qScale) (funext fun k => entry_q m c b r (headLane h (upper k)))

theorem query_pad (l : Fin 64) : headQuery m c b h r (padLane l) = argQ m c (ix2 (seqRow b r) (headLane h (padLane l))) * qScale := by
  unfold headQuery queryRow
  rw [dif_neg (show ¬ (padLane l).val < 128 by show ¬ 192 + l.val < 128; omega), ropeRow_right _ _ _ _ _ (by show ¬ 192 + l.val - 128 < 64; omega)]
  dsimp only
  rw [entry_q]
  refine congrArg (fun k : Fin 2048 => argQ m c (ix2 (seqRow b r) k) * qScale) (Fin.ext ?_)
  show 256 * h.val + (128 + (192 + l.val - 128)) = 256 * h.val + (192 + l.val)
  omega

/-! ## Keys and values -/

theorem key_lower (k : Fin 128) : headKeys m c b h (ix2 ⟨t.val, by omega⟩ (lower k)) = argKV m c (ix2 (seqRow b (keyOrder t)) (headLane h (lower k))) := by
  unfold headKeys
  refine (storedKey_left (headKV m c b h) (keyRope m c b) (j := ⟨t.val, by omega⟩) (l := lower k) (r := keyOrder t) t.isLt k.isLt rfl).trans ?_
  exact entry_kv m c b (keyOrder t) (headLane h (lower k))

theorem key_upper (l : Fin 64) : headKeys m c b h (ix2 ⟨t.val, by omega⟩ (upper l))
    = rotated (fun k => argPA m c (ix2 (seqRow b (keyOrder t)) (peLane k))) (keyOrder t).val l := by
  unfold headKeys
  refine (storedKey_right (headKV m c b h) (keyRope m c b) (j := ⟨t.val, by omega⟩) (l := upper l) (r := keyOrder t) (k := ⟨l.val, by omega⟩) t.isLt
    (by show ¬ 128 + l.val < 128; omega) rfl rfl).trans ?_
  unfold keyRope
  rw [ropeRow_left]
  exact congrArg (fun x => rotated x (keyOrder t).val l) (funext fun k => entry_pa m c b (keyOrder t) (peLane k))

theorem val_left (e : Fin 128) : headVals m c b h (ix2 ⟨t.val, by omega⟩ (leftLane e)) = argKV m c (ix2 (seqRow b (keyOrder t)) (headLane h (half e))) := by
  unfold headVals
  refine (storedVal_left (headKV m c b h) (j := ⟨t.val, by omega⟩) (l := leftLane e) (k := e) (r := keyOrder t) t.isLt rfl rfl).trans ?_
  exact entry_kv m c b (keyOrder t) (headLane h (half e))

theorem val_right (j : Fin 2176) (e : Fin 128) : headVals m c b h (ix2 j (rightLane e)) = 1 := by
  unfold headVals
  exact storedVal_one _ (by show ¬ 128 + e.val < 128; omega)

/-! ## Scores -/

theorem score_key : scoreOf (headQuery m c b h r) (headKeys m c b h) ⟨t.val, by omega⟩
    = (∑ k : Fin 128, argQ m c (ix2 (seqRow b r) (headLane h (lower k))) * qScale * argKV m c (ix2 (seqRow b (keyOrder t)) (headLane h (lower k))))
      + ((∑ l : Fin 64, rotated (fun k => argQ m c (ix2 (seqRow b r) (headLane h (upper k)))) r.val l * qScale
            * rotated (fun k => argPA m c (ix2 (seqRow b (keyOrder t)) (peLane k))) (keyOrder t).val l)
        + ∑ l : Fin 64, argQ m c (ix2 (seqRow b r) (headLane h (padLane l))) * qScale * headKeys m c b h (ix2 ⟨t.val, by omega⟩ (padLane l))) := by
  unfold scoreOf
  rw [bias, if_pos (show t.val < 2064 from t.isLt), add_zero, sum_lanes]
  simp only [query_lower, query_upper, query_pad, key_lower, key_upper]

theorem score_none (q : Fin 256 → EReal) (K : S2176x256.Idx → EReal) (j : Fin 2176) (hj : ¬ j.val < 2064) : scoreOf q K j = ⊥ := by
  rw [scoreOf, bias, if_neg hj, EReal.add_bot]

end Mla

end
-- ==== Proof.MlaFinite.lean ====
/- What the precondition says of the arguments: every entry is a real number, and the lanes that pad a head's query are 0. -/
module

public import proofs.«01_k».proof.Proof.MlaReference
public import proofs.«01_k».proof.Proof.Gen.Pre_finite_padded
public import Idealize.ShloMosaic.Lib.Pointwise

@[expose] public section

set_option maxRecDepth 16384

noncomputable section

namespace Mla

open Idealize.ShloMosaic Cert.Pre_finite_padded Cert.Pre_finite_padded.Gen

attribute [local instance] Cert.Pre_finite_padded.Gen.facts

theorem isReal_of_lt {x : EReal} (h : BitVec.ofBool (decide (FloatOps.absf (F := Ideal) (φ := .f32) x < Ideal.ofBits .f32 0x7F800000#32)) = 1#1) : IsReal x := by
  have ht : Ideal.ofBits .f32 0x7F800000#32 = (⊤ : EReal) := by simp [Ideal.ofBits, Ideal.ieee]
  rw [ht] at h
  have h' : max x (-x) < (⊤ : EReal) := by
    by_contra hn
    have hn' : ¬ FloatOps.absf (F := Ideal) (φ := .f32) x < (⊤ : EReal) := hn
    rw [decide_eq_false hn'] at h
    exact absurd h (by decide)
  refine IsReal.of_ne ?_ ?_
  · rintro rfl
    exact absurd h' (by simp)
  · rintro rfl
    exact absurd h' (by simp)

/-- The lanes the precondition asks to be finite: the first 192 of each 256. -/
theorem lane_test : ∀ n : Fin 2048, IntOp.cmpi CmpIPredicate.slt (IntOp.andi (BitVec.ofNat 32 n.val) 255#32) 192#32
    = if n.val % 256 < 192 then 1#1 else 0#1 := by
  decide +kernel

variable (x0 x1 : FVec Ideal S33024x2048 .bf16) (x2 : FVec Ideal S33024x3072 .bf16)
  (hpre : Cert.Pre_finite_padded.fn (F := Ideal) x0 x1 x2 = fun _ => 1#1)
include hpre

theorem kv_real (r : Fin 33024) (l : Fin 2048) : IsReal (x1 (ix2 r l)) := by
  have h := congrFun hpre (ix2 r ⟨2048 + l.val, by omega⟩)
  revert h
  pointwise [fn, fn_part1, fn_where]
  exact isReal_of_lt

theorem pa_real (r : Fin 33024) (l : Fin 3072) : IsReal (x2 (ix2 r l)) := by
  have h := congrFun hpre (ix2 r ⟨4096 + l.val, by omega⟩)
  revert h
  pointwise [fn, fn_part1, fn_where]
  rw [dif_neg (by omega), dif_neg (by omega)]
  intro h
  refine isReal_of_lt ?_
  rw [← h]
  refine congrArg (fun k : Fin 3072 => BitVec.ofBool (decide (FloatOps.absf (F := Ideal) (φ := .f32) (x2 (ix2 r k)) < Ideal.ofBits .f32 0x7F800000#32))) (Fin.ext ?_)
  show l.val = 4096 + l.val - 2048 - 2048
  omega

theorem q_real (r : Fin 33024) (h : Fin 8) (l : Fin 256) (hl : l.val < 192) : IsReal (x0 (ix2 r (headLane h l))) := by
  have h' := congrFun hpre (ix2 r ⟨(headLane h l).val, by omega⟩)
  revert h'
  pointwise [fn, fn_part1, fn_where]
  rw [lane_test, if_pos (show (headLane h l).val % 256 < 192 by show (256 * h.val + l.val) % 256 < 192; omega)]
  exact isReal_of_lt

theorem q_zero (r : Fin 33024) (h : Fin 8) (l : Fin 256) (hl : ¬ l.val < 192) : x0 (ix2 r (headLane h l)) = (0 : EReal) := by
  have h' := congrFun hpre (ix2 r ⟨(headLane h l).val, by omega⟩)
  revert h'
  pointwise [fn, fn_part1, fn_where]
  rw [lane_test, if_neg (show ¬ (headLane h l).val % 256 < 192 by show ¬ (256 * h.val + l.val) % 256 < 192; omega)]
  intro h'
  by_contra hn
  have h2 : BitVec.ofBool (decide (x0 (ix2 r (headLane h l)) = (0 : EReal))) = 1#1 := h'
  rw [decide_eq_false hn] at h2
  exact absurd h2 (by decide)

end Mla

end
-- ==== Proof.MlaEqual.lean ====
/- The kernel's attention is the reference's, where the precondition holds. -/
module

public import proofs.«01_k».proof.Proof.MlaKernel
public import proofs.«01_k».proof.Proof.MlaFinite

@[expose] public section

set_option maxRecDepth 16384

noncomputable section

namespace Mla

open Idealize.ShloMosaic Idealize.ShloMosaic.TcCoe Cert.KernelIdeal Cert.KernelIdeal.Gen

attribute [local instance] Cert.Pre_finite_padded.Gen.facts

theorem IsReal.sum {ι : Type*} [Fintype ι] {f : ι → EReal} (h : ∀ i, IsReal (f i)) : IsReal (∑ i, f i) := by
  choose g hg using h
  exact ⟨∑ i, g i, by rw [coe_sum]; exact Finset.sum_congr rfl fun i _ => hg i⟩

/-- A scaled dot product of real numbers is the dot product, scaled. -/
theorem scaled_dot {n : ℕ} (x y : Fin n → EReal) (s : ℝ) (hx : ∀ k, IsReal (x k)) (hy : ∀ k, IsReal (y k)) :
    ∑ k, x k * (s : EReal) * y k = (∑ k, x k * y k) * (s : EReal) := by
  choose f hf using hx
  choose g hg using hy
  have e1 : ∑ k, x k * (s : EReal) * y k = ((∑ k, f k * s * g k : ℝ) : EReal) := by
    rw [coe_sum]; exact Finset.sum_congr rfl fun k _ => by rw [hf, hg, ← EReal.coe_mul, ← EReal.coe_mul]
  have e2 : ∑ k, x k * y k = ((∑ k, f k * g k : ℝ) : EReal) := by
    rw [coe_sum]; exact Finset.sum_congr rfl fun k _ => by rw [hf, hg, ← EReal.coe_mul]
  rw [e1, e2, ← EReal.coe_mul, Finset.sum_mul]
  exact congrArg _ (Finset.sum_congr rfl fun k _ => by ring)

theorem sqrt_dim : Ideal.sqrt (Ideal.ofBits .f32 0x43400000#32) = ((Real.sqrt 192 : ℝ) : EReal) := by
  have e : Ideal.ofBits .f32 0x43400000#32 = ((192 : ℝ) : EReal) := by
    simp [Ideal.ofBits, Ideal.ieee, ← EReal.coe_mul]; norm_num
  rw [e]
  show (if (192 : ℝ) < 0 then (⊥ : EReal) else ((Real.sqrt 192 : ℝ) : EReal)) = _
  rw [if_neg (by norm_num)]

section
variable (m : (ℓ : Loc nD τ sig) → Buf (Elt Ideal) ℓ) (c : Dev nD)
  (hpre : Cert.Pre_finite_padded.fn (F := Ideal) (argQ m c) (argKV m c) (argPA m c) = fun _ => 1#1)
include hpre

/-- The dot product of query `r` and key `t`, as the reference takes it, is a real number. -/
theorem dot_real (b : Fin 16) (h : Fin 8) (r t : Fin 2064) :
    ∃ w : ℝ, (∑ k : Fin 128, argQ m c (ix2 (seqRow b r) (headLane h (lower k))) * argKV m c (ix2 (seqRow b t) (headLane h (lower k))))
      + (∑ l : Fin 64, rotated (fun k => argQ m c (ix2 (seqRow b r) (headLane h (upper k)))) r.val l
          * rotated (fun k => argPA m c (ix2 (seqRow b t) (peLane k))) t.val l) = (w : EReal) := by
  refine IsReal.add (IsReal.sum fun k => IsReal.mul ?_ ?_) (IsReal.sum fun l => IsReal.mul ?_ ?_)
  · exact q_real _ _ _ hpre _ _ _ (by show k.val < 192; omega)
  · exact kv_real _ _ _ hpre _ _
  · exact isReal_rotated _ (fun k => q_real _ _ _ hpre _ _ _ (by show 128 + k.val < 192; omega)) _ _
  · exact isReal_rotated _ (fun k => pa_real _ _ _ hpre _ _) _ _

/-- The kernel's result and the reference's, at row `r` and lane `e` of head `h`. -/
theorem equal_at (b : Fin 16) (r : Fin 2064) (h : Fin 8) (e : Fin 128) :
    Cert.KernelIdeal.Value.G6 m c (ix3 b r ⟨128 * h.val + e.val, by omega⟩)
      = Cert.ReferenceIdeal.Read.val_main_v161 (argQ m c) (argKV m c) (argPA m c) (ix3 b r (outLane h e)) := by
  rw [result, reference_out]
  choose w hw using fun t => dot_real m c hpre b h r t
  choose v hv using fun t => kv_real _ _ _ hpre (seqRow b t) (headLane h (half e))
  have hs : Real.sqrt 192 ≠ 0 := (Real.sqrt_pos.2 (by norm_num)).ne'
  have href : ∀ t, refScore (argQ m c) (argKV m c) (argPA m c) b h r t = ((w t / Real.sqrt 192 : ℝ) : EReal) := fun t => by
    unfold refScore
    rw [hw, sqrt_dim, div_real _ _ hs]
  have hker : ∀ t : Fin 2064, scoreOf (headQuery m c b h r) (headKeys m c b h) ⟨t.val, by omega⟩
      = ((w (keyOrder t) / Real.sqrt 192 / Real.log 2 : ℝ) : EReal) := fun t => by
    rw [score_key]
    unfold qScale
    rw [scaled_dot _ _ _ (fun k => q_real _ _ _ hpre _ _ _ (by show k.val < 192; omega)) (fun k => kv_real _ _ _ hpre _ _),
      scaled_dot _ _ _ (fun l => isReal_rotated _ (fun k => q_real _ _ _ hpre _ _ _ (by show 128 + k.val < 192; omega)) _ _)
        (fun l => isReal_rotated _ (fun k => pa_real _ _ _ hpre _ _) _ _),
      Finset.sum_eq_zero (s := Finset.univ) (f := fun l : Fin 64 => argQ m c (ix2 (seqRow b r) (headLane h (padLane l))) * _ * headKeys m c b h (ix2 ⟨t.val, by omega⟩ (padLane l)))
        (fun l _ => by rw [q_zero _ _ _ hpre _ _ _ (by show ¬ 192 + l.val < 192; omega), zero_mul, zero_mul]), add_zero]
    obtain ⟨p, hp⟩ := IsReal.sum (f := fun k : Fin 128 => argQ m c (ix2 (seqRow b r) (headLane h (lower k))) * argKV m c (ix2 (seqRow b (keyOrder t)) (headLane h (lower k))))
      fun k => IsReal.mul (q_real _ _ _ hpre _ _ _ (by show k.val < 192; omega)) (kv_real _ _ _ hpre _ _)
    obtain ⟨q, hq⟩ := IsReal.sum (f := fun l : Fin 64 => rotated (fun k => argQ m c (ix2 (seqRow b r) (headLane h (upper k)))) r.val l
          * rotated (fun k => argPA m c (ix2 (seqRow b (keyOrder t)) (peLane k))) (keyOrder t).val l)
      fun l => IsReal.mul (isReal_rotated _ (fun k => q_real _ _ _ hpre _ _ _ (by show 128 + k.val < 192; omega)) _ _)
        (isReal_rotated _ (fun k => pa_real _ _ _ hpre _ _) _ _)
    have hpq := hw (keyOrder t)
    rw [hp, hq, ← EReal.coe_add, EReal.coe_eq_coe_iff] at hpq
    rw [hp, hq, ← EReal.coe_mul, ← EReal.coe_mul, ← EReal.coe_add, ← hpq]
    congr 1
    field_simp
  rw [reference_softmax (fun t => w t / Real.sqrt 192) v (refScore (argQ m c) (argKV m c) (argPA m c) b h r) _ (refMax (argQ m c) (argKV m c) (argPA m c) b h r) rfl href hv]
  exact kernel_softmax keyOrder (fun t => w t / Real.sqrt 192) v _ _ _ hker (fun j hj => score_none _ _ j hj)
    (fun t => (val_left m c b t h e).trans (hv _)) (fun j => val_right m c b h j e)

/-- The kernel's result and the reference's. -/
theorem equal : Cert.KernelIdeal.Value.G6 m c = Cert.ReferenceIdeal.Read.val_main_v161 (argQ m c) (argKV m c) (argPA m c) := by
  funext (i : S16x2064x1024.Idx)
  have h2 : (i 2).val < 1024 := (i 2).isLt
  have e : i = ix3 (n0 := 16) (n1 := 2064) (n2 := 1024) (i 0) (i 1) ⟨128 * ((i 2).val / 128) + (i 2).val % 128, by omega⟩ :=
    ix_ext3 (n0 := 16) (n1 := 2064) (n2 := 1024) i rfl rfl (by show (i 2).val = 128 * ((i 2).val / 128) + (i 2).val % 128; omega)
  rw [e]
  exact equal_at m c hpre (i 0) (i 1) ⟨(i 2).val / 128, by omega⟩ ⟨(i 2).val % 128, Nat.mod_lt _ (by decide)⟩

end

end Mla

end
-- ==== Proof.Rows.lean ====
/- The functions of one row that the layer's projections share: the RMS norm and the SwiGLU unit. -/
module

public import Idealize.ShloMosaic.PureOps.Ideal
public import Idealize.ShloMosaic.PureOps.Ideal.Laws
public import Idealize.ShloMosaic.Lib.Pointwise

@[expose] public section

noncomputable section

namespace Layer

open Idealize.ShloMosaic

/-- The addend that keeps a norm's denominator from zero: the float nearest 10⁻⁶. -/
def eps : EReal := Ideal.ofBits FTy.f32 0x358637BD#32

/-- The RMS norm of a row `x`, with gains `g`: each entry over the root of the mean square, `n` being the row's length. -/
def norm {K : ℕ} (n : EReal) (x g : Fin K → EReal) (k : Fin K) : EReal :=
  x k * Ideal.rsqrt (Ideal.div (∑ j, x j * x j) n + eps) * g k

/-- A row times a matrix. -/
def times {K N : ℕ} (x : Fin K → EReal) (w : Fin K → Fin N → EReal) (j : Fin N) : EReal := ∑ k, x k * w k j

/-- The SwiGLU unit: the gate `a`, times its logistic, times `b`. -/
def swiglu (a b : EReal) : EReal := a * Ideal.logistic a * b

/-- The length of a model row, as the float both programs divide by. -/
def width : EReal := Ideal.ofBits FTy.f32 0x45000000#32

/-- The length of a branch's row, and of a latent one's. -/
def branch : EReal := Ideal.ofBits FTy.f32 0x44800000#32
def latent : EReal := Ideal.ofBits FTy.f32 0x44000000#32

/-- A row less its mean. -/
def centred {K : ℕ} (n : EReal) (x : Fin K → EReal) (k : Fin K) : EReal := x k - Ideal.div (∑ j, x j) n

/-- The layer norm of a row `x`, with gains `g` and offsets `b`, put through the SiLU. -/
def layerSilu {K : ℕ} (n : EReal) (x g b : Fin K → EReal) (k : Fin K) : EReal :=
  (norm n (centred n x) g k + b k) * Ideal.logistic (norm n (centred n x) g k + b k)

/-- The gated sum of three branches, each a row times its matrix. -/
def blend {K N : ℕ} (ga gb gd : Fin N → EReal) (a b d : Fin K → EReal) (wa wb wd : Fin K → Fin N → EReal) (j : Fin N) : EReal :=
  ga j * times a wa j + gb j * times b wb j + gd j * times d wd j

/-- A place of one coordinate. -/
theorem place1 {n0 : ℕ} {a : Fin n0} (y : (⟨1, ![n0]⟩ : Shape).Idx) (h0 : (y 0).val = a.val) : y = ix1 a :=
  funext fun x => Fin.ext (match x with | ⟨0, _⟩ => h0)
/-- A place of two coordinates from its coordinates, and one of three. -/
theorem place2 {n0 n1 : ℕ} {a : Fin n0} {b : Fin n1} (y : (⟨2, ![n0, n1]⟩ : Shape).Idx) (h0 : (y 0).val = a.val)
    (h1 : (y 1).val = b.val) : y = ix2 a b :=
  funext fun x => Fin.ext (match x with | ⟨0, _⟩ => h0 | ⟨1, _⟩ => h1)
theorem place3 {n0 n1 n2 : ℕ} {a : Fin n0} {b : Fin n1} {d : Fin n2} (y : (⟨3, ![n0, n1, n2]⟩ : Shape).Idx)
    (h0 : (y 0).val = a.val) (h1 : (y 1).val = b.val) (h2 : (y 2).val = d.val) : y = ix3 a b d :=
  funext fun x => Fin.ext (match x with | ⟨0, _⟩ => h0 | ⟨1, _⟩ => h1 | ⟨2, _⟩ => h2)

/-- A window's origin, as its loads and stores write it. -/
theorem zero2 : (![0, 0] : Fin 2 → Nat) = fun _ => 0 := funext fun a => by fin_cases a <;> rfl
theorem zero3 : (![0, 0, 0] : Fin 3 → Nat) = fun _ => 0 := funext fun a => by fin_cases a <;> rfl

/-- The logistic as the references write it: one over one plus the exponential of the negation. -/
theorem logistic_quotient (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y))) = Ideal.logistic y := by
  unfold Ideal.logistic
  rw [← Ideal.ofBits_one_f32]
  rfl

end Layer

end
-- ==== Proof.FfnBlock.lean ====
/- What one grid point of the feed-forward kernel leaves. The first point of a row tile normalises the tile, keeps it, and
   leaves the tile plus the first 512 hidden columns' contribution; a later point adds the next 512 columns'. -/
module

public import proofs.«01_k».proof.Proof.Gen.FfnIdeal.Frame
public import proofs.«01_k».proof.Proof.Rows
public import Idealize.ShloMosaic.Lib.Pointwise
public import Idealize.ShloMosaic.Lib.Pipeline.Value
public import Idealize.ShloMosaic.Lib.Tactic

@[expose] public section

set_option maxRecDepth 16384

noncomputable section

namespace Ffn

open Idealize.ShloMosaic Idealize.ShloMosaic.TcCoe Idealize.SL.Sem Cert.FfnIdeal Cert.FfnIdeal.Gen Layer

/-- What 512 hidden columns add to entry `l` of a row whose norm is `v`. -/
def part (v : Fin 2048 → EReal) (w1 w2 : Fin 2048 → Fin 512 → EReal) (w3 : Fin 512 → EReal) : EReal :=
  ∑ j, swiglu (times v w1 j) (times v w2 j) * w3 j

theorem pay1_apply (a : Vec Ideal S768x2048 .f32) (g : Vec Ideal S1x2048 .f32) (r : Fin 768) (k : Fin 2048) :
    k0_pay1 (F := Ideal) a g (ix2 r k) = norm width (fun k => a (ix2 r k)) (fun k => g (ix2 0 k)) k := by
  pointwise [k0_pay1]
  rfl

theorem pay2_apply (a : Vec Ideal S768x2048 .f32) (g : Vec Ideal S1x2048 .f32) (r : Fin 768) (k : Fin 2048) :
    k0_pay2 (F := Ideal) a g (ix2 r k) = norm width (fun k => a (ix2 r k)) (fun k => g (ix2 0 k)) k := by
  refine Eq.trans ?_ (pay1_apply a g r k)
  unfold k0_pay2
  generalize k0_pay1 (F := Ideal) a g = y
  pointwise []

theorem pay3_apply (a : Vec Ideal S768x2048 .f32) (g : Vec Ideal S1x2048 .f32) (w1 w2 : Vec Ideal S1x2048x512 .bf16)
    (w3 : Vec Ideal S1x512x2048 .bf16) (r : Fin 768) (l : Fin 2048) :
    k0_pay3 (F := Ideal) a g w1 w2 w3 (ix2 r l) = a (ix2 r l)
      + part (norm width (fun k => a (ix2 r k)) (fun k => g (ix2 0 k))) (fun k j => w1 (ix3 0 k j)) (fun k j => w2 (ix3 0 k j)) (fun j => w3 (ix3 0 j l)) := by
  rw [show norm width (fun k => a (ix2 r k)) (fun k => g (ix2 0 k)) = fun k => k0_pay1 (F := Ideal) a g (ix2 r k) from
    funext fun k => (pay1_apply a g r k).symm]
  unfold k0_pay3
  generalize k0_pay1 (F := Ideal) a g = y
  pointwise []
  rfl

theorem pay4_apply (v : Vec Ideal S768x2048 .bf16) (a : Vec Ideal S768x2048 .f32) (w1 w2 : Vec Ideal S1x2048x512 .bf16)
    (w3 : Vec Ideal S1x512x2048 .bf16) (r : Fin 768) (l : Fin 2048) :
    k0_pay4 (F := Ideal) v a w1 w2 w3 (ix2 r l) = a (ix2 r l)
      + part (fun k => v (ix2 r k)) (fun k j => w1 (ix3 0 k j)) (fun k j => w2 (ix3 0 k j)) (fun j => w3 (ix3 0 j l)) := by
  pointwise [k0_pay4]
  rfl

section
variable (c : Dev nD) (i : grid0.Coords)
  (arg2 : Memref sig .tc .vmem S768x2048 .f32) (harg2 : arg2.IsWhole) (arg3 : Memref sig .tc .vmem S1x2048 .f32) (harg3 : arg3.IsWhole)
  (arg4 : Memref sig .tc .vmem S1x2048x512 .bf16) (harg4 : arg4.IsWhole) (arg5 : Memref sig .tc .vmem S1x2048x512 .bf16) (harg5 : arg5.IsWhole)
  (arg6 : Memref sig .tc .vmem S1x512x2048 .bf16) (harg6 : arg6.IsWhole) (arg7 : Memref sig .tc .vmem S768x2048 .f32) (harg7 : arg7.IsWhole)
  (arg8 : Memref sig .tc .vmem S768x2048 .bf16) (harg8 : arg8.IsWhole)
  (x0 : Vec Ideal S768x2048 .f32) (x1 : Vec Ideal S1x2048 .f32) (x2 x3 : Vec Ideal S1x2048x512 .bf16) (x4 : Vec Ideal S1x512x2048 .bf16)
  (xo : Vec Ideal S768x2048 .f32) (xs : Vec Ideal S768x2048 .bf16)

/-- The first point of a tile leaves the tile and the first columns' part, … -/
theorem out_A (hc0 : cond0_0 i) (hc1 : ¬cond0_1 i) :
    out0_A_5 c i arg2 harg2 arg3 harg3 arg4 harg4 arg5 harg5 arg6 harg6 arg7 harg7 arg8 harg8 hc0 hc1 x0 x1 x2 x3 x4 = k0_pay3 x0 x1 x2 x3 x4 := by
  unfold out0_A_5
  rw [View.read_writes_eq_canon _ _ _ (cover0_A_5 c i arg2 harg2 arg3 harg3 arg4 harg4 arg5 harg5 arg6 harg6 arg7 harg7 arg8 harg8 hc0 hc1 x0 x1 x2 x3 x4)]
  unfold kernelRun0_A
  dsimp only
  rw [View.canon_unit_zero zero2]
  simp only [View.readAt_eq_ld, harg2.read_unread, harg3.read_unread, harg4.read_unread, harg5.read_unread, harg6.read_unread,
    View.ld_unit_zero (S := S768x2048) zero2, View.ld_unit_zero (S := S1x2048) zero2, View.ld_unit_zero (S := S1x2048x512) zero3,
    View.ld_unit_zero (S := S1x512x2048) zero3]

/-- … and keeps the tile's norm; -/
theorem kept_A (hc0 : cond0_0 i) (hc1 : ¬cond0_1 i) :
    sout0_A_0 c i arg2 harg2 arg3 harg3 arg4 harg4 arg5 harg5 arg6 harg6 arg7 harg7 arg8 harg8 hc0 hc1 x0 x1 x2 x3 x4 = k0_pay2 x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  rw [View.canon_unit_zero zero2]
  simp only [View.readAt_eq_ld, harg2.read_unread, harg3.read_unread,
    View.ld_unit_zero (S := S768x2048) zero2, View.ld_unit_zero (S := S1x2048) zero2]

/-- a later point adds its columns' part to what the point before left. -/
theorem out_B (hc0 : ¬cond0_0 i) (hc1 : cond0_1 i) :
    out0_B_5 c i arg2 harg2 arg3 harg3 arg4 harg4 arg5 harg5 arg6 harg6 arg7 harg7 arg8 harg8 hc0 hc1 x0 x1 x2 x3 x4 xo xs = k0_pay4 xs xo x2 x3 x4 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xo xs)]
  unfold kernelRun0_B
  dsimp only
  rw [View.canon_unit_zero zero2]
  simp only [View.readAt_eq_ld, harg4.read_unread, harg5.read_unread, harg6.read_unread, harg7.read_unread, harg8.read_unread,
    View.ld_unit_zero (S := S768x2048) zero2, View.ld_unit_zero (S := S1x2048x512) zero3,
    View.ld_unit_zero (S := S1x512x2048) zero3]

end

end Ffn

end
-- ==== Proof.FfnValue.lean ====
/- The feed-forward kernel's whole result over the extended reals: a row plus, over all 5632 hidden columns, the SwiGLU unit
   of its norm's two products times the third matrix's row. The grid has 43 tiles of 768 rows and, for each, 11 points of 512
   hidden columns; the tile's norm and its running sum are carried from point to point. -/
module

public import proofs.«01_k».proof.Proof.FfnBlock
public import proofs.«01_k».proof.Proof.Gen.FfnIdeal.Value
public import Idealize.ShloMosaic.Lib.StableHlo.RunRead
public import Idealize.ShloMosaic.Lib.Pipeline.ValueKit

@[expose] public section

set_option maxRecDepth 16384

noncomputable section

namespace Ffn

open Idealize.ShloMosaic Idealize.ShloMosaic.TcCoe Idealize.SL.Sem Cert.FfnIdeal Cert.FfnIdeal.Gen Layer

variable (m : (ℓ : Loc nD τ sig) → Buf (Elt Ideal) ℓ) (c : Dev nD)

/-! ## The arguments -/

/-- The rows, the gains and the three stacks of matrices. -/
def argH : S33024x2048.Idx → EReal := m ((c.tc : Thread nD τ).loc main_arg0)
def argG : S2048.Idx → EReal := m ((c.tc : Thread nD τ).loc main_arg1)
def argGate : S4x2048x5632.Idx → EReal := m ((c.tc : Thread nD τ).loc main_arg2)
def argUp : S4x2048x5632.Idx → EReal := m ((c.tc : Thread nD τ).loc main_arg3)
def argDown : S4x5632x2048.Idx → EReal := m ((c.tc : Thread nD τ).loc main_arg4)

/-- The norm of row `R`. -/
def normed (R : Fin 33024) : Fin 2048 → EReal := norm width (fun k => argH m c (ix2 R k)) (fun k => argG m c (ix1 k))

/-- What hidden column `j` adds to entry `l` of row `R`. -/
def column (R : Fin 33024) (l : Fin 2048) (j : Fin 5632) : EReal :=
  swiglu (times (normed m c R) (fun k j => argGate m c (ix3 1 k j)) j) (times (normed m c R) (fun k j => argUp m c (ix3 1 k j)) j)
    * argDown m c (ix3 1 j l)

theorem entry_g (k : Fin 2048) : V m c main_v0 (ix2 0 k) = argG m c (ix1 k) := by
  unfold V
  after_reads_simp
  pointwise []
  rfl

/-! ## Which part of its array each point's block is -/

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 1 ∧ win0_2.index t (1 : Fin 3) = 0 ∧ win0_2.index t (2 : Fin 3) = t.val % 11 :=
  (by decide +kernel : ∀ t : Fin grid0.N, _)
theorem idx3 : ∀ t : Fin cfg0.N, win0_3.index t (0 : Fin 3) = 1 ∧ win0_3.index t (1 : Fin 3) = 0 ∧ win0_3.index t (2 : Fin 3) = t.val % 11 :=
  (by decide +kernel : ∀ t : Fin grid0.N, _)
theorem idx4 : ∀ t : Fin cfg0.N, win0_4.index t (0 : Fin 3) = 1 ∧ win0_4.index t (1 : Fin 3) = t.val % 11 ∧ win0_4.index t (2 : Fin 3) = 0 :=
  (by decide +kernel : ∀ t : Fin grid0.N, _)

/-- Row `r` of tile `i`. -/
def tileRow (i : Fin 43) (r : Fin 768) : Fin 33024 := ⟨768 * i.val + r.val, by omega⟩
/-- Column `j` of the `q`th 512. -/
def hidden (q : Fin 11) (j : Fin 512) : Fin 5632 := ⟨q.val * 512 + j.val, by omega⟩

section Blocks
variable (t : Fin cfg0.N) (i : Fin 43) (q : Fin 11) (ht : t.val = 11 * i.val + q.val)
include ht

theorem iblk0_apply (r : Fin 768) (k : Fin 2048) : iblk m c 0 t (ix2 r k) = argH m c (ix2 (tileRow i r) k) := by
  obtain ⟨e0, e1⟩ := idx0 t
  refine Eq.trans ?_ (congrFun (V_main_arg0 m c) (ix2 (tileRow i r) k))
  refine congrArg (V m c main_arg0) (place2 _ ?_ ?_)
  · show win0_0.index t (0 : Fin 2) * 768 + 1 * r.val = 768 * i.val + r.val; omega
  · show win0_0.index t (1 : Fin 2) * 2048 + 1 * k.val = k.val; omega

omit ht in
theorem iblk1_apply (k : Fin 2048) : iblk m c 1 t (ix2 0 k) = argG m c (ix1 k) := by
  obtain ⟨e0, e1⟩ := idx1 t
  refine Eq.trans ?_ (entry_g m c k)
  refine congrArg (V m c main_v0) (place2 _ ?_ ?_)
  · show win0_1.index t (0 : Fin 2) * 1 + 1 * 0 = 0; omega
  · show win0_1.index t (1 : Fin 2) * 2048 + 1 * k.val = k.val; omega

theorem iblk2_apply (k : Fin 2048) (j : Fin 512) : iblk m c 2 t (ix3 0 k j) = argGate m c (ix3 1 k (hidden q j)) := by
  obtain ⟨e0, e1, e2⟩ := idx2 t
  refine Eq.trans ?_ (congrFun (V_main_arg2 m c) (ix3 1 k (hidden q j)))
  refine congrArg (V m c main_arg2) (place3 _ ?_ ?_ ?_)
  · show win0_2.index t (0 : Fin 3) * 1 + 1 * 0 = 1; omega
  · show win0_2.index t (1 : Fin 3) * 2048 + 1 * k.val = k.val; omega
  · show win0_2.index t (2 : Fin 3) * 512 + 1 * j.val = q.val * 512 + j.val; omega

theorem iblk3_apply (k : Fin 2048) (j : Fin 512) : iblk m c 3 t (ix3 0 k j) = argUp m c (ix3 1 k (hidden q j)) := by
  obtain ⟨e0, e1, e2⟩ := idx3 t
  refine Eq.trans ?_ (congrFun (V_main_arg3 m c) (ix3 1 k (hidden q j)))
  refine congrArg (V m c main_arg3) (place3 _ ?_ ?_ ?_)
  · show win0_3.index t (0 : Fin 3) * 1 + 1 * 0 = 1; omega
  · show win0_3.index t (1 : Fin 3) * 2048 + 1 * k.val = k.val; omega
  · show win0_3.index t (2 : Fin 3) * 512 + 1 * j.val = q.val * 512 + j.val; omega

theorem iblk4_apply (j : Fin 512) (l : Fin 2048) : iblk m c 4 t (ix3 0 j l) = argDown m c (ix3 1 (hidden q j) l) := by
  obtain ⟨e0, e1, e2⟩ := idx4 t
  refine Eq.trans ?_ (congrFun (V_main_arg4 m c) (ix3 1 (hidden q j) l))
  refine congrArg (V m c main_arg4) (place3 _ ?_ ?_ ?_)
  · show win0_4.index t (0 : Fin 3) * 1 + 1 * 0 = 1; omega
  · show win0_4.index t (1 : Fin 3) * 512 + 1 * j.val = q.val * 512 + j.val; omega
  · show win0_4.index t (2 : Fin 3) * 2048 + 1 * l.val = l.val; omega

/-- The part a point adds to an entry is its 512 columns'. -/
theorem part_eq (R : Fin 33024) (l : Fin 2048) :
    part (normed m c R) (fun k j => iblk m c 2 t (ix3 0 k j)) (fun k j => iblk m c 3 t (ix3 0 k j)) (fun j => iblk m c 4 t (ix3 0 j l))
      = ∑ j, column m c R l (hidden q j) := by
  rw [funext fun k => funext fun j => iblk2_apply m c t i q ht k j, funext fun k => funext fun j => iblk3_apply m c t i q ht k j,
    funext fun j => iblk4_apply m c t i q ht j l]
  rfl

theorem norm_eq (r : Fin 768) :
    norm width (fun k => iblk m c 0 t (ix2 r k)) (fun k => iblk m c 1 t (ix2 0 k)) = normed m c (tileRow i r) := by
  rw [funext fun k => iblk0_apply m c t i q ht r k, funext fun k => iblk1_apply m c t k]
  rfl

end Blocks

/-! ## What the points leave -/

/-- What the `q`th 512 columns add to entry `l` of row `R`. -/
def stretch (R : Fin 33024) (l : Fin 2048) (q : ℕ) : EReal := if h : q < 11 then ∑ j, column m c R l (hidden ⟨q, h⟩ j) else 0

/-- After point `q` of tile `i`: the carried scratch is the tile's norm, the output the tile plus `q + 1` stretches. -/
theorem after (i : Fin 43) : ∀ (q : ℕ) (hq : q < 11) (n : ℕ) (hn : n < cfg0.N), n = 11 * i.val + q →
    (∀ (r : Fin 768) (k : Fin 2048), (outsAt0 m c n hn).2 (ix2 r k) = normed m c (tileRow i r) k)
    ∧ ∀ (r : Fin 768) (l : Fin 2048), (outsAt0 m c n hn).1 (ix2 r l)
        = argH m c (ix2 (tileRow i r) l) + ∑ p ∈ Finset.range (q + 1), stretch m c (tileRow i r) l p
  | 0, hq, n, hn, e => by
    have h0 : n % 11 = 0 := by omega
    have h1 : ¬ 1 ≤ n % 11 := by omega
    have ht : (⟨n, hn⟩ : Fin cfg0.N).val = 11 * i.val + (0 : Fin 11).val := e
    rw [outsAt0_A m c ⟨n, hn⟩ h0 h1]
    dsimp only
    refine ⟨fun r k => ?_, fun r l => ?_⟩
    · rw [kept_A, pay2_apply]
      exact congrFun (norm_eq m c ⟨n, hn⟩ i 0 ht r) k
    · rw [out_A, pay3_apply, norm_eq m c ⟨n, hn⟩ i 0 ht r, part_eq m c ⟨n, hn⟩ i 0 ht, iblk0_apply m c ⟨n, hn⟩ i 0 ht r l,
        Finset.sum_range_one, stretch, dif_pos (by omega)]
      rfl
  | q + 1, hq, n, hn, e => by
    obtain ⟨n, rfl⟩ : ∃ k, n = k + 1 := ⟨n - 1, by omega⟩
    obtain ⟨ih2, ih1⟩ := after i q (by omega) n (Nat.lt_of_succ_lt hn) (by omega)
    have h0 : ¬ (n + 1) % 11 = 0 := by omega
    have h1 : 1 ≤ (n + 1) % 11 := by omega
    have ht : (⟨n + 1, hn⟩ : Fin cfg0.N).val = 11 * i.val + (⟨q + 1, hq⟩ : Fin 11).val := e
    rw [outsAt0_B m c ⟨n + 1, hn⟩ h0 h1]
    dsimp only
    refine ⟨fun r k => ih2 r k, fun r l => ?_⟩
    rw [out_B, pay4_apply]
    have hx : (fun k => (outsAt0 m c n (Nat.lt_of_succ_lt hn)).2 (ix2 r k)) = normed m c (tileRow i r) := funext (ih2 r)
    refine (congrArg₂ (· + ·) (ih1 r l) ((congrArg (fun z => part z _ _ _) hx).trans
      (part_eq m c ⟨n + 1, hn⟩ i ⟨q + 1, hq⟩ ht (tileRow i r) l))).trans ?_
    rw [Finset.sum_range_succ _ (q + 1), stretch, dif_pos hq, add_assoc]

/-- The whole result. -/
theorem result (R : Fin 33024) (l : Fin 2048) :
    Cert.FfnIdeal.Value.G5 m c (ix2 R l) = argH m c (ix2 R l) + ∑ j, column m c R l j := by
  have hp : Value.pt5Of (ix2 R l) = 11 * (R.val / 768) + 10 := by
    show 11 * (1 * (R.val / 768 - 0) + 1 * (l.val / 2048 - 0)) + 10 = _; omega
  have hb : 11 * (R.val / 768) + 10 < cfg0.N := lt_of_lt_of_eq (show _ < 473 by omega) N_0.symm
  have hl : Value.loc5Of (ix2 R l) = ix2 ⟨R.val % 768, by omega⟩ l :=
    place2 _ rfl (by show l.val % 2048 = l.val; omega)
  have hR : tileRow ⟨R.val / 768, by omega⟩ ⟨R.val % 768, by omega⟩ = R := Fin.ext (by show 768 * (R.val / 768) + R.val % 768 = R.val; omega)
  unfold Value.G5
  rw [dif_pos (hp.symm ▸ hb), hl, Value.fold0_congr m c _ _ _ (by omega) hp, ← Value.outsAt0_sweep m c _ hb]
  refine ((after m c ⟨R.val / 768, by omega⟩ 10 (by omega) _ hb rfl).2 ⟨R.val % 768, by omega⟩ l).trans ?_
  rw [hR, ← Fin.sum_univ_eq_sum_range (fun p => stretch m c R l p) 11, ← Fin.sum_mul_add_fin 11 512 (column m c R l) rfl]
  refine congrArg (_ + ·) (Finset.sum_congr rfl fun p _ => ?_)
  rw [stretch, dif_pos p.isLt]
  rfl

end Ffn

end
-- ==== Proof.FfnReference.lean ====
/- What the reference's feed-forward half computes, at an index. -/
module

public import proofs.«01_k».proof.Proof.Rows
public import proofs.«01_k».proof.Proof.Gen.FfnRefIdeal.Read

@[expose] public section

set_option maxRecDepth 16384

noncomputable section

namespace Ffn

open Idealize.ShloMosaic Cert.FfnRefIdeal Cert.FfnRefIdeal.Gen Cert.FfnRefIdeal.Read Layer

variable (x0 : (⟨S33024x2048, .f32⟩ : BufTy).Contents (Elt Ideal)) (x1 : (⟨S2048, .f32⟩ : BufTy).Contents (Elt Ideal))
variable (x2 x3 : (⟨S4x2048x5632, .bf16⟩ : BufTy).Contents (Elt Ideal)) (x4 : (⟨S4x5632x2048, .bf16⟩ : BufTy).Contents (Elt Ideal))

theorem ref_gate (k : Fin 2048) (j : Fin 5632) : val_main_v2 x2 (ix2 k j) = x2 (ix3 1 k j) := by
  rw [val_main_v2_apply, val_main_v1_apply, val_main_v0_apply]
  exact congrArg x2 (place3 _ rfl (by show (k.val * 5632 + j.val) / 5632 % 2048 = k.val; omega) (by show (k.val * 5632 + j.val) % 5632 = j.val; omega))

theorem ref_up (k : Fin 2048) (j : Fin 5632) : val_main_v5 x3 (ix2 k j) = x3 (ix3 1 k j) := by
  rw [val_main_v5_apply, val_main_v4_apply, val_main_v3_apply]
  exact congrArg x3 (place3 _ rfl (by show (k.val * 5632 + j.val) / 5632 % 2048 = k.val; omega) (by show (k.val * 5632 + j.val) % 5632 = j.val; omega))

theorem ref_down (j : Fin 5632) (l : Fin 2048) : val_main_v8 x4 (ix2 j l) = x4 (ix3 1 j l) := by
  rw [val_main_v8_apply, val_main_v7_apply, val_main_v6_apply]
  exact congrArg x4 (place3 _ rfl (by show (j.val * 2048 + l.val) / 2048 % 5632 = j.val; omega) (by show (j.val * 2048 + l.val) % 2048 = l.val; omega))

theorem ref_square (R : Fin 33024) : val_main_v10 x0 (ix1 R) = ∑ k : Fin 2048, x0 (ix2 R k) * x0 (ix2 R k) := by
  rw [val_main_v10_apply, val_main_cst_apply]
  refine (congrArg (· + _) (Ideal.ofBits_zero .f32)).trans ((zero_add _).trans (Finset.sum_congr rfl fun k _ => ?_))
  rw [val_main_v9_apply]
  have e : idx_main_v10 (ix1 R) k = ix2 R k := place2 _ rfl rfl
  rw [e]; rfl

theorem ref_norm (R : Fin 33024) (k : Fin 2048) :
    val_main_v21 x0 x1 (ix2 R k) = norm width (fun k => x0 (ix2 R k)) (fun k => x1 (ix1 k)) k := by
  rw [val_main_v21_apply, val_main_v20_apply, val_main_v19_apply, val_main_v18_apply, val_main_v17_apply, val_main_v16_apply,
    val_main_v15_apply, val_main_v14_apply, val_main_cst_1_apply, val_main_v13_apply, val_main_v12_apply, val_main_cst_0_apply,
    val_main_v11_apply]
  have e1 : idx_main_v11 (idx_main_v17 (ix2 R k)) = ix1 R := funext fun a => Fin.ext (by match a with | ⟨0, _⟩ => rfl)
  have e2 : idx_main_v19 (idx_main_v20 (ix2 R k)) = ix1 k := funext fun a => Fin.ext (by match a with | ⟨0, _⟩ => rfl)
  rw [e1, e2, ref_square]
  rfl

theorem ref_first (R : Fin 33024) (j : Fin 5632) : val_main_v22 x0 x1 x2 (ix2 R j)
    = times (norm width (fun k => x0 (ix2 R k)) (fun k => x1 (ix1 k))) (fun k j => x2 (ix3 1 k j)) j := by
  rw [val_main_v22_apply]
  refine Finset.sum_congr rfl fun k _ => ?_
  have e1 : lidx_main_v22 (ix2 R j) k = ix2 R k := place2 _ rfl rfl
  have e2 : ridx_main_v22 (ix2 R j) k = ix2 k j := place2 _ rfl rfl
  rw [e1, e2, ref_norm, ref_gate]

theorem ref_second (R : Fin 33024) (j : Fin 5632) : val_main_v24 x0 x1 x3 (ix2 R j)
    = times (norm width (fun k => x0 (ix2 R k)) (fun k => x1 (ix1 k))) (fun k j => x3 (ix3 1 k j)) j := by
  rw [val_main_v24_apply]
  refine Finset.sum_congr rfl fun k _ => ?_
  have e1 : lidx_main_v24 (ix2 R j) k = ix2 R k := place2 _ rfl rfl
  have e2 : ridx_main_v24 (ix2 R j) k = ix2 k j := place2 _ rfl rfl
  rw [e1, e2, ref_norm, ref_up]

/-- The reference's SiLU is the product with the logistic. -/
theorem ref_silu (i : S33024x5632.Idx) :
    val_main_v23 x0 x1 x2 i = val_main_v22 x0 x1 x2 i * Ideal.logistic (val_main_v22 x0 x1 x2 i) := by
  rw [val_main_v23_apply, val_main_call0_v5_apply, val_main_call0_v4_apply, val_main_call0_cst_0_apply, val_main_call0_v3_apply,
    val_main_call0_v2_apply, val_main_call0_cst_apply, val_main_call0_v1_apply, val_main_call0_v0_apply]
  exact congrArg (val_main_v22 x0 x1 x2 i * ·) (logistic_quotient _)

/-- THE REFERENCE at row `R` and column `l`. -/
theorem ref_result (R : Fin 33024) (l : Fin 2048) : val_main_v27 x0 x1 x2 x3 x4 (ix2 R l)
    = x0 (ix2 R l) + ∑ j : Fin 5632,
        swiglu (times (norm width (fun k => x0 (ix2 R k)) (fun k => x1 (ix1 k))) (fun k j => x2 (ix3 1 k j)) j)
          (times (norm width (fun k => x0 (ix2 R k)) (fun k => x1 (ix1 k))) (fun k j => x3 (ix3 1 k j)) j) * x4 (ix3 1 j l) := by
  rw [val_main_v27_apply, val_main_v26_apply]
  refine congrArg (_ + ·) (Finset.sum_congr rfl fun j _ => ?_)
  have e1 : lidx_main_v26 (ix2 R l) j = ix2 R j := place2 _ rfl rfl
  have e2 : ridx_main_v26 (ix2 R l) j = ix2 j l := place2 _ rfl rfl
  rw [e1, e2, val_main_v25_apply, ref_silu, ref_first, ref_second, ref_down]
  rfl

end Ffn

end
-- ==== Proof.FfnEqual.lean ====
/- The feed-forward kernel and its reference have one result. -/
module

public import proofs.«01_k».proof.Proof.FfnValue
public import proofs.«01_k».proof.Proof.FfnReference

@[expose] public section

set_option maxRecDepth 16384

noncomputable section

namespace Ffn

open Idealize.ShloMosaic Idealize.ShloMosaic.TcCoe Idealize.SL.Sem Cert.FfnIdeal Layer

theorem equal (m : (ℓ : Loc nD τ sig) → Buf (Elt Ideal) ℓ) (c : Dev nD) : Cert.FfnIdeal.Value.G5 m c
    = Cert.FfnRefIdeal.Read.val_main_v27 (argH m c) (argG m c) (argGate m c) (argUp m c) (argDown m c) := by
  funext i
  rw [show i = ix2 (n0 := 33024) (n1 := 2048) (i 0) (i 1) from place2 (n0 := 33024) (n1 := 2048) i rfl rfl]
  exact (result m c (i 0) (i 1)).trans (ref_result (argH m c) (argG m c) (argGate m c) (argUp m c) (argDown m c) (i 0) (i 1)).symm

end Ffn

end
-- ==== Proof.MergeValue.lean ====
/- The merge of the three branches: a row plus the gated sum of the branches' products, times the last matrix; the first branch
   is first put through its layer norm and the SiLU. -/
module

public import proofs.«01_k».proof.Proof.Rows
public import proofs.«01_k».proof.Proof.Gen.MergeIdeal.Value
public import Idealize.ShloMosaic.Lib.StableHlo.RunRead
public import Idealize.ShloMosaic.Lib.Tactic

@[expose] public section

set_option maxRecDepth 16384

noncomputable section

namespace Merge

open Idealize.ShloMosaic Idealize.ShloMosaic.TcCoe Idealize.SL.Sem Cert.MergeIdeal Cert.MergeIdeal.Gen Layer

theorem pay2_apply (a : Vec Ideal S256x1024 .bf16) (g b : Vec Ideal S1x1024 .f32) (ga : Vec Ideal S256x2048 .bf16)
    (w : Vec Ideal S1x1024x2048 .bf16) (r : Fin 256) (l : Fin 2048) :
    k0_pay2 (F := Ideal) a g b ga w (ix2 r l)
      = ga (ix2 r l) * times (layerSilu branch (fun k => a (ix2 r k)) (fun k => g (ix2 0 k)) (fun k => b (ix2 0 k))) (fun k l => w (ix3 0 k l)) l := by
  pointwise [k0_pay2]
  rfl

theorem pay1_apply (p q : FVec Ideal S256x2048 .f32) (b : Vec Ideal S256x1024 .bf16) (wb : Vec Ideal S1x1024x2048 .bf16)
    (gd : Vec Ideal S256x2048 .bf16) (d : Vec Ideal S256x1024 .bf16) (wd : Vec Ideal S1x1024x2048 .bf16)
    (x : Vec Ideal S256x2048 .f32) (w : Vec Ideal S1x2048x2048 .bf16) (r : Fin 256) (l : Fin 2048) :
    k0_pay1 (F := Ideal) p q b wb gd d wd x w (ix2 r l)
      = x (ix2 r l) + times (fun k => p (ix2 r k) + q (ix2 r k) * times (fun k => b (ix2 r k)) (fun k l => wb (ix3 0 k l)) k
          + gd (ix2 r k) * times (fun k => d (ix2 r k)) (fun k l => wd (ix3 0 k l)) k) (fun k l => w (ix3 0 k l)) l := by
  pointwise [k0_pay1]
  rfl

theorem pay3_apply (q : Vec Ideal S256x2048 .bf16) (i : S256x2048.Idx) : k0_pay3 (F := Ideal) q i = q i := rfl

variable (x0 x1 x2 : Vec Ideal S256x1024 .bf16) (x3 x4 x5 : Vec Ideal S256x2048 .bf16) (x6 : Vec Ideal S256x2048 .f32)
variable (x7 x8 : Vec Ideal S1x1024 .f32) (x9 x10 x11 : Vec Ideal S1x1024x2048 .bf16) (x12 : Vec Ideal S1x2048x2048 .bf16)

theorem out_eq : out0_13 x0 x1 x2 x3 x4 x5 x6 x7 x8 x9 x10 x11 x12
    = k0_pay1 (k0_pay2 x0 x7 x8 x3 x9) (k0_pay3 x4) x1 x10 x5 x2 x11 x6 x12 := by
  unfold out0_13
  rw [View.canon_unit_zero zero2]
  simp only [View.ld_unit_zero (S := S256x1024) zero2, View.ld_unit_zero (S := S256x2048) zero2, View.ld_unit_zero (S := S1x1024) zero2,
    View.ld_unit_zero (S := S1x1024x2048) zero3, View.ld_unit_zero (S := S1x2048x2048) zero3]

theorem out_apply (r : Fin 256) (l : Fin 2048) : out0_13 x0 x1 x2 x3 x4 x5 x6 x7 x8 x9 x10 x11 x12 (ix2 r l)
    = x6 (ix2 r l) + times (blend (fun l => x3 (ix2 r l)) (fun l => x4 (ix2 r l)) (fun l => x5 (ix2 r l))
        (layerSilu branch (fun k => x0 (ix2 r k)) (fun k => x7 (ix2 0 k)) (fun k => x8 (ix2 0 k))) (fun k => x1 (ix2 r k)) (fun k => x2 (ix2 r k))
        (fun k l => x9 (ix3 0 k l)) (fun k l => x10 (ix3 0 k l)) (fun k l => x11 (ix3 0 k l))) (fun k l => x12 (ix3 0 k l)) l := by
  rw [out_eq, pay1_apply]
  refine congrArg (fun z => _ + times z _ l) (funext fun k => ?_)
  rw [pay2_apply, pay3_apply]
  rfl

variable (m : (ℓ : Loc nD τ sig) → Buf (Elt Ideal) ℓ) (c : Dev nD)

/-- The three branches, the gates, the rows, the layer norm's gains and offsets, and the four stacks of matrices. -/
def argA : S33024x1024.Idx → EReal := m ((c.tc : Thread nD τ).loc main_arg0)
def argB : S33024x1024.Idx → EReal := m ((c.tc : Thread nD τ).loc main_arg1)
def argC : S33024x1024.Idx → EReal := m ((c.tc : Thread nD τ).loc main_arg2)
def argGates : S33024x6144.Idx → EReal := m ((c.tc : Thread nD τ).loc main_arg3)
def argH : S33024x2048.Idx → EReal := m ((c.tc : Thread nD τ).loc main_arg4)
def argG : S1024.Idx → EReal := m ((c.tc : Thread nD τ).loc main_arg5)
def argOff : S1024.Idx → EReal := m ((c.tc : Thread nD τ).loc main_arg6)
def argWa : S4x1024x2048.Idx → EReal := m ((c.tc : Thread nD τ).loc main_arg7)
def argWb : S4x1024x2048.Idx → EReal := m ((c.tc : Thread nD τ).loc main_arg8)
def argWc : S4x1024x2048.Idx → EReal := m ((c.tc : Thread nD τ).loc main_arg9)
def argWo : S4x2048x2048.Idx → EReal := m ((c.tc : Thread nD τ).loc main_arg10)

theorem entry_g (k : Fin 1024) : V m c main_v0 (ix2 0 k) = argG m c (ix1 k) := by
  unfold V
  after_reads_simp
  pointwise []
  rfl
theorem entry_off (k : Fin 1024) : V m c main_v1 (ix2 0 k) = argOff m c (ix1 k) := by
  unfold V
  after_reads_simp
  pointwise []
  rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 1 :=
  (by decide +kernel : ∀ t : Fin grid0.N, _)
theorem idx5 : ∀ t : Fin cfg0.N, win0_5.index t (0 : Fin 2) = t.val ∧ win0_5.index t (1 : Fin 2) = 2 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 3) = 1 ∧ win0_9.index t (1 : Fin 3) = 0 ∧ win0_9.index t (2 : Fin 3) = 0 :=
  (by decide +kernel : ∀ t : Fin grid0.N, _)
theorem idx10 : ∀ t : Fin cfg0.N, win0_10.index t (0 : Fin 3) = 1 ∧ win0_10.index t (1 : Fin 3) = 0 ∧ win0_10.index t (2 : Fin 3) = 0 :=
  (by decide +kernel : ∀ t : Fin grid0.N, _)
theorem idx11 : ∀ t : Fin cfg0.N, win0_11.index t (0 : Fin 3) = 1 ∧ win0_11.index t (1 : Fin 3) = 0 ∧ win0_11.index t (2 : Fin 3) = 0 :=
  (by decide +kernel : ∀ t : Fin grid0.N, _)
theorem idx12 : ∀ t : Fin cfg0.N, win0_12.index t (0 : Fin 3) = 1 ∧ win0_12.index t (1 : Fin 3) = 0 ∧ win0_12.index t (2 : Fin 3) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)

/-- Lane `l` of each of the three gates. -/
def gate0 (l : Fin 2048) : Fin 6144 := ⟨l.val, by omega⟩
def gate1 (l : Fin 2048) : Fin 6144 := ⟨2048 + l.val, by omega⟩
def gate2 (l : Fin 2048) : Fin 6144 := ⟨4096 + l.val, by omega⟩

theorem iblk0_apply (t : Fin cfg0.N) (R : Fin 33024) (ht : t.val = R.val / 256) (k : Fin 1024) :
    iblk m c 0 t (ix2 ⟨R.val % 256, by omega⟩ k) = argA m c (ix2 R (k)) := by
  obtain ⟨e0, e1⟩ := idx0 t
  refine Eq.trans ?_ (congrFun (V_main_arg0 m c) (ix2 R (k)))
  refine congrArg (V m c main_arg0) (place2 _ ?_ ?_)
  · show win0_0.index t (0 : Fin 2) * 256 + 1 * (R.val % 256) = R.val; omega
  · show win0_0.index t (1 : Fin 2) * 1024 + 1 * k.val = k.val; omega

theorem iblk1_apply (t : Fin cfg0.N) (R : Fin 33024) (ht : t.val = R.val / 256) (k : Fin 1024) :
    iblk m c 1 t (ix2 ⟨R.val % 256, by omega⟩ k) = argB m c (ix2 R (k)) := by
  obtain ⟨e0, e1⟩ := idx1 t
  refine Eq.trans ?_ (congrFun (V_main_arg1 m c) (ix2 R (k)))
  refine congrArg (V m c main_arg1) (place2 _ ?_ ?_)
  · show win0_1.index t (0 : Fin 2) * 256 + 1 * (R.val % 256) = R.val; omega
  · show win0_1.index t (1 : Fin 2) * 1024 + 1 * k.val = k.val; omega

theorem iblk2_apply (t : Fin cfg0.N) (R : Fin 33024) (ht : t.val = R.val / 256) (k : Fin 1024) :
    iblk m c 2 t (ix2 ⟨R.val % 256, by omega⟩ k) = argC m c (ix2 R (k)) := by
  obtain ⟨e0, e1⟩ := idx2 t
  refine Eq.trans ?_ (congrFun (V_main_arg2 m c) (ix2 R (k)))
  refine congrArg (V m c main_arg2) (place2 _ ?_ ?_)
  · show win0_2.index t (0 : Fin 2) * 256 + 1 * (R.val % 256) = R.val; omega
  · show win0_2.index t (1 : Fin 2) * 1024 + 1 * k.val = k.val; omega

theorem iblk3_apply (t : Fin cfg0.N) (R : Fin 33024) (ht : t.val = R.val / 256) (k : Fin 2048) :
    iblk m c 3 t (ix2 ⟨R.val % 256, by omega⟩ k) = argGates m c (ix2 R (gate0 k)) := by
  obtain ⟨e0, e1⟩ := idx3 t
  refine Eq.trans ?_ (congrFun (V_main_arg3 m c) (ix2 R (gate0 k)))
  refine congrArg (V m c main_arg3) (place2 _ ?_ ?_)
  · show win0_3.index t (0 : Fin 2) * 256 + 1 * (R.val % 256) = R.val; omega
  · show win0_3.index t (1 : Fin 2) * 2048 + 1 * k.val = k.val; omega

theorem iblk4_apply (t : Fin cfg0.N) (R : Fin 33024) (ht : t.val = R.val / 256) (k : Fin 2048) :
    iblk m c 4 t (ix2 ⟨R.val % 256, by omega⟩ k) = argGates m c (ix2 R (gate1 k)) := by
  obtain ⟨e0, e1⟩ := idx4 t
  refine Eq.trans ?_ (congrFun (V_main_arg3 m c) (ix2 R (gate1 k)))
  refine congrArg (V m c main_arg3) (place2 _ ?_ ?_)
  · show win0_4.index t (0 : Fin 2) * 256 + 1 * (R.val % 256) = R.val; omega
  · show win0_4.index t (1 : Fin 2) * 2048 + 1 * k.val = 2048 + k.val; omega

theorem iblk5_apply (t : Fin cfg0.N) (R : Fin 33024) (ht : t.val = R.val / 256) (k : Fin 2048) :
    iblk m c 5 t (ix2 ⟨R.val % 256, by omega⟩ k) = argGates m c (ix2 R (gate2 k)) := by
  obtain ⟨e0, e1⟩ := idx5 t
  refine Eq.trans ?_ (congrFun (V_main_arg3 m c) (ix2 R (gate2 k)))
  refine congrArg (V m c main_arg3) (place2 _ ?_ ?_)
  · show win0_5.index t (0 : Fin 2) * 256 + 1 * (R.val % 256) = R.val; omega
  · show win0_5.index t (1 : Fin 2) * 2048 + 1 * k.val = 4096 + k.val; omega

theorem iblk6_apply (t : Fin cfg0.N) (R : Fin 33024) (ht : t.val = R.val / 256) (k : Fin 2048) :
    iblk m c 6 t (ix2 ⟨R.val % 256, by omega⟩ k) = argH m c (ix2 R (k)) := by
  obtain ⟨e0, e1⟩ := idx6 t
  refine Eq.trans ?_ (congrFun (V_main_arg4 m c) (ix2 R (k)))
  refine congrArg (V m c main_arg4) (place2 _ ?_ ?_)
  · show win0_6.index t (0 : Fin 2) * 256 + 1 * (R.val % 256) = R.val; omega
  · show win0_6.index t (1 : Fin 2) * 2048 + 1 * k.val = k.val; omega

theorem iblk7_apply (t : Fin cfg0.N) (k : Fin 1024) : iblk m c 7 t (ix2 0 k) = argG m c (ix1 k) := by
  obtain ⟨e0, e1⟩ := idx7 t
  refine Eq.trans ?_ (entry_g m c k)
  refine congrArg (V m c main_v0) (place2 _ ?_ ?_)
  · show win0_7.index t (0 : Fin 2) * 1 + 1 * 0 = 0; omega
  · show win0_7.index t (1 : Fin 2) * 1024 + 1 * k.val = k.val; omega

theorem iblk8_apply (t : Fin cfg0.N) (k : Fin 1024) : iblk m c 8 t (ix2 0 k) = argOff m c (ix1 k) := by
  obtain ⟨e0, e1⟩ := idx8 t
  refine Eq.trans ?_ (entry_off m c k)
  refine congrArg (V m c main_v1) (place2 _ ?_ ?_)
  · show win0_8.index t (0 : Fin 2) * 1 + 1 * 0 = 0; omega
  · show win0_8.index t (1 : Fin 2) * 1024 + 1 * k.val = k.val; omega

theorem iblk9_apply (t : Fin cfg0.N) (k : Fin 1024) (l : Fin 2048) : iblk m c 9 t (ix3 0 k l) = argWa m c (ix3 1 k l) := by
  obtain ⟨e0, e1, e2⟩ := idx9 t
  refine Eq.trans ?_ (congrFun (V_main_arg7 m c) (ix3 1 k l))
  refine congrArg (V m c main_arg7) (place3 _ ?_ ?_ ?_)
  · show win0_9.index t (0 : Fin 3) * 1 + 1 * 0 = 1; omega
  · show win0_9.index t (1 : Fin 3) * 1024 + 1 * k.val = k.val; omega
  · show win0_9.index t (2 : Fin 3) * 2048 + 1 * l.val = l.val; omega

theorem iblk10_apply (t : Fin cfg0.N) (k : Fin 1024) (l : Fin 2048) : iblk m c 10 t (ix3 0 k l) = argWb m c (ix3 1 k l) := by
  obtain ⟨e0, e1, e2⟩ := idx10 t
  refine Eq.trans ?_ (congrFun (V_main_arg8 m c) (ix3 1 k l))
  refine congrArg (V m c main_arg8) (place3 _ ?_ ?_ ?_)
  · show win0_10.index t (0 : Fin 3) * 1 + 1 * 0 = 1; omega
  · show win0_10.index t (1 : Fin 3) * 1024 + 1 * k.val = k.val; omega
  · show win0_10.index t (2 : Fin 3) * 2048 + 1 * l.val = l.val; omega

theorem iblk11_apply (t : Fin cfg0.N) (k : Fin 1024) (l : Fin 2048) : iblk m c 11 t (ix3 0 k l) = argWc m c (ix3 1 k l) := by
  obtain ⟨e0, e1, e2⟩ := idx11 t
  refine Eq.trans ?_ (congrFun (V_main_arg9 m c) (ix3 1 k l))
  refine congrArg (V m c main_arg9) (place3 _ ?_ ?_ ?_)
  · show win0_11.index t (0 : Fin 3) * 1 + 1 * 0 = 1; omega
  · show win0_11.index t (1 : Fin 3) * 1024 + 1 * k.val = k.val; omega
  · show win0_11.index t (2 : Fin 3) * 2048 + 1 * l.val = l.val; omega

theorem iblk12_apply (t : Fin cfg0.N) (k : Fin 2048) (l : Fin 2048) : iblk m c 12 t (ix3 0 k l) = argWo m c (ix3 1 k l) := by
  obtain ⟨e0, e1, e2⟩ := idx12 t
  refine Eq.trans ?_ (congrFun (V_main_arg10 m c) (ix3 1 k l))
  refine congrArg (V m c main_arg10) (place3 _ ?_ ?_ ?_)
  · show win0_12.index t (0 : Fin 3) * 1 + 1 * 0 = 1; omega
  · show win0_12.index t (1 : Fin 3) * 2048 + 1 * k.val = k.val; omega
  · show win0_12.index t (2 : Fin 3) * 2048 + 1 * l.val = l.val; omega

/-- The whole result. -/
theorem result (R : Fin 33024) (l : Fin 2048) : (dats m 0 c).arrAt 13 cfg0.N (ix2 R l)
    = argH m c (ix2 R l) + times (blend (fun l => argGates m c (ix2 R (gate0 l))) (fun l => argGates m c (ix2 R (gate1 l))) (fun l => argGates m c (ix2 R (gate2 l)))
        (layerSilu branch (fun k => argA m c (ix2 R k)) (fun k => argG m c (ix1 k)) (fun k => argOff m c (ix1 k))) (fun k => argB m c (ix2 R k)) (fun k => argC m c (ix2 R k))
        (fun k l => argWa m c (ix3 1 k l)) (fun k l => argWb m c (ix3 1 k l)) (fun k l => argWc m c (ix3 1 k l))) (fun k l => argWo m c (ix3 1 k l)) l := by
  have hb : R.val / 256 < cfg0.N := lt_of_lt_of_eq (show _ < 129 by omega) N_0.symm
  obtain ⟨e0, e1⟩ := idx13 ⟨_, hb⟩
  replace e0 : win0_13.index ⟨_, hb⟩ (0 : Fin 2) = R.val / 256 := e0
  have h := congrFun (Cert.MergeIdeal.Value.blocks13 m c ⟨_, hb⟩ (flush0_13 _)) (ix2 ⟨R.val % 256, by omega⟩ l)
  rw [Cert.MergeIdeal.Value.flushed13] at h
  refine Eq.trans ?_ (h.trans ?_)
  · refine congrArg ((dats m 0 c).arrAt 13 cfg0.N) (place2 _ ?_ ?_).symm
    · show win0_13.index ⟨_, hb⟩ (0 : Fin 2) * 256 + 1 * (R.val % 256) = R.val; omega
    · show win0_13.index ⟨_, hb⟩ (1 : Fin 2) * 2048 + 1 * l.val = l.val; omega
  · show out0_13 (iblk m c 0 ⟨_, hb⟩) (iblk m c 1 ⟨_, hb⟩) (iblk m c 2 ⟨_, hb⟩) (iblk m c 3 ⟨_, hb⟩) (iblk m c 4 ⟨_, hb⟩) (iblk m c 5 ⟨_, hb⟩) (iblk m c 6 ⟨_, hb⟩) (iblk m c 7 ⟨_, hb⟩) (iblk m c 8 ⟨_, hb⟩) (iblk m c 9 ⟨_, hb⟩) (iblk m c 10 ⟨_, hb⟩) (iblk m c 11 ⟨_, hb⟩) (iblk m c 12 ⟨_, hb⟩)
      (ix2 ⟨R.val % 256, by omega⟩ l) = _
    rw [out_apply]
    simp only [fun k => iblk0_apply m c ⟨_, hb⟩ R rfl k, fun k => iblk1_apply m c ⟨_, hb⟩ R rfl k, fun k => iblk2_apply m c ⟨_, hb⟩ R rfl k,
      fun k => iblk3_apply m c ⟨_, hb⟩ R rfl k, fun k => iblk4_apply m c ⟨_, hb⟩ R rfl k, fun k => iblk5_apply m c ⟨_, hb⟩ R rfl k,
      fun k => iblk6_apply m c ⟨_, hb⟩ R rfl k, iblk7_apply, iblk8_apply, iblk9_apply, iblk10_apply, iblk11_apply, iblk12_apply]

end Merge

end
-- ==== Proof.MergeEqual.lean ====
/- What the reference's merge computes, at an index, and that the kernel computes the same. -/
module

public import proofs.«01_k».proof.Proof.MergeValue
public import proofs.«01_k».proof.Proof.Gen.MergeRefIdeal.Read

@[expose] public section

set_option maxRecDepth 16384

noncomputable section

namespace Merge

open Idealize.ShloMosaic Idealize.ShloMosaic.TcCoe Idealize.SL.Sem Layer

section Reference
open Cert.MergeRefIdeal Cert.MergeRefIdeal.Gen Cert.MergeRefIdeal.Read

variable (x0 x1 x2 : (⟨S33024x1024, .bf16⟩ : BufTy).Contents (Elt Ideal)) (x3 : (⟨S33024x6144, .bf16⟩ : BufTy).Contents (Elt Ideal))
variable (x4 : (⟨S33024x2048, .f32⟩ : BufTy).Contents (Elt Ideal)) (x5 x6 : (⟨S1024, .f32⟩ : BufTy).Contents (Elt Ideal))
variable (x7 x8 x9 : (⟨S4x1024x2048, .bf16⟩ : BufTy).Contents (Elt Ideal)) (x10 : (⟨S4x2048x2048, .bf16⟩ : BufTy).Contents (Elt Ideal))

theorem ref_wa (k : Fin 1024) (l : Fin 2048) : val_main_v2 x7 (ix2 k l) = x7 (ix3 1 k l) := by
  rw [val_main_v2_apply, val_main_v1_apply, val_main_v0_apply]
  exact congrArg x7 (place3 _ rfl (by show (k.val * 2048 + l.val) / 2048 % 1024 = k.val; omega) (by show (k.val * 2048 + l.val) % 2048 = l.val; omega))

theorem ref_wb (k : Fin 1024) (l : Fin 2048) : val_main_v5 x8 (ix2 k l) = x8 (ix3 1 k l) := by
  rw [val_main_v5_apply, val_main_v4_apply, val_main_v3_apply]
  exact congrArg x8 (place3 _ rfl (by show (k.val * 2048 + l.val) / 2048 % 1024 = k.val; omega) (by show (k.val * 2048 + l.val) % 2048 = l.val; omega))

theorem ref_wc (k : Fin 1024) (l : Fin 2048) : val_main_v8 x9 (ix2 k l) = x9 (ix3 1 k l) := by
  rw [val_main_v8_apply, val_main_v7_apply, val_main_v6_apply]
  exact congrArg x9 (place3 _ rfl (by show (k.val * 2048 + l.val) / 2048 % 1024 = k.val; omega) (by show (k.val * 2048 + l.val) % 2048 = l.val; omega))

theorem ref_wo (k : Fin 2048) (l : Fin 2048) : val_main_v11 x10 (ix2 k l) = x10 (ix3 1 k l) := by
  rw [val_main_v11_apply, val_main_v10_apply, val_main_v9_apply]
  exact congrArg x10 (place3 _ rfl (by show (k.val * 2048 + l.val) / 2048 % 2048 = k.val; omega) (by show (k.val * 2048 + l.val) % 2048 = l.val; omega))

theorem ref_gate0 (R : Fin 33024) (l : Fin 2048) : val_main_v44 x3 (ix2 R l) = x3 (ix2 R (gate0 l)) := by
  rw [val_main_v44_apply, val_main_v43_apply]
  have e : idx_main_v43 (idx_main_v44 (ix2 R l)) = ix3 R 0 l := place3 _ (by show (R.val * 2048 + l.val) / 2048 = R.val; omega) rfl
    (by show (R.val * 2048 + l.val) % 2048 = l.val; omega)
  rw [e, val_main_v42_apply, val_main_v41_apply]
  exact congrArg x3 (place2 _ (by show ((R.val * 3 + 0) * 2048 + l.val) / 6144 = R.val; omega)
    (by show ((R.val * 3 + 0) * 2048 + l.val) % 6144 = l.val; omega))

theorem ref_gate1 (R : Fin 33024) (l : Fin 2048) : val_main_v47 x3 (ix2 R l) = x3 (ix2 R (gate1 l)) := by
  rw [val_main_v47_apply, val_main_v46_apply]
  have e : idx_main_v46 (idx_main_v47 (ix2 R l)) = ix3 R 1 l := place3 _ (by show (R.val * 2048 + l.val) / 2048 = R.val; omega) rfl
    (by show (R.val * 2048 + l.val) % 2048 = l.val; omega)
  rw [e, val_main_v42_apply, val_main_v41_apply]
  exact congrArg x3 (place2 _ (by show ((R.val * 3 + 1) * 2048 + l.val) / 6144 = R.val; omega)
    (by show ((R.val * 3 + 1) * 2048 + l.val) % 6144 = 2048 + l.val; omega))

theorem ref_gate2 (R : Fin 33024) (l : Fin 2048) : val_main_v51 x3 (ix2 R l) = x3 (ix2 R (gate2 l)) := by
  rw [val_main_v51_apply, val_main_v50_apply]
  have e : idx_main_v50 (idx_main_v51 (ix2 R l)) = ix3 R 2 l := place3 _ (by show (R.val * 2048 + l.val) / 2048 = R.val; omega) rfl
    (by show (R.val * 2048 + l.val) % 2048 = l.val; omega)
  rw [e, val_main_v42_apply, val_main_v41_apply]
  exact congrArg x3 (place2 _ (by show ((R.val * 3 + 2) * 2048 + l.val) / 6144 = R.val; omega)
    (by show ((R.val * 3 + 2) * 2048 + l.val) % 6144 = 4096 + l.val; omega))

theorem ref_sum (R : Fin 33024) : val_main_v13 x0 (ix1 R) = ∑ k : Fin 1024, x0 (ix2 R k) := by
  rw [val_main_v13_apply, val_main_cst_apply]
  refine (congrArg (· + _) (Ideal.ofBits_zero .f32)).trans ((zero_add _).trans (Finset.sum_congr rfl fun k _ => ?_))
  rw [val_main_v12_apply]
  have e : idx_main_v13 (ix1 R) k = ix2 R k := place2 _ rfl rfl
  rw [e]; rfl

theorem ref_centred (R : Fin 33024) (k : Fin 1024) : val_main_v18 x0 (ix2 R k) = centred branch (fun k => x0 (ix2 R k)) k := by
  rw [val_main_v18_apply, val_main_v17_apply, val_main_v16_apply, val_main_v15_apply, val_main_cst_0_apply, val_main_v14_apply,
    val_main_v12_apply]
  have e : idx_main_v14 (idx_main_v17 (ix2 R k)) = ix1 R := place1 _ rfl
  rw [e, ref_sum]
  rfl

theorem ref_square (R : Fin 33024) : val_main_v20 x0 (ix1 R)
    = ∑ k : Fin 1024, centred branch (fun k => x0 (ix2 R k)) k * centred branch (fun k => x0 (ix2 R k)) k := by
  rw [val_main_v20_apply, val_main_cst_1_apply]
  refine (congrArg (· + _) (Ideal.ofBits_zero .f32)).trans ((zero_add _).trans (Finset.sum_congr rfl fun k _ => ?_))
  rw [val_main_v19_apply]
  have e : idx_main_v20 (ix1 R) k = ix2 R k := place2 _ rfl rfl
  rw [e, ref_centred]; rfl

theorem ref_norm (R : Fin 33024) (k : Fin 1024) : val_main_v34 x0 x5 x6 (ix2 R k)
    = norm branch (centred branch (fun k => x0 (ix2 R k))) (fun k => x5 (ix1 k)) k + x6 (ix1 k) := by
  rw [val_main_v34_apply, val_main_v33_apply, val_main_v32_apply, val_main_v31_apply, val_main_v30_apply, val_main_v29_apply,
    val_main_v28_apply, val_main_v27_apply, val_main_v26_apply, val_main_v25_apply, val_main_v24_apply, val_main_cst_3_apply,
    val_main_v23_apply, val_main_v22_apply, val_main_cst_2_apply, val_main_v21_apply]
  have e1 : idx_main_v21 (idx_main_v27 (ix2 R k)) = ix1 R := place1 _ rfl
  have e2 : idx_main_v29 (idx_main_v30 (ix2 R k)) = ix1 k := place1 _ rfl
  have e3 : idx_main_v32 (idx_main_v33 (ix2 R k)) = ix1 k := place1 _ rfl
  rw [e1, e2, e3, ref_square, ref_centred]
  rfl

/-- The reference's SiLU is the product with the logistic. -/
theorem ref_silu (R : Fin 33024) (k : Fin 1024) : val_main_v35 x0 x5 x6 (ix2 R k)
    = layerSilu branch (fun k => x0 (ix2 R k)) (fun k => x5 (ix1 k)) (fun k => x6 (ix1 k)) k := by
  rw [val_main_v35_apply, val_main_call0_v5_apply, val_main_call0_v4_apply, val_main_call0_cst_0_apply, val_main_call0_v3_apply,
    val_main_call0_v2_apply, val_main_call0_cst_apply, val_main_call0_v1_apply, val_main_call0_v0_apply, ref_norm]
  unfold layerSilu
  generalize norm branch (centred branch (fun k => x0 (ix2 R k))) (fun k => x5 (ix1 k)) k + x6 (ix1 k) = y
  exact congrArg (y * ·) (logistic_quotient y)

theorem ref_ya (R : Fin 33024) (l : Fin 2048) : val_main_v36 x0 x5 x6 x7 (ix2 R l)
    = times (layerSilu branch (fun k => x0 (ix2 R k)) (fun k => x5 (ix1 k)) (fun k => x6 (ix1 k))) (fun k l => x7 (ix3 1 k l)) l := by
  rw [val_main_v36_apply]
  refine Finset.sum_congr rfl fun k _ => ?_
  have e1 : lidx_main_v36 (ix2 R l) k = ix2 R k := place2 _ rfl rfl
  have e2 : ridx_main_v36 (ix2 R l) k = ix2 k l := place2 _ rfl rfl
  rw [e1, e2, ref_silu, ref_wa]

theorem ref_yb (R : Fin 33024) (l : Fin 2048) :
    val_main_v38 x1 x8 (ix2 R l) = times (fun k => x1 (ix2 R k)) (fun k l => x8 (ix3 1 k l)) l := by
  rw [val_main_v38_apply]
  refine Finset.sum_congr rfl fun k _ => ?_
  have e1 : lidx_main_v38 (ix2 R l) k = ix2 R k := place2 _ rfl rfl
  have e2 : ridx_main_v38 (ix2 R l) k = ix2 k l := place2 _ rfl rfl
  rw [e1, e2, val_main_v37_apply, ref_wb]
  rfl

theorem ref_yc (R : Fin 33024) (l : Fin 2048) :
    val_main_v40 x2 x9 (ix2 R l) = times (fun k => x2 (ix2 R k)) (fun k l => x9 (ix3 1 k l)) l := by
  rw [val_main_v40_apply]
  refine Finset.sum_congr rfl fun k _ => ?_
  have e1 : lidx_main_v40 (ix2 R l) k = ix2 R k := place2 _ rfl rfl
  have e2 : ridx_main_v40 (ix2 R l) k = ix2 k l := place2 _ rfl rfl
  rw [e1, e2, val_main_v39_apply, ref_wc]
  rfl

theorem ref_blend (R : Fin 33024) (l : Fin 2048) : val_main_v53 x0 x1 x2 x3 x5 x6 x7 x8 x9 (ix2 R l)
    = blend (fun l => x3 (ix2 R (gate0 l))) (fun l => x3 (ix2 R (gate1 l))) (fun l => x3 (ix2 R (gate2 l)))
        (layerSilu branch (fun k => x0 (ix2 R k)) (fun k => x5 (ix1 k)) (fun k => x6 (ix1 k))) (fun k => x1 (ix2 R k)) (fun k => x2 (ix2 R k))
        (fun k l => x7 (ix3 1 k l)) (fun k l => x8 (ix3 1 k l)) (fun k l => x9 (ix3 1 k l)) l := by
  rw [val_main_v53_apply, val_main_v52_apply, val_main_v49_apply, val_main_v48_apply, val_main_v45_apply, ref_gate0, ref_gate1,
    ref_gate2, ref_ya, ref_yb, ref_yc]
  rfl

theorem ref_result (R : Fin 33024) (l : Fin 2048) : val_main_v55 x0 x1 x2 x3 x4 x5 x6 x7 x8 x9 x10 (ix2 R l)
    = x4 (ix2 R l) + times (blend (fun l => x3 (ix2 R (gate0 l))) (fun l => x3 (ix2 R (gate1 l))) (fun l => x3 (ix2 R (gate2 l)))
        (layerSilu branch (fun k => x0 (ix2 R k)) (fun k => x5 (ix1 k)) (fun k => x6 (ix1 k))) (fun k => x1 (ix2 R k)) (fun k => x2 (ix2 R k))
        (fun k l => x7 (ix3 1 k l)) (fun k l => x8 (ix3 1 k l)) (fun k l => x9 (ix3 1 k l))) (fun k l => x10 (ix3 1 k l)) l := by
  rw [val_main_v55_apply, val_main_v54_apply]
  refine congrArg (_ + ·) (Finset.sum_congr rfl fun k _ => ?_)
  have e1 : lidx_main_v54 (ix2 R l) k = ix2 R k := place2 _ rfl rfl
  have e2 : ridx_main_v54 (ix2 R l) k = ix2 k l := place2 _ rfl rfl
  rw [e1, e2, ref_blend, ref_wo]

end Reference

theorem equal (m : (ℓ : Loc Cert.MergeIdeal.nD Cert.MergeIdeal.τ Cert.MergeIdeal.sig) → Buf (Elt Ideal) ℓ) (c : Dev Cert.MergeIdeal.nD) :
    (Cert.MergeIdeal.Gen.dats m 0 c).arrAt 13 Cert.MergeIdeal.cfg0.N = Cert.MergeRefIdeal.Read.val_main_v55 (argA m c) (argB m c) (argC m c)
      (argGates m c) (argH m c) (argG m c) (argOff m c) (argWa m c) (argWb m c) (argWc m c) (argWo m c) := by
  funext i
  rw [show i = ix2 (n0 := 33024) (n1 := 2048) (i 0) (i 1) from place2 (n0 := 33024) (n1 := 2048) i rfl rfl]
  exact (result m c (i 0) (i 1)).trans (ref_result (argA m c) (argB m c) (argC m c)
      (argGates m c) (argH m c) (argG m c) (argOff m c) (argWa m c) (argWb m c) (argWc m c) (argWo m c) (i 0) (i 1)).symm

end Merge

end
-- ==== Proof.UpValue.lean ====
/- The latent up-projections: each result is the RMS norm of its 512 lanes of a row, times its matrix. -/
module

public import proofs.«01_k».proof.Proof.Rows
public import proofs.«01_k».proof.Proof.Gen.UpIdeal.Value
public import Idealize.ShloMosaic.Lib.StableHlo.RunRead
public import Idealize.ShloMosaic.Lib.Tactic

@[expose] public section

set_option maxRecDepth 16384

noncomputable section

namespace Up

open Idealize.ShloMosaic Idealize.ShloMosaic.TcCoe Idealize.SL.Sem Cert.UpIdeal Cert.UpIdeal.Gen Layer

theorem pay3_apply (a : Vec Ideal S768x512 .bf16) (g : Vec Ideal S1x512 .f32) (r : Fin 768) (k : Fin 512) :
    k0_pay3 (F := Ideal) a g (ix2 r k) = norm latent (fun k => a (ix2 r k)) (fun k => g (ix2 0 k)) k := by
  pointwise [k0_pay3]
  rfl

theorem pay1_apply (v : FVec Ideal S768x512 .f32) (w : Vec Ideal S1x512x2048 .bf16) (r : Fin 768) (l : Fin 2048) :
    k0_pay1 (F := Ideal) v w (ix2 r l) = times (fun k => v (ix2 r k)) (fun k l => w (ix3 0 k l)) l := by
  pointwise [k0_pay1]
  rfl

/-- The query's payload is the key's, the norm and the product in one. -/
theorem pay2_eq (a : Vec Ideal S768x512 .bf16) (g : Vec Ideal S1x512 .f32) (w : Vec Ideal S1x512x2048 .bf16) :
    k0_pay2 (F := Ideal) a g w = k0_pay1 (F := Ideal) (k0_pay3 (F := Ideal) a g) w := rfl

variable (x0 x1 : Vec Ideal S768x512 .bf16) (x2 x3 : Vec Ideal S1x512 .f32) (x4 x5 : Vec Ideal S1x512x2048 .bf16)

theorem out6_eq : out0_6 x0 x1 x2 x3 x4 x5 = k0_pay1 (k0_pay3 x0 x2) x4 := by
  unfold out0_6
  rw [View.canon_unit_zero zero2, View.ld_unit_zero (S := S768x512) zero2, View.ld_unit_zero (S := S1x512) zero2,
    View.ld_unit_zero (S := S1x512x2048) zero3, pay2_eq]

theorem out7_eq : out0_7 x0 x1 x2 x3 x4 x5 = k0_pay1 (k0_pay3 x1 x3) x5 := by
  unfold out0_7
  rw [View.canon_unit_zero zero2, View.ld_unit_zero (S := S768x512) zero2, View.ld_unit_zero (S := S1x512) zero2,
    View.ld_unit_zero (S := S1x512x2048) zero3]

variable (m : (ℓ : Loc nD τ sig) → Buf (Elt Ideal) ℓ) (c : Dev nD)

/-- The rows, the two gains and the two stacks of matrices. -/
def argX : S33024x3072.Idx → EReal := m ((c.tc : Thread nD τ).loc main_arg0)
def argGq : S512.Idx → EReal := m ((c.tc : Thread nD τ).loc main_arg1)
def argGkv : S512.Idx → EReal := m ((c.tc : Thread nD τ).loc main_arg2)
def argWq : S4x512x2048.Idx → EReal := m ((c.tc : Thread nD τ).loc main_arg3)
def argWkv : S4x512x2048.Idx → EReal := m ((c.tc : Thread nD τ).loc main_arg4)

theorem entry_gq (k : Fin 512) : V m c main_v0 (ix2 0 k) = argGq m c (ix1 k) := by
  unfold V
  after_reads_simp
  pointwise []
  rfl
theorem entry_gkv (k : Fin 512) : V m c main_v1 (ix2 0 k) = argGkv m c (ix1 k) := by
  unfold V
  after_reads_simp
  pointwise []
  rfl

theorem idx0 : ∀ t : Fin cfg0.N, win0_0.index t (0 : Fin 2) = t.val ∧ win0_0.index t (1 : Fin 2) = 2 :=
  (by decide +kernel : ∀ t : Fin grid0.N, _)
theorem idx1 : ∀ t : Fin cfg0.N, win0_1.index t (0 : Fin 2) = t.val ∧ win0_1.index t (1 : Fin 2) = 3 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 1 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 1 ∧ win0_5.index t (1 : Fin 3) = 0 ∧ win0_5.index t (2 : Fin 3) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

/-- Lane `k` of the query's 512, and of the key's. -/
def laneQ (k : Fin 512) : Fin 3072 := ⟨1024 + k.val, by omega⟩
def laneKV (k : Fin 512) : Fin 3072 := ⟨1536 + k.val, by omega⟩

theorem iblk0_apply (t : Fin cfg0.N) (R : Fin 33024) (ht : t.val = R.val / 768) (k : Fin 512) :
    iblk m c 0 t (ix2 ⟨R.val % 768, by omega⟩ k) = argX m c (ix2 R (laneQ k)) := by
  obtain ⟨e0, e1⟩ := idx0 t
  refine Eq.trans ?_ (congrFun (V_main_arg0 m c) (ix2 R (laneQ k)))
  refine congrArg (V m c main_arg0) (place2 _ ?_ ?_)
  · show win0_0.index t (0 : Fin 2) * 768 + 1 * (R.val % 768) = R.val; omega
  · show win0_0.index t (1 : Fin 2) * 512 + 1 * k.val = 1024 + k.val; omega

theorem iblk1_apply (t : Fin cfg0.N) (R : Fin 33024) (ht : t.val = R.val / 768) (k : Fin 512) :
    iblk m c 1 t (ix2 ⟨R.val % 768, by omega⟩ k) = argX m c (ix2 R (laneKV k)) := by
  obtain ⟨e0, e1⟩ := idx1 t
  refine Eq.trans ?_ (congrFun (V_main_arg0 m c) (ix2 R (laneKV k)))
  refine congrArg (V m c main_arg0) (place2 _ ?_ ?_)
  · show win0_1.index t (0 : Fin 2) * 768 + 1 * (R.val % 768) = R.val; omega
  · show win0_1.index t (1 : Fin 2) * 512 + 1 * k.val = 1536 + k.val; omega

theorem iblk2_apply (t : Fin cfg0.N) (k : Fin 512) : iblk m c 2 t (ix2 0 k) = argGq m c (ix1 k) := by
  obtain ⟨e0, e1⟩ := idx2 t
  refine Eq.trans ?_ (entry_gq m c k)
  refine congrArg (V m c main_v0) (place2 _ ?_ ?_)
  · show win0_2.index t (0 : Fin 2) * 1 + 1 * 0 = 0; omega
  · show win0_2.index t (1 : Fin 2) * 512 + 1 * k.val = k.val; omega

theorem iblk3_apply (t : Fin cfg0.N) (k : Fin 512) : iblk m c 3 t (ix2 0 k) = argGkv m c (ix1 k) := by
  obtain ⟨e0, e1⟩ := idx3 t
  refine Eq.trans ?_ (entry_gkv m c k)
  refine congrArg (V m c main_v1) (place2 _ ?_ ?_)
  · show win0_3.index t (0 : Fin 2) * 1 + 1 * 0 = 0; omega
  · show win0_3.index t (1 : Fin 2) * 512 + 1 * k.val = k.val; omega

theorem iblk4_apply (t : Fin cfg0.N) (k : Fin 512) (l : Fin 2048) : iblk m c 4 t (ix3 0 k l) = argWq m c (ix3 1 k l) := by
  obtain ⟨e0, e1, e2⟩ := idx4 t
  refine Eq.trans ?_ (congrFun (V_main_arg3 m c) (ix3 1 k l))
  refine congrArg (V m c main_arg3) (place3 _ ?_ ?_ ?_)
  · show win0_4.index t (0 : Fin 3) * 1 + 1 * 0 = 1; omega
  · show win0_4.index t (1 : Fin 3) * 512 + 1 * k.val = k.val; omega
  · show win0_4.index t (2 : Fin 3) * 2048 + 1 * l.val = l.val; omega

theorem iblk5_apply (t : Fin cfg0.N) (k : Fin 512) (l : Fin 2048) : iblk m c 5 t (ix3 0 k l) = argWkv m c (ix3 1 k l) := by
  obtain ⟨e0, e1, e2⟩ := idx5 t
  refine Eq.trans ?_ (congrFun (V_main_arg4 m c) (ix3 1 k l))
  refine congrArg (V m c main_arg4) (place3 _ ?_ ?_ ?_)
  · show win0_5.index t (0 : Fin 3) * 1 + 1 * 0 = 1; omega
  · show win0_5.index t (1 : Fin 3) * 512 + 1 * k.val = k.val; omega
  · show win0_5.index t (2 : Fin 3) * 2048 + 1 * l.val = l.val; omega

/-- The whole query result. -/
theorem result6 (R : Fin 33024) (l : Fin 2048) : (dats m 0 c).arrAt 6 cfg0.N (ix2 R l)
    = times (norm latent (fun k => argX m c (ix2 R (laneQ k))) (fun k => argGq m c (ix1 k))) (fun k l => argWq m c (ix3 1 k l)) l := by
  have hb : R.val / 768 < cfg0.N := lt_of_lt_of_eq (show _ < 43 by omega) N_0.symm
  obtain ⟨e0, e1⟩ := idx6 ⟨_, hb⟩
  replace e0 : win0_6.index ⟨_, hb⟩ (0 : Fin 2) = R.val / 768 := e0
  have h := congrFun (Cert.UpIdeal.Value.blocks6 m c ⟨_, hb⟩ (flush0_6 _)) (ix2 ⟨R.val % 768, by omega⟩ l)
  rw [Cert.UpIdeal.Value.flushed6] at h
  refine Eq.trans ?_ (h.trans ?_)
  · refine congrArg ((dats m 0 c).arrAt 6 cfg0.N) (place2 _ ?_ ?_).symm
    · show win0_6.index ⟨_, hb⟩ (0 : Fin 2) * 768 + 1 * (R.val % 768) = R.val; omega
    · show win0_6.index ⟨_, hb⟩ (1 : Fin 2) * 2048 + 1 * l.val = l.val; omega
  · show out0_6 (iblk m c 0 ⟨_, hb⟩) (iblk m c 1 ⟨_, hb⟩) (iblk m c 2 ⟨_, hb⟩) (iblk m c 3 ⟨_, hb⟩) (iblk m c 4 ⟨_, hb⟩) (iblk m c 5 ⟨_, hb⟩)
      (ix2 ⟨R.val % 768, by omega⟩ l) = _
    rw [out6_eq, pay1_apply, funext fun k => pay3_apply _ _ _ k, funext fun k => iblk0_apply m c ⟨_, hb⟩ R rfl k,
      funext fun k => iblk2_apply m c ⟨_, hb⟩ k, funext fun k => funext fun l => iblk4_apply m c ⟨_, hb⟩ k l]

/-- The whole key and value result. -/
theorem result7 (R : Fin 33024) (l : Fin 2048) : (dats m 0 c).arrAt 7 cfg0.N (ix2 R l)
    = times (norm latent (fun k => argX m c (ix2 R (laneKV k))) (fun k => argGkv m c (ix1 k))) (fun k l => argWkv m c (ix3 1 k l)) l := by
  have hb : R.val / 768 < cfg0.N := lt_of_lt_of_eq (show _ < 43 by omega) N_0.symm
  obtain ⟨e0, e1⟩ := idx7 ⟨_, hb⟩
  replace e0 : win0_7.index ⟨_, hb⟩ (0 : Fin 2) = R.val / 768 := e0
  have h := congrFun (Cert.UpIdeal.Value.blocks7 m c ⟨_, hb⟩ (flush0_7 _)) (ix2 ⟨R.val % 768, by omega⟩ l)
  rw [Cert.UpIdeal.Value.flushed7] at h
  refine Eq.trans ?_ (h.trans ?_)
  · refine congrArg ((dats m 0 c).arrAt 7 cfg0.N) (place2 _ ?_ ?_).symm
    · show win0_7.index ⟨_, hb⟩ (0 : Fin 2) * 768 + 1 * (R.val % 768) = R.val; omega
    · show win0_7.index ⟨_, hb⟩ (1 : Fin 2) * 2048 + 1 * l.val = l.val; omega
  · show out0_7 (iblk m c 0 ⟨_, hb⟩) (iblk m c 1 ⟨_, hb⟩) (iblk m c 2 ⟨_, hb⟩) (iblk m c 3 ⟨_, hb⟩) (iblk m c 4 ⟨_, hb⟩) (iblk m c 5 ⟨_, hb⟩)
      (ix2 ⟨R.val % 768, by omega⟩ l) = _
    rw [out7_eq, pay1_apply, funext fun k => pay3_apply _ _ _ k, funext fun k => iblk1_apply m c ⟨_, hb⟩ R rfl k,
      funext fun k => iblk3_apply m c ⟨_, hb⟩ k, funext fun k => funext fun l => iblk5_apply m c ⟨_, hb⟩ k l]

end Up

end
-- ==== Proof.UpEqual.lean ====
/- What the reference's latent up-projections compute, at an index, and that the kernel computes the same. -/
module

public import proofs.«01_k».proof.Proof.UpValue
public import proofs.«01_k».proof.Proof.Gen.UpRefIdeal.Read

@[expose] public section

set_option maxRecDepth 16384

noncomputable section

namespace Up

open Idealize.ShloMosaic Idealize.ShloMosaic.TcCoe Idealize.SL.Sem Layer

section Reference
open Cert.UpRefIdeal Cert.UpRefIdeal.Gen Cert.UpRefIdeal.Read

variable (x0 : (⟨S33024x3072, .bf16⟩ : BufTy).Contents (Elt Ideal)) (x1 x2 : (⟨S512, .f32⟩ : BufTy).Contents (Elt Ideal))
variable (x3 x4 : (⟨S4x512x2048, .bf16⟩ : BufTy).Contents (Elt Ideal))

theorem ref_rowQ (R : Fin 33024) (k : Fin 512) : val_main_v1 x0 (ix2 R k) = x0 (ix2 R (laneQ k)) := by
  rw [val_main_v1_apply, val_main_v0_apply]
  exact congrArg x0 (place2 _ rfl rfl)

theorem ref_matrixQ (k : Fin 512) (l : Fin 2048) : val_main_v19 x3 (ix2 k l) = x3 (ix3 1 k l) := by
  rw [val_main_v19_apply, val_main_v18_apply, val_main_v17_apply]
  exact congrArg x3 (place3 _ rfl (by show (k.val * 2048 + l.val) / 2048 % 512 = k.val; omega) (by show (k.val * 2048 + l.val) % 2048 = l.val; omega))

theorem ref_squareQ (R : Fin 33024) :
    val_main_v5 x0 (ix1 R) = ∑ k : Fin 512, x0 (ix2 R (laneQ k)) * x0 (ix2 R (laneQ k)) := by
  rw [val_main_v5_apply, val_main_cst_apply]
  refine (congrArg (· + _) (Ideal.ofBits_zero .f32)).trans ((zero_add _).trans (Finset.sum_congr rfl fun k _ => ?_))
  rw [val_main_v4_apply]
  have e : idx_main_v5 (ix1 R) k = ix2 R k := place2 _ rfl rfl
  rw [e, ref_rowQ]; rfl

theorem ref_normQ (R : Fin 33024) (k : Fin 512) :
    val_main_v16 x0 x1 (ix2 R k) = norm latent (fun k => x0 (ix2 R (laneQ k))) (fun k => x1 (ix1 k)) k := by
  rw [val_main_v16_apply, val_main_v15_apply, val_main_v14_apply, val_main_v13_apply, val_main_v12_apply, val_main_v11_apply,
    val_main_v10_apply, val_main_v9_apply, val_main_cst_1_apply, val_main_v8_apply, val_main_v7_apply, val_main_cst_0_apply,
    val_main_v6_apply]
  have e1 : idx_main_v6 (idx_main_v12 (ix2 R k)) = ix1 R := place1 _ rfl
  have e2 : idx_main_v14 (idx_main_v15 (ix2 R k)) = ix1 k := place1 _ rfl
  rw [e1, e2, ref_squareQ, ref_rowQ]
  rfl

theorem ref_resultQ (R : Fin 33024) (l : Fin 2048) : val_main_v38 x0 x1 x3 (ix2 R l)
    = times (norm latent (fun k => x0 (ix2 R (laneQ k))) (fun k => x1 (ix1 k))) (fun k l => x3 (ix3 1 k l)) l := by
  rw [val_main_v38_apply]
  refine Eq.trans (b := val_main_v20 x0 x1 x3 (ix2 R l)) rfl ?_
  rw [val_main_v20_apply]
  refine Finset.sum_congr rfl fun k _ => ?_
  have e1 : lidx_main_v20 (ix2 R l) k = ix2 R k := place2 _ rfl rfl
  have e2 : ridx_main_v20 (ix2 R l) k = ix2 k l := place2 _ rfl rfl
  rw [e1, e2, ref_normQ, ref_matrixQ]

theorem ref_rowKV (R : Fin 33024) (k : Fin 512) : val_main_v3 x0 (ix2 R k) = x0 (ix2 R (laneKV k)) := by
  rw [val_main_v3_apply, val_main_v2_apply]
  exact congrArg x0 (place2 _ rfl rfl)

theorem ref_matrixKV (k : Fin 512) (l : Fin 2048) : val_main_v36 x4 (ix2 k l) = x4 (ix3 1 k l) := by
  rw [val_main_v36_apply, val_main_v35_apply, val_main_v34_apply]
  exact congrArg x4 (place3 _ rfl (by show (k.val * 2048 + l.val) / 2048 % 512 = k.val; omega) (by show (k.val * 2048 + l.val) % 2048 = l.val; omega))

theorem ref_squareKV (R : Fin 33024) :
    val_main_v22 x0 (ix1 R) = ∑ k : Fin 512, x0 (ix2 R (laneKV k)) * x0 (ix2 R (laneKV k)) := by
  rw [val_main_v22_apply, val_main_cst_2_apply]
  refine (congrArg (· + _) (Ideal.ofBits_zero .f32)).trans ((zero_add _).trans (Finset.sum_congr rfl fun k _ => ?_))
  rw [val_main_v21_apply]
  have e : idx_main_v22 (ix1 R) k = ix2 R k := place2 _ rfl rfl
  rw [e, ref_rowKV]; rfl

theorem ref_normKV (R : Fin 33024) (k : Fin 512) :
    val_main_v33 x0 x2 (ix2 R k) = norm latent (fun k => x0 (ix2 R (laneKV k))) (fun k => x2 (ix1 k)) k := by
  rw [val_main_v33_apply, val_main_v32_apply, val_main_v31_apply, val_main_v30_apply, val_main_v29_apply, val_main_v28_apply,
    val_main_v27_apply, val_main_v26_apply, val_main_cst_4_apply, val_main_v25_apply, val_main_v24_apply, val_main_cst_3_apply,
    val_main_v23_apply]
  have e1 : idx_main_v23 (idx_main_v29 (ix2 R k)) = ix1 R := place1 _ rfl
  have e2 : idx_main_v31 (idx_main_v32 (ix2 R k)) = ix1 k := place1 _ rfl
  rw [e1, e2, ref_squareKV, ref_rowKV]
  rfl

theorem ref_resultKV (R : Fin 33024) (l : Fin 2048) : val_main_v39 x0 x2 x4 (ix2 R l)
    = times (norm latent (fun k => x0 (ix2 R (laneKV k))) (fun k => x2 (ix1 k))) (fun k l => x4 (ix3 1 k l)) l := by
  rw [val_main_v39_apply]
  refine Eq.trans (b := val_main_v37 x0 x2 x4 (ix2 R l)) rfl ?_
  rw [val_main_v37_apply]
  refine Finset.sum_congr rfl fun k _ => ?_
  have e1 : lidx_main_v37 (ix2 R l) k = ix2 R k := place2 _ rfl rfl
  have e2 : ridx_main_v37 (ix2 R l) k = ix2 k l := place2 _ rfl rfl
  rw [e1, e2, ref_normKV, ref_matrixKV]

end Reference

variable (m : (ℓ : Loc Cert.UpIdeal.nD Cert.UpIdeal.τ Cert.UpIdeal.sig) → Buf (Elt Ideal) ℓ) (c : Dev Cert.UpIdeal.nD)

theorem equalQ : (Cert.UpIdeal.Gen.dats m 0 c).arrAt 6 Cert.UpIdeal.cfg0.N = Cert.UpRefIdeal.Read.val_main_v38 (argX m c) (argGq m c) (argWq m c) := by
  funext i
  rw [show i = ix2 (n0 := 33024) (n1 := 2048) (i 0) (i 1) from place2 (n0 := 33024) (n1 := 2048) i rfl rfl]
  exact (result6 m c (i 0) (i 1)).trans (ref_resultQ (argX m c) (argGq m c) (argWq m c) (i 0) (i 1)).symm

theorem equalKV : (Cert.UpIdeal.Gen.dats m 0 c).arrAt 7 Cert.UpIdeal.cfg0.N = Cert.UpRefIdeal.Read.val_main_v39 (argX m c) (argGkv m c) (argWkv m c) := by
  funext i
  rw [show i = ix2 (n0 := 33024) (n1 := 2048) (i 0) (i 1) from place2 (n0 := 33024) (n1 := 2048) i rfl rfl]
  exact (result7 m c (i 0) (i 1)).trans (ref_resultKV (argX m c) (argGkv m c) (argWkv m c) (i 0) (i 1)).symm

end Up

end
-- ==== Proof.NormValue.lean ====
/- The final norm kernel: each row of the 2048 tokens of a sequence, its first 16 rows dropped, is that row's RMS norm. -/
module

public import proofs.«01_k».proof.Proof.Rows
public import proofs.«01_k».proof.Proof.Gen.NormIdeal.Value
public import Idealize.ShloMosaic.Lib.StableHlo.RunRead
public import Idealize.ShloMosaic.Lib.Tactic

@[expose] public section

set_option maxRecDepth 16384

noncomputable section

namespace Final

open Idealize.ShloMosaic Idealize.ShloMosaic.TcCoe Idealize.SL.Sem Cert.NormIdeal Cert.NormIdeal.Gen Layer

theorem pay1_apply (a : Vec Ideal S512x2048 .f32) (g : Vec Ideal S1x2048 .f32) (r : Fin 512) (k : Fin 2048) :
    k0_pay1 (F := Ideal) a g (ix3 0 r k) = norm width (fun k => a (ix2 r k)) (fun k => g (ix2 0 k)) k := by
  pointwise [k0_pay1]
  rfl

theorem out_eq (x0 : Vec Ideal S512x2048 .f32) (x1 : Vec Ideal S1x2048 .f32) : out0_2 x0 x1 = k0_pay1 x0 x1 := by
  unfold out0_2
  rw [View.canon_unit_zero zero3, View.ld_unit_zero (S := S512x2048) zero2, View.ld_unit_zero (S := S1x2048) zero2]

variable (m : (ℓ : Loc nD τ sig) → Buf (Elt Ideal) ℓ) (c : Dev nD)

/-- The rows and the gains. -/
def argH : S33024x2048.Idx → EReal := m ((c.tc : Thread nD τ).loc main_arg0)
def argG : S2048.Idx → EReal := m ((c.tc : Thread nD τ).loc main_arg1)

theorem entry_g (k : Fin 2048) : V m c main_v0 (ix2 0 k) = argG m c (ix1 k) := by
  unfold V
  after_reads_simp
  pointwise []
  rfl

theorem idx0 : ∀ t : Fin cfg0.N, win0_0.index t (0 : Fin 2) = 2064 * (t.val / 4) + 16 + 512 * (t.val % 4) ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)

/-- Token `p` of sequence `b`, among all rows. -/
def token (b : Fin 16) (p : Fin 2048) : Fin 33024 := ⟨2064 * b.val + 16 + p.val, by omega⟩

theorem iblk0_apply (t : Fin cfg0.N) (b : Fin 16) (p : Fin 2048) (ht : t.val = 4 * b.val + p.val / 512) (k : Fin 2048) :
    iblk m c 0 t (ix2 ⟨p.val % 512, by omega⟩ k) = argH m c (ix2 (token b p) k) := by
  obtain ⟨e0, e1⟩ := idx0 t
  refine Eq.trans ?_ (congrFun (V_main_arg0 m c) (ix2 (token b p) k))
  refine congrArg (V m c main_arg0) (place2 _ ?_ ?_)
  · show win0_0.index t (0 : Fin 2) + 1 * (p.val % 512) = 2064 * b.val + 16 + p.val; omega
  · show win0_0.index t (1 : Fin 2) + 1 * k.val = k.val; omega

theorem iblk1_apply (t : Fin cfg0.N) (k : Fin 2048) : iblk m c 1 t (ix2 0 k) = argG m c (ix1 k) := by
  obtain ⟨e0, e1⟩ := idx1 t
  refine Eq.trans ?_ (entry_g m c k)
  refine congrArg (V m c main_v0) (place2 _ ?_ ?_)
  · show win0_1.index t (0 : Fin 2) * 1 + 1 * 0 = 0; omega
  · show win0_1.index t (1 : Fin 2) * 2048 + 1 * k.val = k.val; omega

/-- The whole result. -/
theorem result (b : Fin 16) (p k : Fin 2048) : (dats m 0 c).arrAt 2 cfg0.N (ix3 b p k)
    = norm width (fun k => argH m c (ix2 (token b p) k)) (fun k => argG m c (ix1 k)) k := by
  have hb : 4 * b.val + p.val / 512 < cfg0.N := lt_of_lt_of_eq (show _ < 64 by omega) N_0.symm
  obtain ⟨e0, e1, e2⟩ := idx2 ⟨_, hb⟩
  replace e0 : win0_2.index ⟨_, hb⟩ (0 : Fin 3) = (4 * b.val + p.val / 512) / 4 := e0
  replace e1 : win0_2.index ⟨_, hb⟩ (1 : Fin 3) = (4 * b.val + p.val / 512) % 4 := e1
  have h := congrFun (Cert.NormIdeal.Value.blocks2 m c ⟨_, hb⟩ (flush0_2 _)) (ix3 (n0 := 1) 0 ⟨p.val % 512, by omega⟩ k)
  rw [Cert.NormIdeal.Value.flushed2] at h
  refine Eq.trans ?_ (h.trans ?_)
  · refine congrArg ((dats m 0 c).arrAt 2 cfg0.N) (place3 _ ?_ ?_ ?_).symm
    · show win0_2.index ⟨_, hb⟩ (0 : Fin 3) * 1 + 1 * 0 = b.val; omega
    · show win0_2.index ⟨_, hb⟩ (1 : Fin 3) * 512 + 1 * (p.val % 512) = p.val; omega
    · show win0_2.index ⟨_, hb⟩ (2 : Fin 3) * 2048 + 1 * k.val = k.val; omega
  · show out0_2 (iblk m c 0 ⟨_, hb⟩) (iblk m c 1 ⟨_, hb⟩) (ix3 0 ⟨p.val % 512, by omega⟩ k) = _
    rw [out_eq, pay1_apply, funext fun k => iblk0_apply m c ⟨_, hb⟩ b p rfl k, funext fun k => iblk1_apply m c ⟨_, hb⟩ k]

end Final

end
-- ==== Proof.NormEqual.lean ====
/- What the reference's final norm computes, at an index, and that the kernel computes the same. -/
module

public import proofs.«01_k».proof.Proof.NormValue
public import proofs.«01_k».proof.Proof.Gen.NormRefIdeal.Read

@[expose] public section

set_option maxRecDepth 16384

noncomputable section

namespace Final

open Idealize.ShloMosaic Idealize.ShloMosaic.TcCoe Idealize.SL.Sem Layer

section Reference
open Cert.NormRefIdeal Cert.NormRefIdeal.Gen Cert.NormRefIdeal.Read

variable (x0 : (⟨S33024x2048, .f32⟩ : BufTy).Contents (Elt Ideal)) (x1 : (⟨S2048, .f32⟩ : BufTy).Contents (Elt Ideal))

/-- Row `r` of sequence `b`. -/
def row (b : Fin 16) (r : Fin 2064) : Fin 33024 := ⟨2064 * b.val + r.val, by omega⟩

theorem ref_row (b : Fin 16) (r : Fin 2064) (k : Fin 2048) : val_main_v0 x0 (ix3 b r k) = x0 (ix2 (row b r) k) := by
  rw [val_main_v0_apply]
  exact congrArg x0 (place2 _ (by show ((b.val * 2064 + r.val) * 2048 + k.val) / 2048 = 2064 * b.val + r.val; omega)
    (by show ((b.val * 2064 + r.val) * 2048 + k.val) % 2048 = k.val; omega))

theorem ref_square (b : Fin 16) (r : Fin 2064) :
    val_main_v2 x0 (ix2 b r) = ∑ k : Fin 2048, x0 (ix2 (row b r) k) * x0 (ix2 (row b r) k) := by
  rw [val_main_v2_apply, val_main_cst_apply]
  refine (congrArg (· + _) (Ideal.ofBits_zero .f32)).trans ((zero_add _).trans (Finset.sum_congr rfl fun k _ => ?_))
  rw [val_main_v1_apply]
  have e : idx_main_v2 (ix2 b r) k = ix3 b r k := place3 _ rfl rfl rfl
  rw [e, ref_row]; rfl

theorem ref_norm (b : Fin 16) (r : Fin 2064) (k : Fin 2048) :
    val_main_v13 x0 x1 (ix3 b r k) = norm width (fun k => x0 (ix2 (row b r) k)) (fun k => x1 (ix1 k)) k := by
  rw [val_main_v13_apply, val_main_v12_apply, val_main_v11_apply, val_main_v10_apply, val_main_v9_apply, val_main_v8_apply,
    val_main_v7_apply, val_main_v6_apply, val_main_cst_1_apply, val_main_v5_apply, val_main_v4_apply, val_main_cst_0_apply,
    val_main_v3_apply]
  have e1 : idx_main_v3 (idx_main_v9 (ix3 b r k)) = ix2 b r := place2 _ rfl rfl
  have e2 : idx_main_v11 (idx_main_v12 (ix3 b r k)) = ix1 k := place1 _ rfl
  rw [e1, e2, ref_square, ref_row]
  rfl

theorem ref_result (b : Fin 16) (p k : Fin 2048) :
    val_main_v14 x0 x1 (ix3 b p k) = norm width (fun k => x0 (ix2 (token b p) k)) (fun k => x1 (ix1 k)) k := by
  rw [val_main_v14_apply]
  have e : idx_main_v14 (ix3 b p k) = ix3 b ⟨16 + p.val, by omega⟩ k := place3 _ rfl rfl rfl
  have h : row b ⟨16 + p.val, by omega⟩ = token b p := Fin.ext (Nat.add_assoc _ _ _).symm
  rw [e, ref_norm, h]

end Reference

theorem equal (m : (ℓ : Loc Cert.NormIdeal.nD Cert.NormIdeal.τ Cert.NormIdeal.sig) → Buf (Elt Ideal) ℓ) (c : Dev Cert.NormIdeal.nD) :
    (Cert.NormIdeal.Gen.dats m 0 c).arrAt 2 Cert.NormIdeal.cfg0.N = Cert.NormRefIdeal.Read.val_main_v14 (argH m c) (argG m c) := by
  funext i
  rw [show i = ix3 (n0 := 16) (n1 := 2048) (n2 := 2048) (i 0) (i 1) (i 2) from place3 (n0 := 16) (n1 := 2048) (n2 := 2048) i rfl rfl rfl]
  exact (result m c (i 0) (i 1) (i 2)).trans (ref_result (argH m c) (argG m c) (i 0) (i 1) (i 2)).symm

end Final

end
-- ==== Proof.InBody.lean ====
/- The input projection's body at one grid point, on any memrefs. What a point does depends on its column tile: the first
   normalises the row tile, keeps it and leaves the first half of the gated values; the second leaves the other half; the next
   six leave gates; the last three leave the remaining products. Each lemma speaks only of the buffers its case touches. -/
module

public import proofs.«01_k».proof.Proof.Gen.In.Launch
public import proofs.«01_k».proof.Proof.Gen.In.Skeleton
public import proofs.«01_k».proof.Proof.Gen.In.Points
public import proofs.«01_k».proof.Proof.Rows
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Pipeline.Value
public import Idealize.ShloMosaic.Lib.Tactic

@[expose] public section

set_option maxRecDepth 16384

noncomputable section

namespace InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.In Cert.In.Gen
open Layer (zero2 zero3)

variable {F : FTy → Type} [FloatOps F]

local notation "𝕄" => MT nD τ sig Unit (Elt F) ℕ (UR sig nD τ) ℕ

section
variable (c : Dev nD) (i : grid0.Coords)
  (arg2 : Memref sig .tc .vmem S768x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S1x1x1024 .f32) (harg5 : arg5.IsWhole)
  (arg6 : Memref sig .tc .vmem S768x512 .bf16) (harg6 : arg6.IsWhole) (arg7 : Memref sig .tc .vmem S768x1024 .bf16) (harg7 : arg7.IsWhole)
  (arg8 : Memref sig .tc .vmem S768x1024 .bf16) (harg8 : arg8.IsWhole) (arg9 : Memref sig .tc .vmem S768x2048 .bf16) (harg9 : arg9.IsWhole)
  (x0 : Vec F S768x2048 .f32) (x1 : Vec F S1x2048 .f32) (x2 : Vec F S1x2048x1024 .bf16) (x3 : Vec F S1x1x1024 .f32) (xs : Vec F S768x2048 .bf16)

/-- What a point of column tile 0 does. -/
theorem first_tile (E : Set ℕ) (K : PUnit → sProp 𝕄)
    (h0 : k0_cond1 i = 1#1) (h1 : ¬k0_cond2 i = 1#1) (h2 : ¬k0_cond3 i = 1#1) (h3 : ¬k0_cond4 i = 1#1) :
    iprop(owns (c : Thread nD τ) arg2 fullShare x0 ∗ owns (c : Thread nD τ) arg3 fullShare x1 ∗ owns (c : Thread nD τ) arg4 fullShare x2
        ∗ (∃ d, owns (c : Thread nD τ) arg6 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg6 fullShare (k0_pay3 x0 x1 x2) ∗ owns (c : Thread nD τ) arg9 fullShare (k0_pay2 x0 x1)) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%d6, %f6, -, H6⟩, ⟨%d9, %f9, -, H9⟩, Hk⟩
  obtain rfl := harg2.eq_unread hf0; obtain rfl := harg3.eq_unread hf1; obtain rfl := harg4.eq_unread hf2
  sl_exec (disch := first | sl_exact h0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr
    swap; · iexact H6
    ipureintro
    refine (View.read_writes_full _ _ _ _ _).trans ?_
    simp only [View.readAt_eq_ld, harg2.read_unread, harg3.read_unread, harg4.read_unread, View.ld_unit_zero (S := S768x2048) zero2,
      View.ld_unit_zero (S := S1x2048) zero2, View.ld_unit_zero (S := S1x2048x1024) zero3]
  · iexists _; isplitr
    swap; · iexact H9
    ipureintro
    refine (View.read_writes_full _ _ _ _ _).trans ?_
    simp only [View.readAt_eq_ld, harg2.read_unread, harg3.read_unread, View.ld_unit_zero (S := S768x2048) zero2,
      View.ld_unit_zero (S := S1x2048) zero2]

/-- What a point of column tile 1 does. -/
theorem second_tile (E : Set ℕ) (K : PUnit → sProp 𝕄)
    (h0 : ¬k0_cond1 i = 1#1) (h1 : k0_cond2 i = 1#1) (h2 : ¬k0_cond3 i = 1#1) (h3 : ¬k0_cond4 i = 1#1) :
    iprop(owns (c : Thread nD τ) arg4 fullShare x2 ∗ (∃ d, owns (c : Thread nD τ) arg6 fullShare d) ∗ owns (c : Thread nD τ) arg9 fullShare xs
        ∗ (iprop(owns (c : Thread nD τ) arg4 fullShare x2 ∗ owns (c : Thread nD τ) arg6 fullShare (k0_pay4 xs x2)
            ∗ owns (c : Thread nD τ) arg9 fullShare xs) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f2, %hf2, H2⟩, ⟨%d6, %f6, -, H6⟩, ⟨%f9, %hf9, H9⟩, Hk⟩
  obtain rfl := harg4.eq_unread hf2; obtain rfl := harg9.eq_unread hf9
  sl_exec (disch := first | sl_exact h0 | sl_exact h1 | sl_exact h2 | sl_exact h3)
  sl_step
  iapply Hk
  isplitl [H2]
  · iexists _; isplitr; · ipureintro; exact harg4.read_unread _
    iexact H2
  isplitl [H6]
  · iexists _; isplitr
    swap; · iexact H6
    ipureintro
    refine (View.read_writes_full _ _ _ _ _).trans ?_
    simp only [View.readAt_eq_ld, harg4.read_unread, harg9.read_unread, View.ld_unit_zero (S := S768x2048) zero2,
      View.ld_unit_zero (S := S1x2048x1024) zero3]
  · iexists _; isplitr; · ipureintro; exact harg9.read_unread _
    iexact H9

/-- What a point of the column tiles 2 to 7 does. -/
theorem gate_tile (E : Set ℕ) (K : PUnit → sProp 𝕄)
    (h0 : ¬k0_cond1 i = 1#1) (h1 : ¬k0_cond2 i = 1#1) (h2 : k0_cond3 i = 1#1) (h3 : ¬k0_cond4 i = 1#1) :
    iprop(owns (c : Thread nD τ) arg4 fullShare x2 ∗ owns (c : Thread nD τ) arg5 fullShare x3 ∗ (∃ d, owns (c : Thread nD τ) arg7 fullShare d)
        ∗ owns (c : Thread nD τ) arg9 fullShare xs
        ∗ (iprop(owns (c : Thread nD τ) arg4 fullShare x2 ∗ owns (c : Thread nD τ) arg5 fullShare x3
            ∗ owns (c : Thread nD τ) arg7 fullShare (k0_pay5 xs x2 x3) ∗ owns (c : Thread nD τ) arg9 fullShare xs) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f2, %hf2, H2⟩, ⟨%f3, %hf3, H3⟩, ⟨%d7, %f7, -, H7⟩, ⟨%f9, %hf9, H9⟩, Hk⟩
  obtain rfl := harg4.eq_unread hf2; obtain rfl := harg5.eq_unread hf3; obtain rfl := harg9.eq_unread hf9
  sl_exec (disch := first | sl_exact h0 | sl_exact h1 | sl_exact h2 | sl_exact h3)
  sl_step
  iapply Hk
  isplitl [H2]
  · iexists _; isplitr; · ipureintro; exact harg4.read_unread _
    iexact H2
  isplitl [H3]
  · iexists _; isplitr; · ipureintro; exact harg5.read_unread _
    iexact H3
  isplitl [H7]
  · iexists _; isplitr
    swap; · iexact H7
    ipureintro
    refine (View.read_writes_full _ _ _ _ _).trans ?_
    simp only [View.readAt_eq_ld, harg4.read_unread, harg5.read_unread, harg9.read_unread, View.ld_unit_zero (S := S768x2048) zero2,
      View.ld_unit_zero (S := S1x2048x1024) zero3, View.ld_unit_zero (S := S1x1x1024) zero3]
  · iexists _; isplitr; · ipureintro; exact harg9.read_unread _
    iexact H9

/-- What a point of the column tiles 8 to 10 does. -/
theorem rest_tile (E : Set ℕ) (K : PUnit → sProp 𝕄)
    (h0 : ¬k0_cond1 i = 1#1) (h1 : ¬k0_cond2 i = 1#1) (h2 : ¬k0_cond3 i = 1#1) (h3 : k0_cond4 i = 1#1) :
    iprop(owns (c : Thread nD τ) arg4 fullShare x2 ∗ (∃ d, owns (c : Thread nD τ) arg8 fullShare d) ∗ owns (c : Thread nD τ) arg9 fullShare xs
        ∗ (iprop(owns (c : Thread nD τ) arg4 fullShare x2 ∗ owns (c : Thread nD τ) arg8 fullShare (k0_pay6 xs x2)
            ∗ owns (c : Thread nD τ) arg9 fullShare xs) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f2, %hf2, H2⟩, ⟨%d8, %f8, -, H8⟩, ⟨%f9, %hf9, H9⟩, Hk⟩
  obtain rfl := harg4.eq_unread hf2; obtain rfl := harg9.eq_unread hf9
  sl_exec (disch := first | sl_exact h0 | sl_exact h1 | sl_exact h2 | sl_exact h3)
  sl_step
  iapply Hk
  isplitl [H2]
  · iexists _; isplitr; · ipureintro; exact harg4.read_unread _
    iexact H2
  isplitl [H8]
  · iexists _; isplitr
    swap; · iexact H8
    ipureintro
    refine (View.read_writes_full _ _ _ _ _).trans ?_
    simp only [View.readAt_eq_ld, harg4.read_unread, harg9.read_unread, View.ld_unit_zero (S := S768x2048) zero2,
      View.ld_unit_zero (S := S1x2048x1024) zero3]
  · iexists _; isplitr; · ipureintro; exact harg9.read_unread _
    iexact H9

end

end InProj

end
-- ==== Proof.InFrame.lean ====
/- The input projection's frame. What each buffer holds after a point is said outright: the kept rows are the norm of the row
   tile, each output's buffer the block last stored into it. Two outputs' buffers are held over points that store nothing into
   them and written back later, at the last point of the row tile; such a point leaves them as it finds them. -/
module

public import proofs.«01_k».proof.Proof.InBody
public import Idealize.ShloMosaic.Lib.Claim

@[expose] public section

set_option maxRecDepth 16384

noncomputable section

namespace InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.In Cert.In.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## What the region finds -/

/-- Core `c`'s buffers when the region is entered. -/
abbrev entry (b : Ref sig .tc) : Buf (Elt F) ((c : Thread nD τ).loc b) := StableHlo.after hostOps0 (fun b => m (c, b)) b

theorem hostOps_fresh : (hostOps0 : List (HloOp τ sig (Elt F))).Forall fun op => op.fresh = ∅ := by
  simp only [List.Forall]; repeat' constructor

theorem reaches (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps_fresh main_chain

/-- The host's reshape writes only its own result. -/
theorem entry_kept (b : Ref sig .tc) (hb : b ≠ main_v0) : entry m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- Window `w`'s block at point `t`. -/
def block (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## The points -/

/-- Point `j` of the row tile that `t` is in. -/
def pointOf (t : Fin cfg0.N) (j : Fin 11) : Fin cfg0.N :=
  ⟨t.val / 11 * 11 + j.val, by have h : t.val < 473 := lt_of_lt_of_eq t.isLt N_0; exact lt_of_lt_of_eq (by omega) N_0.symm⟩

/-- The column tile whose gates the buffer holds: the point's own, up to the last one with gates. -/
def gateTile (t : Fin cfg0.N) : Fin 11 := ⟨min (t.val % 11) 7, by omega⟩

theorem pointOf_self (t : Fin cfg0.N) (j : Fin 11) (h : t.val % 11 = j.val) : pointOf t j = t :=
  Fin.ext (by show t.val / 11 * 11 + j.val = t.val; omega)

theorem pointOf_pred (t : Fin cfg0.N) (j : Fin 11) (h : t.val % 11 ≠ 0) (h' : t.val - 1 < cfg0.N) : pointOf ⟨t.val - 1, h'⟩ j = pointOf t j :=
  Fin.ext (by show (t.val - 1) / 11 * 11 + j.val = t.val / 11 * 11 + j.val; omega)

theorem cond1 : ∀ t : Fin cfg0.N, k0_cond1 (grid0.coords t) = 1#1 ↔ t.val % 11 = 0 := (by decide +kernel : ∀ t : Fin grid0.N, _)
theorem cond2 : ∀ t : Fin cfg0.N, k0_cond2 (grid0.coords t) = 1#1 ↔ t.val % 11 = 1 := (by decide +kernel : ∀ t : Fin grid0.N, _)
theorem cond3 : ∀ t : Fin cfg0.N, k0_cond3 (grid0.coords t) = 1#1 ↔ 2 ≤ t.val % 11 ∧ t.val % 11 ≤ 7 := (by decide +kernel : ∀ t : Fin grid0.N, _)
theorem cond4 : ∀ t : Fin cfg0.N, k0_cond4 (grid0.coords t) = 1#1 ↔ 8 ≤ t.val % 11 := (by decide +kernel : ∀ t : Fin grid0.N, _)

theorem idle4 : ∀ t : Fin cfg0.N, cfg0.idle 4 (cfg0.grid.coords t) = decide (2 ≤ t.val % 11) := by decide +kernel
theorem idle5 : ∀ t : Fin cfg0.N, cfg0.idle 5 (cfg0.grid.coords t) = !decide (2 ≤ t.val % 11 ∧ t.val % 11 ≤ 7) := by decide +kernel
theorem idle6 : ∀ t : Fin cfg0.N, cfg0.idle 6 (cfg0.grid.coords t) = decide (t.val % 11 < 8) := by decide +kernel

theorem flush4 : ∀ t : Fin cfg0.N, (cfg0.win 4).flush t = decide (t.val % 11 = 0 ∨ t.val % 11 = 10) := by decide +kernel
theorem flush5 : ∀ t : Fin cfg0.N, (cfg0.win 5).flush t = decide ((2 ≤ t.val % 11 ∧ t.val % 11 ≤ 6) ∨ t.val % 11 = 10) := by decide +kernel
theorem flush6 : ∀ t : Fin cfg0.N, (cfg0.win 6).flush t = decide (8 ≤ t.val % 11) := by decide +kernel

/-- Where an output's buffer holds a block stored earlier and not yet written back. -/
theorem fresh4 (t : Fin cfg0.N) : cfg0.fresh 4 t.val = decide (t.val % 11 < 2) :=
  Pipeline.Cfg.fresh_tab cfg0 4 (fun n => decide (n % 11 < 2)) rfl
    (fun t => by rw [flush4, idle4]; revert t; decide +kernel) t.val (Nat.le_of_lt t.isLt)
theorem fresh5 (t : Fin cfg0.N) : cfg0.fresh 5 t.val = decide (t.val % 11 < 8) :=
  Pipeline.Cfg.fresh_tab cfg0 5 (fun n => decide (n % 11 < 8)) rfl
    (fun t => by rw [flush5, idle5]; revert t; decide +kernel) t.val (Nat.le_of_lt t.isLt)
theorem fresh6 (t : Fin cfg0.N) : cfg0.fresh 6 t.val = true :=
  Pipeline.Cfg.fresh_tab cfg0 6 (fun _ => true) rfl
    (fun t => by rw [flush6, idle6]; revert t; decide +kernel) t.val (Nat.le_of_lt t.isLt)

/-! ## What the buffers hold -/

/-- The kept rows of `t`'s row tile. -/
def rows (t : Fin cfg0.N) : Vec F S768x2048 .bf16 := k0_pay2 (block m c 0 (pointOf t 0)) (block m c 1 (pointOf t 0))

/-- The gated values' buffer after point `t`, … -/
def gated (t : Fin cfg0.N) : Vec F S768x512 .bf16 :=
  if t.val % 11 = 0 then k0_pay3 (block m c 0 (pointOf t 0)) (block m c 1 (pointOf t 0)) (block m c 2 (pointOf t 0))
  else k0_pay4 (rows m c t) (block m c 2 (pointOf t 1))
/-- the gates' … -/
def gates (t : Fin cfg0.N) : Vec F S768x1024 .bf16 :=
  k0_pay5 (rows m c t) (block m c 2 (pointOf t (gateTile t))) (block m c 3 (pointOf t (gateTile t)))
/-- and the remaining products'. -/
def rest (t : Fin cfg0.N) : Vec F S768x1024 .bf16 := k0_pay6 (rows m c t) (block m c 2 t)

theorem rows_pred (t : Fin cfg0.N) (h : t.val % 11 ≠ 0) (h' : t.val - 1 < cfg0.N) : rows m c ⟨t.val - 1, h'⟩ = rows m c t := by
  unfold rows; rw [pointOf_pred t 0 h h']

theorem gated_pred (t : Fin cfg0.N) (h : 2 ≤ t.val % 11) (h' : t.val - 1 < cfg0.N) : gated m c ⟨t.val - 1, h'⟩ = gated m c t := by
  unfold gated
  rw [rows_pred m c t (by omega) h', pointOf_pred t 1 (by omega) h', if_neg (by show ¬ (t.val - 1) % 11 = 0; omega), if_neg (by omega)]

theorem gates_pred (t : Fin cfg0.N) (h : 8 ≤ t.val % 11) (h' : t.val - 1 < cfg0.N) : gates m c ⟨t.val - 1, h'⟩ = gates m c t := by
  unfold gates
  have e : gateTile ⟨t.val - 1, h'⟩ = gateTile t := Fin.ext (by show min ((t.val - 1) % 11) 7 = min (t.val % 11) 7; omega)
  rw [rows_pred m c t (by omega) h', e, pointOf_pred t _ (by omega) h']

/-- The scratch memref that keeps the rows. -/
abbrev keep : Memref sig .tc .vmem S768x2048 .bf16 := Memref.whole cc0_scratch0

/-- Between points: the kept rows are those of the point before; before the first they are anything. -/
def between : (n : ℕ) → n ≤ cfg0.N → sProp 𝕄
  | 0, _ => Pipeline.ΦA spec0 c
  | n + 1, hn => iprop(owns (c : Thread nD τ) keep fullShare (rows m c ⟨n, hn⟩) ∗ (∃ r, prngReg c r))

theorem region_eq :
    (Pipeline.ΦA spec0 c : sProp 𝕄) = iprop((∃ d, owns (c : Thread nD τ) keep fullShare d) ∗ (∃ r, prngReg c r)) := by
  unfold Pipeline.ΦA; rw [scopedRest0_eq]; simp only [keep, owns_whole]; try rfl

/-- Whatever the point, the kept rows may be forgotten; -/
theorem between_forget : ∀ (n : ℕ) (h : n ≤ cfg0.N),
    between m c n h ⊢ (iprop((∃ d, owns (c : Thread nD τ) keep fullShare d) ∗ (∃ r, prngReg c r)) : sProp 𝕄)
  | 0, _ => by unfold between; rw [region_eq]
  | n + 1, h => by
    unfold between
    iintro ⟨H, Hg⟩
    isplitl [H]
    · iexists _; iexact H
    iexact Hg

/-- inside a row tile they are the tile's. -/
theorem between_inside (t : Fin cfg0.N) (h : t.val % 11 ≠ 0) :
    between m c t.val (Nat.le_of_lt t.isLt) = iprop(owns (c : Thread nD τ) keep fullShare (rows m c t) ∗ (∃ r, prngReg c r)) := by
  obtain ⟨n, hn⟩ := t
  cases n with
  | zero => exact absurd (Nat.zero_mod _) h
  | succ n => unfold between; rw [← rows_pred m c ⟨n + 1, hn⟩ h (by exact Nat.lt_of_succ_lt hn)]; rfl

/-- The pipeline's data. -/
def data (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => gated m c t
    | ⟨5, _⟩ => gates m c t
    | ⟨6, _⟩ => rest m c t
  Φ t := between m c t.val (Nat.le_of_lt_succ t.isLt)
  q _ := fullShare
  owed _ := 0

theorem data_A (w : Fin cfg0.W) : (data m 0 c).A w = entry m c (Pipeline.arrRef spec0 w) := by dsimp only [data]
theorem after_0 (t : Fin cfg0.N) : (data m 0 c).after 0 t = block m c 0 t := by dsimp only [data]
theorem after_1 (t : Fin cfg0.N) : (data m 0 c).after 1 t = block m c 1 t := by dsimp only [data]
theorem after_2 (t : Fin cfg0.N) : (data m 0 c).after 2 t = block m c 2 t := by dsimp only [data]
theorem after_3 (t : Fin cfg0.N) : (data m 0 c).after 3 t = block m c 3 t := by dsimp only [data]
theorem after_4 (t : Fin cfg0.N) : (data m 0 c).after 4 t = gated m c t := by dsimp only [data]
theorem after_5 (t : Fin cfg0.N) : (data m 0 c).after 5 t = gates m c t := by dsimp only [data]
theorem after_6 (t : Fin cfg0.N) : (data m 0 c).after 6 t = rest m c t := by dsimp only [data]

/-- An input's buffer holds its block at every point, fetched there or not. -/
theorem before_0 (t : Fin cfg0.N) (d) : (data m 0 c).before 0 t d = block m c 0 t :=
  ((data m 0 c).before_in_eq_fetched 0 rfl (fun _ => rfl) (fun _ _ _ => rfl)
    (fun t => by rw [after_0]; unfold Dat.blockOf block; rw [data_A]) t d).trans (by unfold Dat.fetched Dat.blockOf block; rw [data_A]; rfl)
theorem before_1 (t : Fin cfg0.N) (d) : (data m 0 c).before 1 t d = block m c 1 t :=
  ((data m 0 c).before_in_eq_fetched 1 rfl (fun _ => rfl) (fun _ _ _ => rfl)
    (fun t => by rw [after_1]; unfold Dat.blockOf block; rw [data_A]) t d).trans (by unfold Dat.fetched Dat.blockOf block; rw [data_A]; rfl)
theorem before_2 (t : Fin cfg0.N) (d) : (data m 0 c).before 2 t d = block m c 2 t :=
  ((data m 0 c).before_in_eq_fetched 2 rfl (fun _ => rfl) (fun _ _ _ => rfl)
    (fun t => by rw [after_2]; unfold Dat.blockOf block; rw [data_A]) t d).trans (by unfold Dat.fetched Dat.blockOf block; rw [data_A]; rfl)
theorem before_3 (t : Fin cfg0.N) (d) : (data m 0 c).before 3 t d = block m c 3 t :=
  ((data m 0 c).before_in_eq_fetched 3 rfl (fun _ => rfl) (fun _ _ _ => rfl)
    (fun t => by rw [after_3]; unfold Dat.blockOf block; rw [data_A]) t d).trans (by unfold Dat.fetched Dat.blockOf block; rw [data_A]; rfl)

/-! ## Buffers a point stores nothing into -/

/-- A held output's buffer, where a block stored earlier is in it, holds what the data say of the point: of output 4, … -/
theorem held_4 (t : Fin cfg0.N) (h : 2 ≤ t.val % 11) (d) : (data m 0 c).before 4 t d = (data m 0 c).after 4 t := by
  rw [Dat.before_out_traj _ 4 rfl (fun _ _ => rfl) (fun t _ hi _ => ?_) t.val t rfl d,
    if_neg (by rw [fresh4]; simp only [decide_eq_true_eq]; omega), after_4, after_4]
  · exact gated_pred m c t h _
  · rw [idle4, decide_eq_true_eq] at hi
    rw [after_4, after_4]
    exact (gated_pred m c t hi _).symm

/-- and of output 5. -/
theorem held_5 (t : Fin cfg0.N) (h : 8 ≤ t.val % 11) (d) : (data m 0 c).before 5 t d = (data m 0 c).after 5 t := by
  rw [Dat.before_out_traj _ 5 rfl (fun _ _ => rfl) (fun t _ hi hf => ?_) t.val t rfl d,
    if_neg (by rw [fresh5]; simp only [decide_eq_true_eq]; omega), after_5, after_5]
  · exact gates_pred m c t h _
  · rw [fresh5, decide_eq_false_iff_not] at hf
    rw [after_5, after_5]
    exact (gates_pred m c t (by omega) _).symm

/-- A buffer left as it was found is left as the pipeline asks, if a write-back at the point finds what the data say. -/
theorem untouched (w : Fin cfg0.W) (t : Fin cfg0.N) (hi : cfg0.idle w (cfg0.grid.coords t) = true)
    (hk : (cfg0.win w).flush t = true → ∀ d, (data m 0 c).before w t d = (data m 0 c).after w t) (d) :
    owns (c : Thread nD τ) ((cfg0.win w).stage (cfg0.slots t w)) fullShare ((data m 0 c).before w t d) ⊢ (data m 0 c).leavesExact w t := by
  unfold Dat.leavesExact
  rw [hi]
  cases hf : (cfg0.win w).flush t
  · dsimp only
    iintro H
    iexists _; iexact H
  · dsimp only
    rw [hk hf d]

theorem stored (w : Fin cfg0.W) (t : Fin cfg0.N) (hi : cfg0.idle w (cfg0.grid.coords t) = false) :
    (data m 0 c).leavesExact w t = owns (c : Thread nD τ) ((cfg0.win w).stage (cfg0.slots t w)) fullShare ((data m 0 c).after w t) := by
  unfold Dat.leavesExact
  rw [hi]

theorem untouched_4 (t : Fin cfg0.N) (h : 2 ≤ t.val % 11) (d) :
    owns (c : Thread nD τ) (st0_4 t) fullShare ((data m 0 c).before 4 t d) ⊢ (data m 0 c).leavesExact 4 t :=
  untouched m c 4 t (by rw [idle4]; exact decide_eq_true h) (fun _ d => held_4 m c t h d) d

theorem untouched_5 (t : Fin cfg0.N) (h : ¬(2 ≤ t.val % 11 ∧ t.val % 11 ≤ 7)) (d) :
    owns (c : Thread nD τ) (st0_5 t) fullShare ((data m 0 c).before 5 t d) ⊢ (data m 0 c).leavesExact 5 t :=
  untouched m c 5 t (by rw [idle5, decide_eq_false h]; rfl)
    (fun hf d => held_5 m c t (by rw [flush5, decide_eq_true_eq] at hf; omega) d) d

theorem untouched_6 (t : Fin cfg0.N) (h : t.val % 11 < 8) (d) :
    owns (c : Thread nD τ) (st0_6 t) fullShare ((data m 0 c).before 6 t d) ⊢ (data m 0 c).leavesExact 6 t :=
  untouched m c 6 t (by rw [idle6]; exact decide_eq_true h)
    (fun hf d => by rw [flush6, decide_eq_true_eq] at hf; omega) d

/-! ## The body at a point -/

def given (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d)))

def left (t : Fin cfg0.N) : sProp 𝕄 :=
  iprop((data m 0 c).Φ t.succ ∗ (data m 0 c).owesAt () t.succ
    ∗ (data m 0 c).leavesExact 0 t ∗ (data m 0 c).leavesExact 1 t ∗ (data m 0 c).leavesExact 2 t ∗ (data m 0 c).leavesExact 3 t
    ∗ (data m 0 c).leavesExact 4 t ∗ (data m 0 c).leavesExact 5 t ∗ (data m 0 c).leavesExact 6 t)

set_option maxHeartbeats 1600000 in
theorem body (t : Fin cfg0.N) :
    given m c t ⊢ wp frame (wpE (defs₀ (F := F)) Variants.none c none) Set.univ (bodyAt0 t) (fun _ => left m c t) := by
  unfold given left bodyAt0
  simp only [before_0, before_1, before_2, before_3]
  rw [show (data m 0 c).owesAt () t.succ = (data m 0 c).owesAt () t.castSucc from rfl,
    show (data m 0 c).Φ t.castSucc = between m c t.val (Nat.le_of_lt t.isLt) from by
      dsimp only [data]; exact Pipeline.Dat.Φ_castSucc (between m c) t,
    show (data m 0 c).Φ t.succ = iprop(owns (c : Thread nD τ) keep fullShare (rows m c t) ∗ (∃ r, prngReg c r)) from rfl,
    stored m c 0 t rfl, stored m c 1 t rfl, stored m c 2 t rfl, stored m c 3 t rfl, after_0, after_1, after_2, after_3]
  by_cases h0 : t.val % 11 = 0
  · rw [stored m c 4 t (by rw [idle4]; exact decide_eq_false (by omega)), after_4,
      show gated m c t = k0_pay3 (block m c 0 t) (block m c 1 t) (block m c 2 t) from by
        unfold gated; rw [if_pos h0, pointOf_self t 0 h0],
      show rows m c t = k0_pay2 (block m c 0 t) (block m c 1 t) from by unfold rows; rw [pointOf_self t 0 h0]]
    refine BIBase.Entails.trans (Laws.sep_mono (between_forget m c t.val (Nat.le_of_lt t.isLt)) (Entails.refl _)) ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (first_tile c (grid0.coords t) _ _ _ _ _ _ _ _ _ _ _ _ _ _ _ _ (block m c 0 t) (block m c 1 t) (block m c 2 t) Set.univ _
      ((cond1 t).mpr h0) (fun h => by have := (cond2 t).mp h; omega) (fun h => by have := (cond3 t).mp h; omega)
      (fun h => by have := (cond4 t).mp h; omega))
    isplitl [H0]; · iexact H0
    isplitl [H1]; · iexact H1
    isplitl [H2]; · iexact H2
    isplitl [H4]; · iexists _; iexact H4
    isplitl [HS]; · iexact HS
    iintro ⟨H0, H1, H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (untouched_5 m c t (by omega) d5); iexact H5
    iapply (untouched_6 m c t (by omega) d6); iexact H6
  rw [between_inside m c t h0]
  by_cases h1 : t.val % 11 = 1
  · rw [stored m c 4 t (by rw [idle4]; exact decide_eq_false (by omega)), after_4,
      show gated m c t = k0_pay4 (rows m c t) (block m c 2 t) from by
        unfold gated; rw [if_neg h0, pointOf_self t 1 h1]]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (second_tile c (grid0.coords t) _ _ _ _ _ _ _ _ _ _ _ _ _ _ _ _ (block m c 2 t) (rows m c t) Set.univ _
      (fun h => h0 ((cond1 t).mp h)) ((cond2 t).mpr h1) (fun h => by have := (cond3 t).mp h; omega)
      (fun h => by have := (cond4 t).mp h; omega))
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (untouched_5 m c t (by omega) d5); iexact H5
    iapply (untouched_6 m c t (by omega) d6); iexact H6
  by_cases h2 : t.val % 11 ≤ 7
  · rw [stored m c 5 t (by rw [idle5, decide_eq_true (by omega)]; rfl), after_5,
      show gates m c t = k0_pay5 (rows m c t) (block m c 2 t) (block m c 3 t) from by
        unfold gates; rw [pointOf_self t (gateTile t) (by show t.val % 11 = min (t.val % 11) 7; omega)]]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (gate_tile c (grid0.coords t) _ _ _ _ _ _ _ _ _ _ _ _ _ _ _ _ (block m c 2 t) (block m c 3 t) (rows m c t) Set.univ _
      (fun h => h0 ((cond1 t).mp h)) (fun h => h1 ((cond2 t).mp h)) ((cond3 t).mpr (by omega))
      (fun h => by have := (cond4 t).mp h; omega))
    isplitl [H2]; · iexact H2
    isplitl [H3]; · iexact H3
    isplitl [H5]; · iexists _; iexact H5
    isplitl [HS]; · iexact HS
    iintro ⟨H2, H3, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iapply (untouched_4 m c t (by omega) d4); iexact H4
    isplitl [H5]; · iexact H5
    iapply (untouched_6 m c t (by omega) d6); iexact H6
  · rw [stored m c 6 t (by rw [idle6]; exact decide_eq_false (by omega)), after_6,
      show rest m c t = k0_pay6 (rows m c t) (block m c 2 t) from rfl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (rest_tile c (grid0.coords t) _ _ _ _ _ _ _ _ _ _ _ _ _ _ _ _ (block m c 2 t) (rows m c t) Set.univ _
      (fun h => h0 ((cond1 t).mp h)) (fun h => h1 ((cond2 t).mp h)) (fun h => by have := (cond3 t).mp h; omega)
      ((cond4 t).mpr (by omega)))
    isplitl [H2]; · iexact H2
    isplitl [H6]; · iexists _; iexact H6
    isplitl [HS]; · iexact HS
    iintro ⟨H2, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iapply (untouched_4 m c t (by omega) d4); iexact H4
    isplitl [H5]; · iapply (untouched_5 m c t (by omega) d5); iexact H5
    iexact H6

/-! ## The run -/

theorem obligation : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

theorem starts : Pipeline.ΦA spec0 c ⊢ (data m 0 c).Φ 0 := by
  rw [show (data m 0 c).Φ 0 = Pipeline.ΦA spec0 c from rfl]

theorem ends : (data m 0 c).Φ (Fin.last cfg0.N) ⊢ Pipeline.ΦA spec0 c := by
  rw [region_eq]
  exact between_forget m c cfg0.N (Nat.le_refl _)

set_option backward.isDefEq.respectTransparency.types false in
/-- The kernel terminates without fault, with every array the pipeline's and every semaphore counter at zero. -/
theorem run : θ_run defs (onTc (τ := τ) (main (F := F))) (s₀ m ρ)
    (fun r => (Pipeline.FramePost cfgs (data m) 0 (entry m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := entry m) (hmain := reaches m Variants.none) (hA := data_A m) (hin := starts m) (hout := ends m)

/-- The frame: besides, the arguments are as they were, and each result is the pipeline's. -/
theorem run_results : θ_run defs (onTc (τ := τ) (main (F := F))) ⟨m, fun _ => 0, ρ⟩ (fun r => (∀ c : Dev nD,
      r.2.mem ((c.tc : Thread nD τ).loc main_v1_0) = (data m 0 c).arrAt 4 cfg0.N
      ∧ r.2.mem ((c.tc : Thread nD τ).loc main_v1_1) = (data m 0 c).arrAt 5 cfg0.N
      ∧ r.2.mem ((c.tc : Thread nD τ).loc main_v1_2) = (data m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 4, (h.1 c).1 5, (h.1 c).1 6,
    ((h.1 c).1 0).trans (((data m 0 c).arrAt_in 0 rfl _).trans ((data_A m c 0).trans (entry_kept m c main_arg0 (by decide)))),
    ((h.1 c).2 main_arg1 (Pipeline.mem_restRefs_of main_arg1 (by decide) (by decide))).trans (entry_kept m c main_arg1 (by decide)),
    ((h.1 c).1 2).trans (((data m 0 c).arrAt_in 2 rfl _).trans ((data_A m c 2).trans (entry_kept m c main_arg2 (by decide)))),
    ((h.1 c).1 3).trans (((data m 0 c).arrAt_in 3 rfl _).trans ((data_A m c 3).trans (entry_kept m c main_arg3 (by decide))))⟩, h.2⟩)
    (run m ρ)

end InProj

end
-- ==== Proof.InBlock.lean ====
/- What one grid point of the input projection stores over the extended reals, entry by entry, and which part of its array each
   point's block is. The first point of a row tile keeps the tile's norm; every point multiplies it by its 1024 columns. -/
module

public import proofs.«01_k».proof.Proof.InFrame
public import proofs.«01_k».proof.Proof.Rows
public import Idealize.ShloMosaic.Lib.Pointwise
public import Idealize.ShloMosaic.Lib.StableHlo.RunRead
public import Idealize.ShloMosaic.Lib.Pipeline.ValueKit
public import Idealize.ShloMosaic.Lib.Tactic

@[expose] public section

set_option maxRecDepth 16384

noncomputable section

namespace InProj

open Idealize.ShloMosaic Idealize.ShloMosaic.TcCoe Idealize.SL.Sem Cert.In Cert.In.Gen Layer

/-! ## The stored values -/

/-- The gated value of a row and a column tile: its value column, times the logistic of its gate column 512 further on. -/
def glu (v : Fin 2048 → EReal) (w : Fin 2048 → Fin 1024 → EReal) (j : Fin 512) : EReal :=
  times v w ⟨j.val, by omega⟩ * Ideal.logistic (times v w ⟨512 + j.val, by omega⟩)

theorem pay1_apply (a : Vec Ideal S768x2048 .f32) (g : Vec Ideal S1x2048 .f32) (r : Fin 768) (k : Fin 2048) :
    k0_pay1 (F := Ideal) a g (ix2 r k) = norm width (fun k => a (ix2 r k)) (fun k => g (ix2 0 k)) k := by
  pointwise [k0_pay1]
  rfl

theorem pay2_apply (a : Vec Ideal S768x2048 .f32) (g : Vec Ideal S1x2048 .f32) (r : Fin 768) (k : Fin 2048) :
    k0_pay2 (F := Ideal) a g (ix2 r k) = norm width (fun k => a (ix2 r k)) (fun k => g (ix2 0 k)) k := by
  refine Eq.trans ?_ (pay1_apply a g r k)
  unfold k0_pay2
  generalize k0_pay1 (F := Ideal) a g = y
  pointwise []

theorem pay4_apply (v : Vec Ideal S768x2048 .bf16) (w : Vec Ideal S1x2048x1024 .bf16) (r : Fin 768) (j : Fin 512) :
    k0_pay4 (F := Ideal) v w (ix2 r j) = glu (fun k => v (ix2 r k)) (fun k j => w (ix3 0 k j)) j := by
  pointwise [k0_pay4]
  rfl

theorem pay3_apply (a : Vec Ideal S768x2048 .f32) (g : Vec Ideal S1x2048 .f32) (w : Vec Ideal S1x2048x1024 .bf16) (r : Fin 768) (j : Fin 512) :
    k0_pay3 (F := Ideal) a g w (ix2 r j)
      = glu (norm width (fun k => a (ix2 r k)) (fun k => g (ix2 0 k))) (fun k j => w (ix3 0 k j)) j := by
  rw [show norm width (fun k => a (ix2 r k)) (fun k => g (ix2 0 k)) = fun k => k0_pay1 (F := Ideal) a g (ix2 r k) from
    funext fun k => (pay1_apply a g r k).symm]
  unfold k0_pay3
  generalize k0_pay1 (F := Ideal) a g = y
  pointwise []
  rfl

theorem pay5_apply (v : Vec Ideal S768x2048 .bf16) (w : Vec Ideal S1x2048x1024 .bf16) (b : Vec Ideal S1x1x1024 .f32) (r : Fin 768) (j : Fin 1024) :
    k0_pay5 (F := Ideal) v w b (ix2 r j) = Ideal.logistic (times (fun k => v (ix2 r k)) (fun k j => w (ix3 0 k j)) j + b (ix3 0 0 j)) := by
  pointwise [k0_pay5]
  rfl

theorem pay6_apply (v : Vec Ideal S768x2048 .bf16) (w : Vec Ideal S1x2048x1024 .bf16) (r : Fin 768) (j : Fin 1024) :
    k0_pay6 (F := Ideal) v w (ix2 r j) = times (fun k => v (ix2 r k)) (fun k j => w (ix3 0 k j)) j := by
  pointwise [k0_pay6]
  rfl

/-! ## The arguments -/

variable (m : (ℓ : Loc nD τ sig) → Buf (Elt Ideal) ℓ) (c : Dev nD)

/-- The rows, the gains, the stack of matrices and the stack of biases. -/
def argH : S33024x2048.Idx → EReal := m ((c.tc : Thread nD τ).loc main_arg0)
def argG : S2048.Idx → EReal := m ((c.tc : Thread nD τ).loc main_arg1)
def argW : S4x2048x11264.Idx → EReal := m ((c.tc : Thread nD τ).loc main_arg2)
def argB : S4x1x11264.Idx → EReal := m ((c.tc : Thread nD τ).loc main_arg3)

/-- The norm of row `R`. -/
def normed (R : Fin 33024) : Fin 2048 → EReal := norm width (fun k => argH m c (ix2 R k)) (fun k => argG m c (ix1 k))

/-- Packed column `j` of row `R`'s projection. -/
def proj (R : Fin 33024) (j : Fin 11264) : EReal := times (normed m c R) (fun k j => argW m c (ix3 1 k j)) j

theorem entry_g (k : Fin 2048) : entry m c main_v0 (ix2 0 k) = argG m c (ix1 k) := by
  unfold entry
  after_reads_simp
  pointwise []
  rfl

/-! ## Which part of its array each point's block is -/

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 1 ∧ win0_2.index t (1 : Fin 3) = 0 ∧ win0_2.index t (2 : Fin 3) = t.val % 11 :=
  (by decide +kernel : ∀ t : Fin grid0.N, _)
theorem idx3 : ∀ t : Fin cfg0.N, win0_3.index t (0 : Fin 3) = 1 ∧ win0_3.index t (1 : Fin 3) = 0 ∧ win0_3.index t (2 : Fin 3) = t.val % 11 :=
  (by decide +kernel : ∀ t : Fin grid0.N, _)
theorem idx4 : ∀ t : Fin cfg0.N, win0_4.index t (0 : Fin 2) = t.val / 11 ∧ win0_4.index t (1 : Fin 2) = min (t.val % 11) 1 :=
  (by decide +kernel : ∀ t : Fin grid0.N, _)
theorem idx5 : ∀ t : Fin cfg0.N, win0_5.index t (0 : Fin 2) = t.val / 11 ∧ win0_5.index t (1 : Fin 2) = min (t.val % 11) 7 - 2 :=
  (by decide +kernel : ∀ t : Fin grid0.N, _)
theorem idx6 : ∀ t : Fin cfg0.N, win0_6.index t (0 : Fin 2) = t.val / 11 ∧ win0_6.index t (1 : Fin 2) = t.val % 11 - 8 :=
  (by decide +kernel : ∀ t : Fin grid0.N, _)

/-- Row `r` of tile `i`. -/
def tileRow (i : Fin 43) (r : Fin 768) : Fin 33024 := ⟨768 * i.val + r.val, by omega⟩
/-- Column `j` of the `q`th 1024. -/
def packed (q : Fin 11) (j : Fin 1024) : Fin 11264 := ⟨q.val * 1024 + j.val, by omega⟩
/-- The row tile a point is in. -/
def tileOf (t : Fin cfg0.N) : Fin 43 := ⟨t.val / 11, by have h : t.val < 473 := lt_of_lt_of_eq t.isLt N_0; omega⟩

variable (t : Fin cfg0.N) (q : Fin 11)

theorem block0_apply (r : Fin 768) (k : Fin 2048) : block m c 0 (pointOf t q) (ix2 r k) = argH m c (ix2 (tileRow (tileOf t) r) k) := by
  obtain ⟨e0, e1⟩ := idx0 (pointOf t q)
  refine Eq.trans ?_ (congrFun (entry_kept m c main_arg0 (by decide)) (ix2 (tileRow (tileOf t) r) k))
  refine congrArg (entry m c main_arg0) (place2 _ ?_ ?_)
  · show win0_0.index (pointOf t q) (0 : Fin 2) * 768 + 1 * r.val = 768 * (t.val / 11) + r.val
    have : (pointOf t q).val = t.val / 11 * 11 + q.val := rfl
    omega
  · show win0_0.index (pointOf t q) (1 : Fin 2) * 2048 + 1 * k.val = k.val; omega

theorem block1_apply (k : Fin 2048) : block m c 1 (pointOf t q) (ix2 0 k) = argG m c (ix1 k) := by
  obtain ⟨e0, e1⟩ := idx1 (pointOf t q)
  refine Eq.trans ?_ (entry_g m c k)
  refine congrArg (entry m c main_v0) (place2 _ ?_ ?_)
  · show win0_1.index (pointOf t q) (0 : Fin 2) * 1 + 1 * 0 = 0; omega
  · show win0_1.index (pointOf t q) (1 : Fin 2) * 2048 + 1 * k.val = k.val; omega

theorem block2_apply (k : Fin 2048) (j : Fin 1024) : block m c 2 (pointOf t q) (ix3 0 k j) = argW m c (ix3 1 k (packed q j)) := by
  obtain ⟨e0, e1, e2⟩ := idx2 (pointOf t q)
  refine Eq.trans ?_ (congrFun (entry_kept m c main_arg2 (by decide)) (ix3 1 k (packed q j)))
  refine congrArg (entry m c main_arg2) (place3 _ ?_ ?_ ?_)
  · show win0_2.index (pointOf t q) (0 : Fin 3) * 1 + 1 * 0 = 1; omega
  · show win0_2.index (pointOf t q) (1 : Fin 3) * 2048 + 1 * k.val = k.val; omega
  · show win0_2.index (pointOf t q) (2 : Fin 3) * 1024 + 1 * j.val = q.val * 1024 + j.val
    have : (pointOf t q).val = t.val / 11 * 11 + q.val := rfl
    omega

theorem block3_apply (j : Fin 1024) : block m c 3 (pointOf t q) (ix3 0 0 j) = argB m c (ix3 1 0 (packed q j)) := by
  obtain ⟨e0, e1, e2⟩ := idx3 (pointOf t q)
  refine Eq.trans ?_ (congrFun (entry_kept m c main_arg3 (by decide)) (ix3 1 0 (packed q j)))
  refine congrArg (entry m c main_arg3) (place3 _ ?_ ?_ ?_)
  · show win0_3.index (pointOf t q) (0 : Fin 3) * 1 + 1 * 0 = 1; omega
  · show win0_3.index (pointOf t q) (1 : Fin 3) * 1 + 1 * 0 = 0; omega
  · show win0_3.index (pointOf t q) (2 : Fin 3) * 1024 + 1 * j.val = q.val * 1024 + j.val
    have : (pointOf t q).val = t.val / 11 * 11 + q.val := rfl
    omega

/-! ## What the buffers hold, entry by entry -/

theorem norm_eq (r : Fin 768) :
    norm width (fun k => block m c 0 (pointOf t q) (ix2 r k)) (fun k => block m c 1 (pointOf t q) (ix2 0 k)) = normed m c (tileRow (tileOf t) r) := by
  rw [funext fun k => block0_apply m c t q r k, funext fun k => block1_apply m c t q k]
  rfl

theorem rows_eq (r : Fin 768) : (fun k => rows m c t (ix2 r k)) = normed m c (tileRow (tileOf t) r) :=
  (funext fun k => pay2_apply _ _ r k).trans (norm_eq m c t 0 r)

/-- A tile's row times a column tile is that stretch of the packed columns. -/
theorem times_eq (R : Fin 33024) (j : Fin 1024) :
    times (normed m c R) (fun k j => block m c 2 (pointOf t q) (ix3 0 k j)) j = proj m c R (packed q j) := by
  rw [funext fun k => funext fun j => block2_apply m c t q k j]
  rfl

theorem glu_eq (R : Fin 33024) (j : Fin 512) :
    glu (normed m c R) (fun k j => block m c 2 (pointOf t q) (ix3 0 k j)) j
      = proj m c R (packed q ⟨j.val, by omega⟩) * Ideal.logistic (proj m c R (packed q ⟨512 + j.val, by omega⟩)) := by
  unfold glu
  rw [times_eq, times_eq]

/-- Which of the two column tiles of gated values the buffer holds. -/
def gluTile : Fin 11 := ⟨min (t.val % 11) 1, by omega⟩

theorem gated_apply (r : Fin 768) (j : Fin 512) : gated m c t (ix2 r j)
    = proj m c (tileRow (tileOf t) r) (packed (gluTile t) ⟨j.val, by omega⟩)
      * Ideal.logistic (proj m c (tileRow (tileOf t) r) (packed (gluTile t) ⟨512 + j.val, by omega⟩)) := by
  unfold gated
  by_cases h : t.val % 11 = 0
  · rw [if_pos h, show gluTile t = 0 from Fin.ext (by show min (t.val % 11) 1 = 0; omega), pay3_apply, norm_eq, glu_eq]
  · rw [if_neg h, show gluTile t = 1 from Fin.ext (by show min (t.val % 11) 1 = 1; omega), pay4_apply, rows_eq, glu_eq]

theorem gates_apply (r : Fin 768) (j : Fin 1024) : gates m c t (ix2 r j)
    = Ideal.logistic (proj m c (tileRow (tileOf t) r) (packed (gateTile t) j) + argB m c (ix3 1 0 (packed (gateTile t) j))) := by
  unfold gates
  rw [pay5_apply, rows_eq, times_eq, block3_apply]

theorem rest_apply (r : Fin 768) (j : Fin 1024) :
    rest m c t (ix2 r j) = proj m c (tileRow (tileOf t) r) (packed ⟨t.val % 11, Nat.mod_lt _ (by decide)⟩ j) := by
  unfold rest
  rw [pay6_apply, rows_eq, ← times_eq m c t, pointOf_self t _ rfl]

end InProj

end
-- ==== Proof.InValue.lean ====
/- The input projection's three results over the extended reals, whole: the gated values, the branches' gates and the remaining
   columns, each entry from its row's packed columns. Each array is tiled by the blocks written back, and each block is the
   matching part of the array. -/
module

public import proofs.«01_k».proof.Proof.InBlock

@[expose] public section

set_option maxRecDepth 16384

noncomputable section

namespace InProj

open Idealize.ShloMosaic Idealize.ShloMosaic.TcCoe Idealize.SL.Sem Cert.In Cert.In.Gen Layer

variable (m : (ℓ : Loc nD τ sig) → Buf (Elt Ideal) ℓ) (c : Dev nD)

/-- The packed column of gated value `l`: values and gates alternate by 512. -/
def valueColumn (l : Fin 1024) : Fin 11264 := ⟨l.val / 512 * 1024 + l.val % 512, by omega⟩
def gateColumn (l : Fin 1024) : Fin 11264 := ⟨l.val / 512 * 1024 + (512 + l.val % 512), by omega⟩
/-- The packed column of branch gate `l`, and that of remaining column `l`. -/
def branchColumn (l : Fin 6144) : Fin 11264 := ⟨2048 + l.val, by omega⟩
def restColumn (l : Fin 3072) : Fin 11264 := ⟨8192 + l.val, by omega⟩

/-- The three arrays. -/
def whole4 (i : S33024x1024.Idx) : EReal :=
  proj m c (i 0) (valueColumn (i 1)) * Ideal.logistic (proj m c (i 0) (gateColumn (i 1)))
def whole5 (i : S33024x6144.Idx) : EReal :=
  Ideal.logistic (proj m c (i 0) (branchColumn (i 1)) + argB m c (ix3 1 0 (branchColumn (i 1))))
def whole6 (i : S33024x3072.Idx) : EReal := proj m c (i 0) (restColumn (i 1))

/-! ## Each block written back is its part of the array -/

theorem flushed4 (t : Fin cfg0.N) (hf : (cfg0.win 4).flush t = true) :
    (data m 0 c).flushed 4 t = ((cfg0.win 4).blk t).view.read (Elt Ideal) (whole4 m c) := by
  show (cfg0.win 4).cut (grid0.coords t) ((data m 0 c).after 4 t) = _
  rw [after_4]
  funext y
  obtain ⟨e0, e1⟩ := idx4 t
  have h0 : (y 0).val < 768 := (y 0).isLt
  have h1 : (y 1).val < 512 := (y 1).isLt
  have ht : t.val / 11 < 43 := (tileOf t).isLt
  show gated m c t ((cfg0.win 4).xinj (grid0.coords t) y) = whole4 m c (((cfg0.win 4).blk t).view.emb y)
  rw [show (cfg0.win 4).xinj (grid0.coords t) y = ix2 (⟨(y 0).val, h0⟩ : Fin 768) (⟨(y 1).val, h1⟩ : Fin 512) from place2 _ rfl rfl,
    show ((cfg0.win 4).blk t).view.emb y = ix2 (tileRow (tileOf t) ⟨(y 0).val, h0⟩) (⟨min (t.val % 11) 1 * 512 + (y 1).val, by omega⟩ : Fin 1024) from
      place2 _ (by show win0_4.index t (0 : Fin 2) * 768 + 1 * (y 0).val = 768 * (t.val / 11) + (y 0).val; omega)
        (by show win0_4.index t (1 : Fin 2) * 512 + 1 * (y 1).val = min (t.val % 11) 1 * 512 + (y 1).val; omega), gated_apply]
  refine congrArg₂ (fun a b => proj m c _ a * Ideal.logistic (proj m c _ b)) (Fin.ext ?_) (Fin.ext ?_)
  · show min (t.val % 11) 1 * 1024 + (y 1).val
      = (min (t.val % 11) 1 * 512 + (y 1).val) / 512 * 1024 + (min (t.val % 11) 1 * 512 + (y 1).val) % 512
    omega
  · show min (t.val % 11) 1 * 1024 + (512 + (y 1).val)
      = (min (t.val % 11) 1 * 512 + (y 1).val) / 512 * 1024 + (512 + (min (t.val % 11) 1 * 512 + (y 1).val) % 512)
    omega

theorem flushed5 (t : Fin cfg0.N) (hf : (cfg0.win 5).flush t = true) :
    (data m 0 c).flushed 5 t = ((cfg0.win 5).blk t).view.read (Elt Ideal) (whole5 m c) := by
  show (cfg0.win 5).cut (grid0.coords t) ((data m 0 c).after 5 t) = _
  rw [after_5]
  rw [flush5, decide_eq_true_eq] at hf
  funext y
  obtain ⟨e0, e1⟩ := idx5 t
  have h0 : (y 0).val < 768 := (y 0).isLt
  have h1 : (y 1).val < 1024 := (y 1).isLt
  have ht : t.val / 11 < 43 := (tileOf t).isLt
  show gates m c t ((cfg0.win 5).xinj (grid0.coords t) y) = whole5 m c (((cfg0.win 5).blk t).view.emb y)
  rw [show (cfg0.win 5).xinj (grid0.coords t) y = ix2 (⟨(y 0).val, h0⟩ : Fin 768) (⟨(y 1).val, h1⟩ : Fin 1024) from place2 _ rfl rfl,
    show ((cfg0.win 5).blk t).view.emb y
        = ix2 (tileRow (tileOf t) ⟨(y 0).val, h0⟩) (⟨(min (t.val % 11) 7 - 2) * 1024 + (y 1).val, by omega⟩ : Fin 6144) from
      place2 _ (by show win0_5.index t (0 : Fin 2) * 768 + 1 * (y 0).val = 768 * (t.val / 11) + (y 0).val; omega)
        (by show win0_5.index t (1 : Fin 2) * 1024 + 1 * (y 1).val = (min (t.val % 11) 7 - 2) * 1024 + (y 1).val; omega), gates_apply]
  refine congrArg (fun a => Ideal.logistic (proj m c _ a + argB m c (ix3 1 0 a))) (Fin.ext ?_)
  show min (t.val % 11) 7 * 1024 + (y 1).val = 2048 + ((min (t.val % 11) 7 - 2) * 1024 + (y 1).val)
  omega

theorem flushed6 (t : Fin cfg0.N) (hf : (cfg0.win 6).flush t = true) :
    (data m 0 c).flushed 6 t = ((cfg0.win 6).blk t).view.read (Elt Ideal) (whole6 m c) := by
  show (cfg0.win 6).cut (grid0.coords t) ((data m 0 c).after 6 t) = _
  rw [after_6]
  rw [flush6, decide_eq_true_eq] at hf
  funext y
  obtain ⟨e0, e1⟩ := idx6 t
  have h0 : (y 0).val < 768 := (y 0).isLt
  have h1 : (y 1).val < 1024 := (y 1).isLt
  have ht : t.val / 11 < 43 := (tileOf t).isLt
  show rest m c t ((cfg0.win 6).xinj (grid0.coords t) y) = whole6 m c (((cfg0.win 6).blk t).view.emb y)
  rw [show (cfg0.win 6).xinj (grid0.coords t) y = ix2 (⟨(y 0).val, h0⟩ : Fin 768) (⟨(y 1).val, h1⟩ : Fin 1024) from place2 _ rfl rfl,
    show ((cfg0.win 6).blk t).view.emb y
        = ix2 (tileRow (tileOf t) ⟨(y 0).val, h0⟩) (⟨(t.val % 11 - 8) * 1024 + (y 1).val, by omega⟩ : Fin 3072) from
      place2 _ (by show win0_6.index t (0 : Fin 2) * 768 + 1 * (y 0).val = 768 * (t.val / 11) + (y 0).val; omega)
        (by show win0_6.index t (1 : Fin 2) * 1024 + 1 * (y 1).val = (t.val % 11 - 8) * 1024 + (y 1).val; omega), rest_apply]
  refine congrArg (fun a => proj m c _ a) (Fin.ext ?_)
  show t.val % 11 * 1024 + (y 1).val = 8192 + ((t.val % 11 - 8) * 1024 + (y 1).val)
  omega

/-! ## The blocks written back tile the arrays -/

/-- Column tile `j`'s point of the row tile that row `R` is in. -/
def pointAt (R : ℕ) (hR : R < 33024) (j : Fin 11) : Fin cfg0.N := ⟨11 * (R / 768) + j.val, lt_of_lt_of_eq (show _ < 473 by omega) N_0.symm⟩

theorem cover4 (i : S33024x1024.Idx) : ∃ t : Fin cfg0.N, (cfg0.win 4).flush t = true ∧ i ∈ ((cfg0.win 4).blk t).view.set := by
  have h0 : (i 0).val < 33024 := (i 0).isLt
  have h1 : (i 1).val < 1024 := (i 1).isLt
  obtain ⟨j, hj, hf⟩ : ∃ j : Fin 11, min j.val 1 = (i 1).val / 512 ∧ (j.val = 0 ∨ j.val = 10) := by
    by_cases h : (i 1).val / 512 = 0
    · exact ⟨0, by show min 0 1 = _; omega, Or.inl rfl⟩
    · exact ⟨10, by show min 10 1 = _; omega, Or.inr rfl⟩
  have e : (pointAt (i 0).val h0 j).val = 11 * ((i 0).val / 768) + j.val := rfl
  refine ⟨pointAt (i 0).val h0 j, ?_, ?_⟩
  · rw [flush4, decide_eq_true_eq]; omega
  · obtain ⟨e0, e1⟩ := idx4 (pointAt (i 0).val h0 j)
    show i ∈ ((View.whole main_v1_0).slice (win0_4.rect (pointAt (i 0).val h0 j))).set
    rw [View.set_slice_whole, Rect.mem_set_unit]
    intro a
    match a with
    | ⟨0, _⟩ => show win0_4.index _ (0 : Fin 2) * 768 ≤ (i 0).val ∧ (i 0).val < win0_4.index _ (0 : Fin 2) * 768 + 768; omega
    | ⟨1, _⟩ => show win0_4.index _ (1 : Fin 2) * 512 ≤ (i 1).val ∧ (i 1).val < win0_4.index _ (1 : Fin 2) * 512 + 512; omega

theorem cover5 (i : S33024x6144.Idx) : ∃ t : Fin cfg0.N, (cfg0.win 5).flush t = true ∧ i ∈ ((cfg0.win 5).blk t).view.set := by
  have h0 : (i 0).val < 33024 := (i 0).isLt
  have h1 : (i 1).val < 6144 := (i 1).isLt
  obtain ⟨j, hj, hf⟩ : ∃ j : Fin 11, min j.val 7 = (i 1).val / 1024 + 2 ∧ ((2 ≤ j.val ∧ j.val ≤ 6) ∨ j.val = 10) := by
    by_cases h : (i 1).val / 1024 = 5
    · exact ⟨10, by show min 10 7 = _; omega, Or.inr rfl⟩
    · exact ⟨⟨(i 1).val / 1024 + 2, by omega⟩, by show min ((i 1).val / 1024 + 2) 7 = _; omega, Or.inl ⟨by show 2 ≤ (i 1).val / 1024 + 2; omega, by show (i 1).val / 1024 + 2 ≤ 6; omega⟩⟩
  have e : (pointAt (i 0).val h0 j).val = 11 * ((i 0).val / 768) + j.val := rfl
  refine ⟨pointAt (i 0).val h0 j, ?_, ?_⟩
  · rw [flush5, decide_eq_true_eq]; omega
  · obtain ⟨e0, e1⟩ := idx5 (pointAt (i 0).val h0 j)
    show i ∈ ((View.whole main_v1_1).slice (win0_5.rect (pointAt (i 0).val h0 j))).set
    rw [View.set_slice_whole, Rect.mem_set_unit]
    intro a
    match a with
    | ⟨0, _⟩ => show win0_5.index _ (0 : Fin 2) * 768 ≤ (i 0).val ∧ (i 0).val < win0_5.index _ (0 : Fin 2) * 768 + 768; omega
    | ⟨1, _⟩ => show win0_5.index _ (1 : Fin 2) * 1024 ≤ (i 1).val ∧ (i 1).val < win0_5.index _ (1 : Fin 2) * 1024 + 1024; omega

theorem cover6 (i : S33024x3072.Idx) : ∃ t : Fin cfg0.N, (cfg0.win 6).flush t = true ∧ i ∈ ((cfg0.win 6).blk t).view.set := by
  have h0 : (i 0).val < 33024 := (i 0).isLt
  have h1 : (i 1).val < 3072 := (i 1).isLt
  obtain ⟨j, hj⟩ : ∃ j : Fin 11, j.val = (i 1).val / 1024 + 8 := ⟨⟨(i 1).val / 1024 + 8, by omega⟩, rfl⟩
  have e : (pointAt (i 0).val h0 j).val = 11 * ((i 0).val / 768) + j.val := rfl
  refine ⟨pointAt (i 0).val h0 j, ?_, ?_⟩
  · rw [flush6, decide_eq_true_eq]; omega
  · obtain ⟨e0, e1⟩ := idx6 (pointAt (i 0).val h0 j)
    show i ∈ ((View.whole main_v1_2).slice (win0_6.rect (pointAt (i 0).val h0 j))).set
    rw [View.set_slice_whole, Rect.mem_set_unit]
    intro a
    match a with
    | ⟨0, _⟩ => show win0_6.index _ (0 : Fin 2) * 768 ≤ (i 0).val ∧ (i 0).val < win0_6.index _ (0 : Fin 2) * 768 + 768; omega
    | ⟨1, _⟩ => show win0_6.index _ (1 : Fin 2) * 1024 ≤ (i 1).val ∧ (i 1).val < win0_6.index _ (1 : Fin 2) * 1024 + 1024; omega

/-! ## The arrays -/

theorem final4 : (data m 0 c).arrAt 4 cfg0.N = whole4 m c := (data m 0 c).arrAt_eq_of_cover 4 _ (flushed4 m c) cover4
theorem final5 : (data m 0 c).arrAt 5 cfg0.N = whole5 m c := (data m 0 c).arrAt_eq_of_cover 5 _ (flushed5 m c) cover5
theorem final6 : (data m 0 c).arrAt 6 cfg0.N = whole6 m c := (data m 0 c).arrAt_eq_of_cover 6 _ (flushed6 m c) cover6

end InProj

end
-- ==== Proof.InEqual.lean ====
/- What the reference's input projection computes, at an index, and that the kernel computes the same. -/
module

public import proofs.«01_k».proof.Proof.InValue
public import proofs.«01_k».proof.Proof.Gen.InRefIdeal.Read

@[expose] public section

set_option maxRecDepth 16384

noncomputable section

namespace InProj

open Idealize.ShloMosaic Idealize.ShloMosaic.TcCoe Idealize.SL.Sem Layer

section Reference
open Cert.InRefIdeal Cert.InRefIdeal.Gen Cert.InRefIdeal.Read

variable (x0 : (⟨S33024x2048, .f32⟩ : BufTy).Contents (Elt Ideal)) (x1 : (⟨S2048, .f32⟩ : BufTy).Contents (Elt Ideal))
variable (x2 : (⟨S4x2048x11264, .bf16⟩ : BufTy).Contents (Elt Ideal)) (x3 : (⟨S4x1x11264, .f32⟩ : BufTy).Contents (Elt Ideal))

/-- Packed column `j` of row `R`'s projection. -/
def refProj (R : Fin 33024) (j : Fin 11264) : EReal :=
  times (norm width (fun k => x0 (ix2 R k)) (fun k => x1 (ix1 k))) (fun k j => x2 (ix3 1 k j)) j

theorem ref_matrix (k : Fin 2048) (j : Fin 11264) : val_main_v15 x2 (ix2 k j) = x2 (ix3 1 k j) := by
  rw [val_main_v15_apply, val_main_v14_apply, val_main_v13_apply]
  exact congrArg x2 (place3 _ rfl (by show (k.val * 11264 + j.val) / 11264 % 2048 = k.val; omega) (by show (k.val * 11264 + j.val) % 11264 = j.val; omega))

theorem ref_square (R : Fin 33024) : val_main_v1 x0 (ix1 R) = ∑ k : Fin 2048, x0 (ix2 R k) * x0 (ix2 R k) := by
  rw [val_main_v1_apply, val_main_cst_apply]
  refine (congrArg (· + _) (Ideal.ofBits_zero .f32)).trans ((zero_add _).trans (Finset.sum_congr rfl fun k _ => ?_))
  rw [val_main_v0_apply]
  have e : idx_main_v1 (ix1 R) k = ix2 R k := place2 _ rfl rfl
  rw [e]; rfl

theorem ref_norm (R : Fin 33024) (k : Fin 2048) :
    val_main_v12 x0 x1 (ix2 R k) = norm width (fun k => x0 (ix2 R k)) (fun k => x1 (ix1 k)) k := by
  rw [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply,
    val_main_v2_apply]
  have e1 : idx_main_v2 (idx_main_v8 (ix2 R k)) = ix1 R := place1 _ rfl
  have e2 : idx_main_v10 (idx_main_v11 (ix2 R k)) = ix1 k := place1 _ rfl
  rw [e1, e2, ref_square]
  rfl

theorem ref_product (R : Fin 33024) (j : Fin 11264) : val_main_v16 x0 x1 x2 (ix2 R j) = refProj x0 x1 x2 R j := by
  rw [val_main_v16_apply]
  unfold refProj times
  refine Finset.sum_congr rfl fun k _ => ?_
  have e1 : lidx_main_v16 (ix2 R j) k = ix2 R k := place2 _ rfl rfl
  have e2 : ridx_main_v16 (ix2 R j) k = ix2 k j := place2 _ rfl rfl
  rw [e1, e2, ref_norm, ref_matrix]

/-- Two halves of 512 columns side by side: a column of the one or of the other. -/
theorem joined (x y : FVec Ideal S33024x512 .f32) (R : Fin 33024) (z : Fin 1024 → EReal)
    (hx : ∀ j : Fin 512, x (ix2 R j) = z ⟨j.val, by omega⟩) (hy : ∀ j : Fin 512, y (ix2 R j) = z ⟨512 + j.val, by omega⟩) (l : Fin 1024) :
    concatenate S33024x1024 1 [⟨S33024x512, x⟩, ⟨S33024x512, y⟩] concatenates_S33024x512_S33024x512_S33024x1024_d1 (ix2 R l) = z l := by
  by_cases h : l.val < 512
  · exact (concatenate_pair_apply_left (1 : Fin 2) x y _ (ix2 R l) rfl (ix2 R ⟨l.val, h⟩)
      (fun b => match b with | ⟨0, _⟩ => rfl | ⟨1, _⟩ => rfl)).trans (hx ⟨l.val, h⟩)
  · refine (concatenate_pair_apply_right (1 : Fin 2) x y _ (ix2 R l) rfl rfl (ix2 R (⟨l.val - 512, by omega⟩ : Fin 512))
      (fun b hb => match b, hb with | ⟨0, _⟩, _ => rfl | ⟨1, _⟩, hb => absurd rfl hb)
      (by show l.val - 512 + 512 = l.val; omega)).trans ((hy ⟨l.val - 512, by omega⟩).trans (congrArg z (Fin.ext ?_)))
    show 512 + (l.val - 512) = l.val; omega

/-- The reference's values and gates are the packed columns the kernel takes. -/
theorem ref_values (R : Fin 33024) (l : Fin 1024) : val_main_v22 x0 x1 x2 (ix2 R l) = refProj x0 x1 x2 R (valueColumn l) := by
  unfold val_main_v22
  refine joined _ _ R (fun l => refProj x0 x1 x2 R (valueColumn l)) (fun j => ?_) (fun j => ?_) l
  · rw [val_main_v20_apply, val_main_v17_apply, ← ref_product]
    exact congrArg _ (place2 _ rfl (by show j.val = j.val / 512 * 1024 + j.val % 512; omega))
  · rw [val_main_v21_apply, val_main_v17_apply, ← ref_product]
    exact congrArg _ (place2 _ rfl (by show 1024 + j.val = (512 + j.val) / 512 * 1024 + (512 + j.val) % 512; omega))

theorem ref_gates (R : Fin 33024) (l : Fin 1024) : val_main_v25 x0 x1 x2 (ix2 R l) = refProj x0 x1 x2 R (gateColumn l) := by
  unfold val_main_v25
  refine joined _ _ R (fun l => refProj x0 x1 x2 R (gateColumn l)) (fun j => ?_) (fun j => ?_) l
  · rw [val_main_v23_apply, val_main_v17_apply, ← ref_product]
    exact congrArg _ (place2 _ rfl (by show 512 + j.val = j.val / 512 * 1024 + (512 + j.val % 512); omega))
  · rw [val_main_v24_apply, val_main_v17_apply, ← ref_product]
    exact congrArg _ (place2 _ rfl (by show 1536 + j.val = (512 + j.val) / 512 * 1024 + (512 + (512 + j.val) % 512); omega))

theorem ref_logistic (i : S33024x1024.Idx) : val_main_v33 x0 x1 x2 i = Ideal.logistic (val_main_v25 x0 x1 x2 i) := by
  rw [val_main_v33_apply, val_main_v32_apply, val_main_cst_3_apply, val_main_v31_apply, val_main_v30_apply, val_main_cst_2_apply,
    val_main_v29_apply, val_main_v28_apply]
  exact logistic_quotient _

theorem ref_branch_logistic (i : S33024x6144.Idx) : val_main_v44 x0 x1 x2 x3 i = Ideal.logistic (val_main_v38 x0 x1 x2 x3 i) := by
  rw [val_main_v44_apply, val_main_v43_apply, val_main_cst_5_apply, val_main_v42_apply, val_main_v41_apply, val_main_cst_4_apply,
    val_main_v40_apply, val_main_v39_apply]
  exact logistic_quotient _

/-- The three results, entry by entry. -/
theorem ref_result4 (R : Fin 33024) (l : Fin 1024) : val_main_v35 x0 x1 x2 (ix2 R l)
    = refProj x0 x1 x2 R (valueColumn l) * Ideal.logistic (refProj x0 x1 x2 R (gateColumn l)) := by
  rw [val_main_v35_apply, val_main_v34_apply, ref_logistic, ref_values, ref_gates]
  rfl

theorem ref_result5 (R : Fin 33024) (l : Fin 6144) : val_main_v45 x0 x1 x2 x3 (ix2 R l)
    = Ideal.logistic (refProj x0 x1 x2 R (branchColumn l) + x3 (ix3 1 0 (branchColumn l))) := by
  rw [val_main_v45_apply, ref_branch_logistic, val_main_v38_apply, val_main_v18_apply, val_main_v37_apply, val_main_v36_apply,
    val_main_v27_apply, val_main_v26_apply, ← ref_product]
  have e1 : idx_main_v18 (ix2 R l) = ix2 R (branchColumn l) := place2 _ rfl rfl
  have e2 : idx_main_v26 (idx_main_v27 (idx_main_v36 (idx_main_v37 (ix2 R l)))) = ix3 1 0 (branchColumn l) :=
    place3 _ rfl rfl (by show 2048 + l.val % 6144 = 2048 + l.val; omega)
  rw [e1, e2]
  rfl

theorem ref_result6 (R : Fin 33024) (l : Fin 3072) : val_main_v46 x0 x1 x2 (ix2 R l) = refProj x0 x1 x2 R (restColumn l) := by
  rw [val_main_v46_apply, val_main_v19_apply, ← ref_product]
  exact congrArg (val_main_v16 x0 x1 x2) (place2 _ rfl rfl)

end Reference

variable (m : (ℓ : Loc Cert.In.nD Cert.In.τ Cert.In.sig) → Buf (Elt Ideal) ℓ) (c : Dev Cert.In.nD)

theorem equal4 : (data m 0 c).arrAt 4 Cert.In.cfg0.N = Cert.InRefIdeal.Read.val_main_v35 (argH m c) (argG m c) (argW m c) := by
  rw [final4]
  funext i
  rw [show i = ix2 (n0 := 33024) (n1 := 1024) (i 0) (i 1) from place2 (n0 := 33024) (n1 := 1024) i rfl rfl]
  exact (ref_result4 (argH m c) (argG m c) (argW m c) (i 0) (i 1)).symm

theorem equal5 : (data m 0 c).arrAt 5 Cert.In.cfg0.N = Cert.InRefIdeal.Read.val_main_v45 (argH m c) (argG m c) (argW m c) (argB m c) := by
  rw [final5]
  funext i
  rw [show i = ix2 (n0 := 33024) (n1 := 6144) (i 0) (i 1) from place2 (n0 := 33024) (n1 := 6144) i rfl rfl]
  exact (ref_result5 (argH m c) (argG m c) (argW m c) (argB m c) (i 0) (i 1)).symm

theorem equal6 : (data m 0 c).arrAt 6 Cert.In.cfg0.N = Cert.InRefIdeal.Read.val_main_v46 (argH m c) (argG m c) (argW m c) := by
  rw [final6]
  funext i
  rw [show i = ix2 (n0 := 33024) (n1 := 3072) (i 0) (i 1) from place2 (n0 := 33024) (n1 := 3072) i rfl rfl]
  exact (ref_result6 (argH m c) (argG m c) (argW m c) (i 0) (i 1)).symm

end InProj

end
-- ==== Proof.InTransfer.lean ====
/- The input projection's idealized program is the same text as the program itself, so a run of the one is a run of the other. -/
module

public import proofs.«01_k».proof.Proof.InFrame
public import proofs.«01_k».proof.Proof.Gen.InIdeal
public import Idealize.ShloMosaic.PureOps.Ideal

@[expose] public section

set_option maxRecDepth 16384

namespace InProj

open Idealize.ShloMosaic Idealize.ShloMosaic.TcCoe Idealize.SL.Sem

variable {F : FTy → Type} [FloatOps F]

theorem bodies_eq : @Cert.In.defs₀ F _ Cert.In.Gen.facts = @Cert.InIdeal.defs₀ F _ Cert.InIdeal.Gen.facts := by
  refine congrArg Defs.onTc (funext fun l => funext fun a => ?_)
  match l, a with
  | 0, (t, s) => rfl

theorem defs_eq : @Cert.In.defs F _ Cert.In.Gen.facts = @Cert.InIdeal.defs F _ Cert.InIdeal.Gen.facts :=
  congrArg (Pipeline.defs (Cert.In.pcfgs (F := F))) bodies_eq

/-- What every run of the program satisfies, every run of the idealized one does. -/
theorem run_transfer {S : MemSt Cert.In.nD Cert.In.τ Cert.In.sig (Elt F)} {Q : PUnit × MemSt Cert.In.nD Cert.In.τ Cert.In.sig (Elt F) → Prop}
    (h : θ_run (@Cert.In.defs F _ Cert.In.Gen.facts) (onTc (τ := Cert.In.τ) (Cert.In.main (F := F))) S Q) :
    θ_run (@Cert.InIdeal.defs F _ Cert.InIdeal.Gen.facts) (onTc (τ := Cert.InIdeal.τ) (Cert.InIdeal.main (F := F))) S Q := by
  rw [defs_eq] at h
  exact h

/-- Every run leaves the arguments as they were and the counters at zero; -/
theorem frame (m : (ℓ : Loc Cert.In.nD Cert.In.τ Cert.In.sig) → Buf (Elt F) ℓ) (g : Dev Cert.In.nD → PrngReg) :
    θ_run (@Cert.In.defs F _ Cert.In.Gen.facts) (onTc (τ := Cert.In.τ) (Cert.In.main (F := F))) ⟨m, fun _ => 0, g⟩ fun r =>
      (∀ c : Dev Cert.In.nD,
        r.2.mem ((c.tc : Thread Cert.In.nD Cert.In.τ).loc Cert.In.main_arg0) = m ((c.tc : Thread Cert.In.nD Cert.In.τ).loc Cert.In.main_arg0)
        ∧ r.2.mem ((c.tc : Thread Cert.In.nD Cert.In.τ).loc Cert.In.main_arg1) = m ((c.tc : Thread Cert.In.nD Cert.In.τ).loc Cert.In.main_arg1)
        ∧ r.2.mem ((c.tc : Thread Cert.In.nD Cert.In.τ).loc Cert.In.main_arg2) = m ((c.tc : Thread Cert.In.nD Cert.In.τ).loc Cert.In.main_arg2)
        ∧ r.2.mem ((c.tc : Thread Cert.In.nD Cert.In.τ).loc Cert.In.main_arg3) = m ((c.tc : Thread Cert.In.nD Cert.In.τ).loc Cert.In.main_arg3))
      ∧ r.2.sem = fun _ => 0 :=
  (θ_run _ _ _).mono (fun r h => ⟨fun c => (h.1 c).2.2.2, h.2⟩) (run_results m g)

/-- and every run of the idealized program leaves the arrays the region's blocks make up. -/
theorem run_ideal (m : (ℓ : Loc Cert.InIdeal.nD Cert.InIdeal.τ Cert.InIdeal.sig) → Buf (Elt Ideal) ℓ) (g : Dev Cert.InIdeal.nD → PrngReg) :
    θ_run (@Cert.InIdeal.defs Ideal _ Cert.InIdeal.Gen.facts) (onTc (τ := Cert.InIdeal.τ) (Cert.InIdeal.main (F := Ideal))) ⟨m, fun _ => 0, g⟩ fun r =>
      ∀ c : Dev Cert.InIdeal.nD,
      r.2.mem ((c.tc : Thread Cert.InIdeal.nD Cert.InIdeal.τ).loc Cert.InIdeal.main_v1_0) = (data (F := Ideal) m 0 c).arrAt 4 Cert.In.cfg0.N
      ∧ r.2.mem ((c.tc : Thread Cert.InIdeal.nD Cert.InIdeal.τ).loc Cert.InIdeal.main_v1_1) = (data (F := Ideal) m 0 c).arrAt 5 Cert.In.cfg0.N
      ∧ r.2.mem ((c.tc : Thread Cert.InIdeal.nD Cert.InIdeal.τ).loc Cert.InIdeal.main_v1_2) = (data (F := Ideal) m 0 c).arrAt 6 Cert.In.cfg0.N
      ∧ r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3) :=
  run_transfer ((θ_run _ _ _).mono (fun r h => h.1) (run_results (F := Ideal) m g))

end InProj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_padded
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InRefIdeal
public import proofs.«01_k».proof.Proof.Gen.InRefIdeal.Run
public import proofs.«01_k».proof.Proof.Gen.InRefIdeal.Read
public import proofs.«01_k».proof.Proof.MlaEqual
public import proofs.«01_k».proof.Proof.FfnEqual
public import proofs.«01_k».proof.Proof.MergeEqual
public import proofs.«01_k».proof.Proof.UpEqual
public import proofs.«01_k».proof.Proof.NormEqual
public import proofs.«01_k».proof.Proof.InEqual
public import proofs.«01_k».proof.Proof.InTransfer
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Ffn.Gen.facts Cert.FfnIdeal.Gen.facts Cert.FfnRefIdeal.Gen.facts Cert.Merge.Gen.facts Cert.MergeIdeal.Gen.facts Cert.MergeRefIdeal.Gen.facts Cert.Up.Gen.facts Cert.UpIdeal.Gen.facts Cert.UpRefIdeal.Gen.facts Cert.Norm.Gen.facts Cert.NormIdeal.Gen.facts Cert.NormRefIdeal.Gen.facts Cert.In.Gen.facts Cert.InIdeal.Gen.facts Cert.InRefIdeal.Gen.facts Cert.Pre_finite_padded.Gen.facts

/-- The reference's result is the kernel's. -/
theorem mla_algebraic : Cert.algebraic_KernelIdeal_ReferenceIdeal_pre_finite_padded := by
  pair_intro
  · run_from Cert.KernelIdeal.Value.run m g
  · run_from Cert.ReferenceIdeal.Value.run m' g'
    rw [Cert.ReferenceIdeal.Read.val_main_v161_eq]
    rw [(hagree c).1, (hagree c).2.1, (hagree c).2.2]
    exact (Mla.equal m c (hpre c)).symm

/-- The reference keeps its arguments, and has no semaphore to leave raised. -/
theorem reference_rests : Cert.quiescent_ReferenceIdeal := fun m g _ =>
  (θ_run _ _ _).mono (fun r h => ⟨fun c => (h c).2, sem_eq_zero_of_no_sems (by decide) r.2⟩) (Cert.ReferenceIdeal.Value.run m g)

/-- The feed-forward half. -/
theorem ffn_algebraic : Cert.algebraic_FfnIdeal_FfnRefIdeal := by
  pair_intro
  · run_from Cert.FfnIdeal.Value.run m g
  · run_from Cert.FfnRefIdeal.Value.run m' g'
    rw [Cert.FfnRefIdeal.Read.val_main_v27_eq]
    exact (Ffn.equal m c).symm

/-- The merge. -/
theorem merge_algebraic : Cert.algebraic_MergeIdeal_MergeRefIdeal := by
  pair_intro
  · run_from Cert.MergeIdeal.Value.run_blocks m g
  · run_from Cert.MergeRefIdeal.Value.run m' g'
    rw [Cert.MergeRefIdeal.Read.val_main_v55_eq]
    obtain ⟨h0, h1, h2, h3, h4, h5, h6, h7, h8, h9, h10⟩ := hagree c
    rw [h0, h1, h2, h3, h4, h5, h6, h7, h8, h9, h10]
    exact (Merge.equal m c).symm

/-- The final norm. -/
theorem norm_algebraic : Cert.algebraic_NormIdeal_NormRefIdeal := by
  pair_intro
  · run_from Cert.NormIdeal.Value.run_blocks m g
  · run_from Cert.NormRefIdeal.Value.run m' g'
    rw [Cert.NormRefIdeal.Read.val_main_v14_eq]
    exact (Final.equal m c).symm

/-- The latent up-projections. -/
theorem up_algebraic : Cert.algebraic_UpIdeal_UpRefIdeal := by
  pair_intro
  · run_from Cert.UpIdeal.Value.run_blocks m g
  · run_from Cert.UpRefIdeal.Value.run m' g'
    · exact (Cert.UpRefIdeal.Read.val_main_v38_eq _ _ _).trans (Up.equalQ m c).symm
    · exact (Cert.UpRefIdeal.Read.val_main_v39_eq _ _ _).trans (Up.equalKV m c).symm

/-- The input projection. -/
theorem in_algebraic : Cert.algebraic_InIdeal_InRefIdeal := by
  pair_intro
  · run_from InProj.run_ideal m g
  · run_from Cert.InRefIdeal.Value.run m' g'
    · rw [Cert.InRefIdeal.Read.val_main_v35_eq, (hagree c).1, (hagree c).2.1, (hagree c).2.2.1]
      exact (InProj.equal4 m c).symm
    · exact (Cert.InRefIdeal.Read.val_main_v45_eq _ _ _ _).trans (InProj.equal5 m c).symm
    · exact (Cert.InRefIdeal.Read.val_main_v46_eq _ _ _).trans (InProj.equal6 m c).symm

/-- This reference keeps its arguments, and has no semaphore to leave raised. -/
theorem ffn_rests : Cert.quiescent_FfnRefIdeal := fun m g _ =>
  (θ_run _ _ _).mono (fun r h => ⟨fun c => (h c).2, sem_eq_zero_of_no_sems (by decide) r.2⟩) (Cert.FfnRefIdeal.Value.run m g)

/-- This reference keeps its arguments, and has no semaphore to leave raised. -/
theorem merge_rests : Cert.quiescent_MergeRefIdeal := fun m g _ =>
  (θ_run _ _ _).mono (fun r h => ⟨fun c => (h c).2, sem_eq_zero_of_no_sems (by decide) r.2⟩) (Cert.MergeRefIdeal.Value.run m g)

/-- This reference keeps its arguments, and has no semaphore to leave raised. -/
theorem up_rests : Cert.quiescent_UpRefIdeal := fun m g _ =>
  (θ_run _ _ _).mono (fun r h => ⟨fun c => (h c).2.2, sem_eq_zero_of_no_sems (by decide) r.2⟩) (Cert.UpRefIdeal.Value.run m g)

/-- This reference keeps its arguments, and has no semaphore to leave raised. -/
theorem norm_rests : Cert.quiescent_NormRefIdeal := fun m g _ =>
  (θ_run _ _ _).mono (fun r h => ⟨fun c => (h c).2, sem_eq_zero_of_no_sems (by decide) r.2⟩) (Cert.NormRefIdeal.Value.run m g)

/-- This reference keeps its arguments, and has no semaphore to leave raised. -/
theorem in_rests : Cert.quiescent_InRefIdeal := fun m g _ =>
  (θ_run _ _ _).mono (fun r h => ⟨fun c => (h c).2.2.2, sem_eq_zero_of_no_sems (by decide) r.2⟩) (Cert.InRefIdeal.Value.run m g)

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.Up.Gen.facts, Cert.UpIdeal.Gen.facts, Cert.UpRefIdeal.Gen.facts, Cert.Norm.Gen.facts, Cert.NormIdeal.Gen.facts, Cert.NormRefIdeal.Gen.facts, Cert.In.Gen.facts, Cert.InIdeal.Gen.facts, Cert.InRefIdeal.Gen.facts, Cert.Pre_finite_padded.Gen.facts,
  fun m g _ => Cert.Kernel.Gen.frame m g,
  fun m g _ => Cert.KernelIdeal.Gen.frame m g,
  fun m g _ => Cert.KernelIdeal.Gen.frame m g,
  reference_rests,
  fun m g _ => reference_rests m g (by trivial),
  fun m g _ => Cert.Ffn.Gen.frame m g,
  fun m g _ => Cert.FfnIdeal.Gen.frame m g,
  ffn_rests,
  fun m g _ => Cert.Merge.Gen.frame m g,
  fun m g _ => Cert.MergeIdeal.Gen.frame m g,
  merge_rests,
  fun m g _ => Cert.Up.Gen.frame m g,
  fun m g _ => Cert.UpIdeal.Gen.frame m g,
  up_rests,
  fun m g _ => Cert.Norm.Gen.frame m g,
  fun m g _ => Cert.NormIdeal.Gen.frame m g,
  norm_rests,
  fun m g _ => InProj.frame m g,
  fun m g _ => InProj.run_transfer (InProj.frame m g),
  in_rests,
  ⟨IdealRules.named_const.statement _ _ _ _ _ rfl, IdealRules.named_const.statement _ _ _ _ _ rfl⟩,
  mla_algebraic,
  trivial, ffn_algebraic,
  trivial, merge_algebraic,
  trivial, up_algebraic,
  trivial, norm_algebraic,
  trivial, in_algebraic⟩

end Cert.Proof

end
